-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_chosen : Cert.Pre_chosen.Facts] (m : (ℓ : Loc Cert.Kernel2.nD Cert.Kernel2.τ Cert.Kernel2.sig) → Buf (Elt Bits) ℓ) : Prop :=
  ∀ c : Dev Cert.Kernel2.nD,
    (Cert.Pre_chosen.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_chosen : Cert.Pre_chosen.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_chosen.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_chosen [hPre_chosen : Cert.Pre_chosen.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_chosen.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_chosen : Cert.Pre_chosen.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_chosen : Cert.Pre_chosen.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_chosen [hReference2Ideal : Cert.Reference2Ideal.Facts] [hPre_chosen : Cert.Pre_chosen.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_chosen m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_chosen : Cert.Pre_chosen.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_qk : Cert.Pre_finite_qk.Facts) (hPre_chosen : Cert.Pre_chosen.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_chosen := hPre_chosen)
    ∧ quiescent_Kernel2Ideal (hKernel2Ideal := hKernel2Ideal) (hPre_chosen := hPre_chosen)
    ∧ quiescent_Reference2Ideal (hReference2Ideal := hReference2Ideal)
    ∧ quiescent_Reference2Ideal_pre_chosen (hReference2Ideal := hReference2Ideal) (hPre_chosen := hPre_chosen)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal) (hPre_chosen := hPre_chosen)
-- ==== Pre_chosen.lean ====
abbrev S16x16x256 : Shape := ⟨3, ![16, 16, 256]⟩
abbrev S16x2048x512 : Shape := ⟨3, ![16, 2048, 512]⟩
abbrev S16x1024x1024 : Shape := ⟨3, ![16, 1024, 1024]⟩
abbrev S_ : Shape := ⟨0, ![]⟩

class Facts : Prop where
  bcast_S_S16x16x256 : S_.BroadcastsInDim S16x16x256 (![] : Fin 0 → Fin S16x16x256.rank)
  reducesTo_S16x16x256_S_d0_1_2 : S16x16x256.ReducesTo [0, 1, 2] S_
  h_S_ : 0 < S_.numel

variable [Facts]

def fn {F : FTy → Type} [FloatOps F] (main_arg0 : IVec S16x16x256 32) (main_arg1 : IVec S16x2048x512 32) (main_arg2 : FVec F S16x1024x1024 .f32) (main_arg3 : FVec F S16x1024x1024 .f32) (main_arg4 : FVec F S16x1024x1024 .f32) : IVec S_ 1 :=
  let main_c : IVec S_ 32 := constantI S_ 32 0#32
  let main_v0 : IVec S16x16x256 32 := broadcastInDim S16x16x256 ![] bcast_S_S16x16x256 main_c
  let main_v1 : IVec S16x16x256 1 := cmpi .sge main_arg0 main_v0
  let main_c_0 : IVec S_ 1 := constantI S_ 1 1#1
  let main_v2 : IVec S_ 1 := (fun x v => Host.reduce IntOp.andi x v reducesTo_S16x16x256_S_d0_1_2 h_S_) main_v1 main_c_0
  let main_c_1 : IVec S_ 32 := constantI S_ 32 2048#32
  let main_v3 : IVec S16x16x256 32 := broadcastInDim S16x16x256 ![] bcast_S_S16x16x256 main_c_1
  let main_v4 : IVec S16x16x256 1 := cmpi .slt main_arg0 main_v3
  let main_c_2 : IVec S_ 1 := constantI S_ 1 1#1
  let main_v5 : IVec S_ 1 := (fun x v => Host.reduce IntOp.andi x v reducesTo_S16x16x256_S_d0_1_2 h_S_) main_v4 main_c_2
  let main_v6 : IVec S_ 1 := andi main_v2 main_v5
  main_v6
-- ==== Pre_finite_qk.lean ====
abbrev S16x2048x512 : Shape := ⟨3, ![16, 2048, 512]⟩
abbrev S16x2048x128 : Shape := ⟨3, ![16, 2048, 128]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_

variable [Facts]

def fn {F : FTy → Type} [FloatOps F] (main_arg0 : FVec F S16x2048x512 .f32) (main_arg1 : FVec F S16x2048x128 .f32) (main_arg2 : FVec F S16x2048x128 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  main_v8
-- ==== Kernel.lean ====
abbrev S16x2048x512 : Shape := ⟨3, ![16, 2048, 512]⟩
abbrev S16x2048x128 : Shape := ⟨3, ![16, 2048, 128]⟩
abbrev S_ : Shape := ⟨0, ![]⟩
abbrev S1x1x1x128 : Shape := ⟨4, ![1, 1, 1, 128]⟩
abbrev S16x2048x4x128 : Shape := ⟨4, ![16, 2048, 4, 128]⟩
abbrev S16x4x2048x128 : Shape := ⟨4, ![16, 4, 2048, 128]⟩
abbrev S16x4x1x2048x128 : Shape := ⟨5, ![16, 4, 1, 2048, 128]⟩
abbrev S16x4x2x2048x128 : Shape := ⟨5, ![16, 4, 2, 2048, 128]⟩
abbrev S16x8x2048x128 : Shape := ⟨4, ![16, 8, 2048, 128]⟩
abbrev S1x1x128 : Shape := ⟨3, ![1, 1, 128]⟩
abbrev S16x2048x64 : Shape := ⟨3, ![16, 2048, 64]⟩
abbrev S16x1x2048x128 : Shape := ⟨4, ![16, 1, 2048, 128]⟩
abbrev S16x2x2048x128 : Shape := ⟨4, ![16, 2, 2048, 128]⟩
abbrev S1x8x2048x128 : Shape := ⟨4, ![1, 8, 2048, 128]⟩
abbrev S1x2x2048x128 : Shape := ⟨4, ![1, 2, 2048, 128]⟩
abbrev S1x4x2048x128 : Shape := ⟨4, ![1, 4, 2048, 128]⟩
abbrev S1024x2048 : Shape := ⟨2, ![1024, 2048]⟩
abbrev S1024x128 : Shape := ⟨2, ![1024, 128]⟩
abbrev S1x1x512x128 : Shape := ⟨4, ![1, 1, 512, 128]⟩
abbrev S512x128 : Shape := ⟨2, ![512, 128]⟩
abbrev S1x1x256x128 : Shape := ⟨4, ![1, 1, 256, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S256x256 : Shape := ⟨2, ![256, 256]⟩

abbrev nBuf : Space → Nat
  | .hbm => 54
  | .vmem => 14
  | .smem => 0
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1x1x128, .i32⟩
  | .hbm, ⟨8, _⟩ => ⟨S_, .i32⟩
  | .hbm, ⟨9, _⟩ => ⟨S1x1x1x128, .i32⟩
  | .hbm, ⟨10, _⟩ => ⟨S1x1x1x128, .i1⟩
  | .hbm, ⟨11, _⟩ => ⟨S16x2048x4x128, .f32⟩
  | .hbm, ⟨12, _⟩ => ⟨S16x4x2048x128, .f32⟩
  | .hbm, ⟨13, _⟩ => ⟨S16x4x2048x128, .f32⟩
  | .hbm, ⟨14, _⟩ => ⟨S16x4x2048x128, .f32⟩
  | .hbm, ⟨15, _⟩ => ⟨S_, .f32⟩
  | .hbm, ⟨16, _⟩ => ⟨S_, .f32⟩
  | .hbm, ⟨17, _⟩ => ⟨S16x4x2048x128, .i1⟩
  | .hbm, ⟨18, _⟩ => ⟨S16x4x2048x128, .f32⟩
  | .hbm, ⟨19, _⟩ => ⟨S16x4x2048x128, .f32⟩
  | .hbm, ⟨20, _⟩ => ⟨S_, .f32⟩
  | .hbm, ⟨21, _⟩ => ⟨S_, .f32⟩
  | .hbm, ⟨22, _⟩ => ⟨S16x4x2048x128, .i1⟩
  | .hbm, ⟨23, _⟩ => ⟨S16x4x2048x128, .f32⟩
  | .hbm, ⟨24, _⟩ => ⟨S16x4x2048x128, .f32⟩
  | .hbm, ⟨25, _⟩ => ⟨S16x4x1x2048x128, .f32⟩
  | .hbm, ⟨26, _⟩ => ⟨S16x4x1x2048x128, .f32⟩
  | .hbm, ⟨27, _⟩ => ⟨S16x4x2x2048x128, .f32⟩
  | .hbm, ⟨28, _⟩ => ⟨S16x8x2048x128, .f32⟩
  | .hbm, ⟨29, _⟩ => ⟨S16x8x2048x128, .bf16⟩
  | .hbm, ⟨30, _⟩ => ⟨S1x1x128, .i1⟩
  | .hbm, ⟨31, _⟩ => ⟨S16x2048x64, .f32⟩
  | .hbm, ⟨32, _⟩ => ⟨S16x2048x64, .f32⟩
  | .hbm, ⟨33, _⟩ => ⟨S16x2048x128, .f32⟩
  | .hbm, ⟨34, _⟩ => ⟨S16x2048x128, .i1⟩
  | .hbm, ⟨35, _⟩ => ⟨S16x2048x128, .f32⟩
  | .hbm, ⟨36, _⟩ => ⟨S16x2048x128, .i1⟩
  | .hbm, ⟨37, _⟩ => ⟨S16x2048x128, .f32⟩
  | .hbm, ⟨38, _⟩ => ⟨S16x1x2048x128, .f32⟩
  | .hbm, ⟨39, _⟩ => ⟨S16x1x2048x128, .f32⟩
  | .hbm, ⟨40, _⟩ => ⟨S16x2x2048x128, .f32⟩
  | .hbm, ⟨41, _⟩ => ⟨S16x2x2048x128, .bf16⟩
  | .hbm, ⟨42, _⟩ => ⟨S16x2048x64, .f32⟩
  | .hbm, ⟨43, _⟩ => ⟨S16x2048x64, .f32⟩
  | .hbm, ⟨44, _⟩ => ⟨S16x2048x128, .f32⟩
  | .hbm, ⟨45, _⟩ => ⟨S16x2048x128, .i1⟩
  | .hbm, ⟨46, _⟩ => ⟨S16x2048x128, .f32⟩
  | .hbm, ⟨47, _⟩ => ⟨S16x2048x128, .i1⟩
  | .hbm, ⟨48, _⟩ => ⟨S16x2048x128, .f32⟩
  | .hbm, ⟨49, _⟩ => ⟨S16x1x2048x128, .f32⟩
  | .hbm, ⟨50, _⟩ => ⟨S16x1x2048x128, .f32⟩
  | .hbm, ⟨51, _⟩ => ⟨S16x2x2048x128, .f32⟩
  | .hbm, ⟨52, _⟩ => ⟨S16x2x2048x128, .bf16⟩
  | .hbm, ⟨53, _⟩ => ⟨S16x4x2048x128, .f32⟩
  | .local _ .vmem, ⟨0, _⟩ => ⟨S1x8x2048x128, .bf16⟩
  | .local _ .vmem, ⟨1, _⟩ => ⟨S1x8x2048x128, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x2x2048x128, .bf16⟩
  | .local _ .vmem, ⟨5, _⟩ => ⟨S1x2x2048x128, .bf16⟩
  | .local _ .vmem, ⟨6, _⟩ => ⟨S1x4x2048x128, .f32⟩
  | .local _ .vmem, ⟨7, _⟩ => ⟨S1x4x2048x128, .f32⟩
  | .local _ .vmem, ⟨8, _⟩ => ⟨S1024x2048, .f32⟩
  | .local _ .vmem, ⟨9, _⟩ => ⟨S1024x2048, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1024x2048, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_v0 : Ref sig .tc := ⟨.hbm, 31, rfl⟩
abbrev main_call2_v1 : Ref sig .tc := ⟨.hbm, 32, rfl⟩
abbrev main_v17 : Ref sig .tc := ⟨.hbm, 33, rfl⟩
abbrev main_call3_v0 : Ref sig .tc := ⟨.hbm, 34, rfl⟩
abbrev main_v18 : Ref sig .tc := ⟨.hbm, 35, rfl⟩
abbrev main_call4_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call5_v0 : Ref sig .tc := ⟨.hbm, 42, rfl⟩
abbrev main_call5_v1 : Ref sig .tc := ⟨.hbm, 43, rfl⟩
abbrev main_v24 : Ref sig .tc := ⟨.hbm, 44, rfl⟩
abbrev main_call6_v0 : Ref sig .tc := ⟨.hbm, 45, rfl⟩
abbrev main_v25 : Ref sig .tc := ⟨.hbm, 46, rfl⟩
abbrev main_call7_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c7_i32 : BitVec 32 := 7#32
  let v295 : BitVec 32 := Scalar.addi c0_i32 c7_i32
  let c1_i32 : BitVec 32 := 1#32
  ⟨c0_i32, v295, c1_i32⟩
def k0_mult1 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c0_i32_374 : BitVec 32 := 0#32
  let v537 : BitVec 1 := Scalar.cmpi .sgt v534 c0_i32_374
  let v538 : BitVec 32 := Scalar.extui v537
  let c0_i32_375 : BitVec 32 := 0#32
  let v539 : BitVec 1 := Scalar.cmpi .slt v534 c0_i32_375
  let v540 : BitVec 32 := Scalar.extui v539
  let v541 : BitVec 32 := Scalar.subi v538 v540
  let c4_i32 : BitVec 32 := 4#32
  let c0_i32_376 : BitVec 32 := 0#32
  let v542 : BitVec 1 := Scalar.cmpi .sgt c4_i32 c0_i32_376
  let v543 : BitVec 32 := Scalar.extui v542
  let c0_i32_377 : BitVec 32 := 0#32
  let v544 : BitVec 1 := Scalar.cmpi .slt c4_i32 c0_i32_377
  let v545 : BitVec 32 := Scalar.extui v544
  let v546 : BitVec 32 := Scalar.subi v543 v545
  let v547 : BitVec 1 := Scalar.cmpi .ne v541 v546
  let v548 : BitVec 32 := Scalar.remsi v534 c4_i32
  let c0_i32_378 : BitVec 32 := 0#32
  let v549 : BitVec 1 := Scalar.cmpi .ne v548 c0_i32_378
  let v550 : BitVec 1 := Scalar.andi v547 v549
  let v536 : BitVec 32 := Scalar.divsi v534 c4_i32
  let c1_i32_379 : BitVec 32 := 1#32
  let v551 : BitVec 32 := Scalar.subi v536 c1_i32_379
  let v552 : BitVec 32 := Scalar.select v550 v551 v536
  let c512_i32 : BitVec 32 := 512#32
  let v563 : BitVec 32 := Scalar.muli v552 c512_i32
  v563
def k0_off1 (k0_t1 : Fin k0_t1_loop.trips) : Fin 4 → Nat :=
  let c0_394 : Index := 0#32
  let c2_i32_393 : BitVec 32 := 2#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let v582 : BitVec 32 := Scalar.muli c2_i32_393 v562
  let v583 : Index := Scalar.indexCast v582
  let c0_i32_374 : BitVec 32 := 0#32
  let v537 : BitVec 1 := Scalar.cmpi .sgt v534 c0_i32_374
  let v538 : BitVec 32 := Scalar.extui v537
  let c0_i32_375 : BitVec 32 := 0#32
  let v539 : BitVec 1 := Scalar.cmpi .slt v534 c0_i32_375
  let v540 : BitVec 32 := Scalar.extui v539
  let v541 : BitVec 32 := Scalar.subi v538 v540
  let c4_i32 : BitVec 32 := 4#32
  let c0_i32_376 : BitVec 32 := 0#32
  let v542 : BitVec 1 := Scalar.cmpi .sgt c4_i32 c0_i32_376
  let v543 : BitVec 32 := Scalar.extui v542
  let c0_i32_377 : BitVec 32 := 0#32
  let v544 : BitVec 1 := Scalar.cmpi .slt c4_i32 c0_i32_377
  let v545 : BitVec 32 := Scalar.extui v544
  let v546 : BitVec 32 := Scalar.subi v543 v545
  let v547 : BitVec 1 := Scalar.cmpi .ne v541 v546
  let v548 : BitVec 32 := Scalar.remsi v534 c4_i32
  let c0_i32_378 : BitVec 32 := 0#32
  let v549 : BitVec 1 := Scalar.cmpi .ne v548 c0_i32_378
  let v550 : BitVec 1 := Scalar.andi v547 v549
  let v536 : BitVec 32 := Scalar.divsi v534 c4_i32
  let c1_i32_379 : BitVec 32 := 1#32
  let v551 : BitVec 32 := Scalar.subi v536 c1_i32_379
  let v552 : BitVec 32 := Scalar.select v550 v551 v536
  let c512_i32 : BitVec 32 := 512#32
  let v563 : BitVec 32 := Scalar.muli v552 c512_i32
  let v564 : BitVec 32 := v563
  let v584 : Index := Scalar.indexCast v564
  let c0_395 : Index := 0#32
  ![0, v583.toNat, v584.toNat, 0]
def k0_off2 (k0_t1 : Fin k0_t1_loop.trips) : Fin 4 → Nat :=
  let c0_398 : Index := 0#32
  let c2_i32_396 : BitVec 32 := 2#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let v587 : BitVec 32 := Scalar.muli c2_i32_396 v562
  let c1_i32_397 : BitVec 32 := 1#32
  let v588 : BitVec 32 := Scalar.addi v587 c1_i32_397
  let v589 : Index := Scalar.indexCast v588
  let c0_i32_374 : BitVec 32 := 0#32
  let v537 : BitVec 1 := Scalar.cmpi .sgt v534 c0_i32_374
  let v538 : BitVec 32 := Scalar.extui v537
  let c0_i32_375 : BitVec 32 := 0#32
  let v539 : BitVec 1 := Scalar.cmpi .slt v534 c0_i32_375
  let v540 : BitVec 32 := Scalar.extui v539
  let v541 : BitVec 32 := Scalar.subi v538 v540
  let c4_i32 : BitVec 32 := 4#32
  let c0_i32_376 : BitVec 32 := 0#32
  let v542 : BitVec 1 := Scalar.cmpi .sgt c4_i32 c0_i32_376
  let v543 : BitVec 32 := Scalar.extui v542
  let c0_i32_377 : BitVec 32 := 0#32
  let v544 : BitVec 1 := Scalar.cmpi .slt c4_i32 c0_i32_377
  let v545 : BitVec 32 := Scalar.extui v544
  let v546 : BitVec 32 := Scalar.subi v543 v545
  let v547 : BitVec 1 := Scalar.cmpi .ne v541 v546
  let v548 : BitVec 32 := Scalar.remsi v534 c4_i32
  let c0_i32_378 : BitVec 32 := 0#32
  let v549 : BitVec 1 := Scalar.cmpi .ne v548 c0_i32_378
  let v550 : BitVec 1 := Scalar.andi v547 v549
  let v536 : BitVec 32 := Scalar.divsi v534 c4_i32
  let c1_i32_379 : BitVec 32 := 1#32
  let v551 : BitVec 32 := Scalar.subi v536 c1_i32_379
  let v552 : BitVec 32 := Scalar.select v550 v551 v536
  let c512_i32 : BitVec 32 := 512#32
  let v563 : BitVec 32 := Scalar.muli v552 c512_i32
  let v564 : BitVec 32 := v563
  let v590 : Index := Scalar.indexCast v564
  let c0_399 : Index := 0#32
  ![0, v589.toNat, v590.toNat, 0]
def k0_mult2 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c0_i32_403 : BitVec 32 := 0#32
  let v596 : BitVec 1 := Scalar.cmpi .sgt v535 c0_i32_403
  let v597 : BitVec 32 := Scalar.extui v596
  let c0_i32_404 : BitVec 32 := 0#32
  let v598 : BitVec 1 := Scalar.cmpi .slt v535 c0_i32_404
  let v599 : BitVec 32 := Scalar.extui v598
  let v600 : BitVec 32 := Scalar.subi v597 v599
  let c4_i32_402 : BitVec 32 := 4#32
  let c0_i32_405 : BitVec 32 := 0#32
  let v601 : BitVec 1 := Scalar.cmpi .sgt c4_i32_402 c0_i32_405
  let v602 : BitVec 32 := Scalar.extui v601
  let c0_i32_406 : BitVec 32 := 0#32
  let v603 : BitVec 1 := Scalar.cmpi .slt c4_i32_402 c0_i32_406
  let v604 : BitVec 32 := Scalar.extui v603
  let v605 : BitVec 32 := Scalar.subi v602 v604
  let v606 : BitVec 1 := Scalar.cmpi .ne v600 v605
  let v607 : BitVec 32 := Scalar.remsi v535 c4_i32_402
  let c0_i32_407 : BitVec 32 := 0#32
  let v608 : BitVec 1 := Scalar.cmpi .ne v607 c0_i32_407
  let v609 : BitVec 1 := Scalar.andi v606 v608
  let v595 : BitVec 32 := Scalar.divsi v535 c4_i32_402
  let c1_i32_408 : BitVec 32 := 1#32
  let v610 : BitVec 32 := Scalar.subi v595 c1_i32_408
  let v611 : BitVec 32 := Scalar.select v609 v610 v595
  let c512_i32_415 : BitVec 32 := 512#32
  let v622 : BitVec 32 := Scalar.muli v611 c512_i32_415
  v622
def k0_off3 (k0_t1 : Fin k0_t1_loop.trips) : Fin 4 → Nat :=
  let c0_424 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let c0_i32_387 : BitVec 32 := 0#32
  let v566 : BitVec 1 := Scalar.cmpi .sgt v562 c0_i32_387
  let v567 : BitVec 32 := Scalar.extui v566
  let c0_i32_388 : BitVec 32 := 0#32
  let v568 : BitVec 1 := Scalar.cmpi .slt v562 c0_i32_388
  let v569 : BitVec 32 := Scalar.extui v568
  let v570 : BitVec 32 := Scalar.subi v567 v569
  let c2_i32_386 : BitVec 32 := 2#32
  let c0_i32_389 : BitVec 32 := 0#32
  let v571 : BitVec 1 := Scalar.cmpi .sgt c2_i32_386 c0_i32_389
  let v572 : BitVec 32 := Scalar.extui v571
  let c0_i32_390 : BitVec 32 := 0#32
  let v573 : BitVec 1 := Scalar.cmpi .slt c2_i32_386 c0_i32_390
  let v574 : BitVec 32 := Scalar.extui v573
  let v575 : BitVec 32 := Scalar.subi v572 v574
  let v576 : BitVec 1 := Scalar.cmpi .ne v570 v575
  let v577 : BitVec 32 := Scalar.remsi v562 c2_i32_386
  let c0_i32_391 : BitVec 32 := 0#32
  let v578 : BitVec 1 := Scalar.cmpi .ne v577 c0_i32_391
  let v579 : BitVec 1 := Scalar.andi v576 v578
  let v565 : BitVec 32 := Scalar.divsi v562 c2_i32_386
  let c1_i32_392 : BitVec 32 := 1#32
  let v580 : BitVec 32 := Scalar.subi v565 c1_i32_392
  let v581 : BitVec 32 := Scalar.select v579 v580 v565
  let v642 : Index := Scalar.indexCast v581
  let c0_425 : Index := 0#32
  let c0_426 : Index := 0#32
  ![0, v642.toNat, 0, 0]
def k0_off4 (k0_t1 : Fin k0_t1_loop.trips) : Fin 4 → Nat :=
  let c0_438 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let c0_i32_417 : BitVec 32 := 0#32
  let v625 : BitVec 1 := Scalar.cmpi .sgt v621 c0_i32_417
  let v626 : BitVec 32 := Scalar.extui v625
  let c0_i32_418 : BitVec 32 := 0#32
  let v627 : BitVec 1 := Scalar.cmpi .slt v621 c0_i32_418
  let v628 : BitVec 32 := Scalar.extui v627
  let v629 : BitVec 32 := Scalar.subi v626 v628
  let c2_i32_416 : BitVec 32 := 2#32
  let c0_i32_419 : BitVec 32 := 0#32
  let v630 : BitVec 1 := Scalar.cmpi .sgt c2_i32_416 c0_i32_419
  let v631 : BitVec 32 := Scalar.extui v630
  let c0_i32_420 : BitVec 32 := 0#32
  let v632 : BitVec 1 := Scalar.cmpi .slt c2_i32_416 c0_i32_420
  let v633 : BitVec 32 := Scalar.extui v632
  let v634 : BitVec 32 := Scalar.subi v631 v633
  let v635 : BitVec 1 := Scalar.cmpi .ne v629 v634
  let v636 : BitVec 32 := Scalar.remsi v621 c2_i32_416
  let c0_i32_421 : BitVec 32 := 0#32
  let v637 : BitVec 1 := Scalar.cmpi .ne v636 c0_i32_421
  let v638 : BitVec 1 := Scalar.andi v635 v637
  let v624 : BitVec 32 := Scalar.divsi v621 c2_i32_416
  let c1_i32_422 : BitVec 32 := 1#32
  let v639 : BitVec 32 := Scalar.subi v624 c1_i32_422
  let v640 : BitVec 32 := Scalar.select v638 v639 v624
  let v666 : Index := Scalar.indexCast v640
  let c0_439 : Index := 0#32
  let c0_440 : Index := 0#32
  ![0, v666.toNat, 0, 0]
def k0_off5 (k0_t1 : Fin k0_t1_loop.trips) : Fin 4 → Nat :=
  let c0_444 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let c0_i32_387 : BitVec 32 := 0#32
  let v566 : BitVec 1 := Scalar.cmpi .sgt v562 c0_i32_387
  let v567 : BitVec 32 := Scalar.extui v566
  let c0_i32_388 : BitVec 32 := 0#32
  let v568 : BitVec 1 := Scalar.cmpi .slt v562 c0_i32_388
  let v569 : BitVec 32 := Scalar.extui v568
  let v570 : BitVec 32 := Scalar.subi v567 v569
  let c2_i32_386 : BitVec 32 := 2#32
  let c0_i32_389 : BitVec 32 := 0#32
  let v571 : BitVec 1 := Scalar.cmpi .sgt c2_i32_386 c0_i32_389
  let v572 : BitVec 32 := Scalar.extui v571
  let c0_i32_390 : BitVec 32 := 0#32
  let v573 : BitVec 1 := Scalar.cmpi .slt c2_i32_386 c0_i32_390
  let v574 : BitVec 32 := Scalar.extui v573
  let v575 : BitVec 32 := Scalar.subi v572 v574
  let v576 : BitVec 1 := Scalar.cmpi .ne v570 v575
  let v577 : BitVec 32 := Scalar.remsi v562 c2_i32_386
  let c0_i32_391 : BitVec 32 := 0#32
  let v578 : BitVec 1 := Scalar.cmpi .ne v577 c0_i32_391
  let v579 : BitVec 1 := Scalar.andi v576 v578
  let v565 : BitVec 32 := Scalar.divsi v562 c2_i32_386
  let c1_i32_392 : BitVec 32 := 1#32
  let v580 : BitVec 32 := Scalar.subi v565 c1_i32_392
  let v581 : BitVec 32 := Scalar.select v579 v580 v565
  let v672 : Index := Scalar.indexCast v581
  let c256_445 : Index := 256#32
  let c0_446 : Index := 0#32
  ![0, v672.toNat, 256, 0]
def k0_off6 (k0_t1 : Fin k0_t1_loop.trips) : Fin 4 → Nat :=
  let c0_458 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let c0_i32_417 : BitVec 32 := 0#32
  let v625 : BitVec 1 := Scalar.cmpi .sgt v621 c0_i32_417
  let v626 : BitVec 32 := Scalar.extui v625
  let c0_i32_418 : BitVec 32 := 0#32
  let v627 : BitVec 1 := Scalar.cmpi .slt v621 c0_i32_418
  let v628 : BitVec 32 := Scalar.extui v627
  let v629 : BitVec 32 := Scalar.subi v626 v628
  let c2_i32_416 : BitVec 32 := 2#32
  let c0_i32_419 : BitVec 32 := 0#32
  let v630 : BitVec 1 := Scalar.cmpi .sgt c2_i32_416 c0_i32_419
  let v631 : BitVec 32 := Scalar.extui v630
  let c0_i32_420 : BitVec 32 := 0#32
  let v632 : BitVec 1 := Scalar.cmpi .slt c2_i32_416 c0_i32_420
  let v633 : BitVec 32 := Scalar.extui v632
  let v634 : BitVec 32 := Scalar.subi v631 v633
  let v635 : BitVec 1 := Scalar.cmpi .ne v629 v634
  let v636 : BitVec 32 := Scalar.remsi v621 c2_i32_416
  let c0_i32_421 : BitVec 32 := 0#32
  let v637 : BitVec 1 := Scalar.cmpi .ne v636 c0_i32_421
  let v638 : BitVec 1 := Scalar.andi v635 v637
  let v624 : BitVec 32 := Scalar.divsi v621 c2_i32_416
  let c1_i32_422 : BitVec 32 := 1#32
  let v639 : BitVec 32 := Scalar.subi v624 c1_i32_422
  let v640 : BitVec 32 := Scalar.select v638 v639 v624
  let v697 : Index := Scalar.indexCast v640
  let c256_459 : Index := 256#32
  let c0_460 : Index := 0#32
  ![0, v697.toNat, 256, 0]
def k0_off7 (k0_t1 : Fin k0_t1_loop.trips) : Fin 4 → Nat :=
  let c0_464 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let c0_i32_387 : BitVec 32 := 0#32
  let v566 : BitVec 1 := Scalar.cmpi .sgt v562 c0_i32_387
  let v567 : BitVec 32 := Scalar.extui v566
  let c0_i32_388 : BitVec 32 := 0#32
  let v568 : BitVec 1 := Scalar.cmpi .slt v562 c0_i32_388
  let v569 : BitVec 32 := Scalar.extui v568
  let v570 : BitVec 32 := Scalar.subi v567 v569
  let c2_i32_386 : BitVec 32 := 2#32
  let c0_i32_389 : BitVec 32 := 0#32
  let v571 : BitVec 1 := Scalar.cmpi .sgt c2_i32_386 c0_i32_389
  let v572 : BitVec 32 := Scalar.extui v571
  let c0_i32_390 : BitVec 32 := 0#32
  let v573 : BitVec 1 := Scalar.cmpi .slt c2_i32_386 c0_i32_390
  let v574 : BitVec 32 := Scalar.extui v573
  let v575 : BitVec 32 := Scalar.subi v572 v574
  let v576 : BitVec 1 := Scalar.cmpi .ne v570 v575
  let v577 : BitVec 32 := Scalar.remsi v562 c2_i32_386
  let c0_i32_391 : BitVec 32 := 0#32
  let v578 : BitVec 1 := Scalar.cmpi .ne v577 c0_i32_391
  let v579 : BitVec 1 := Scalar.andi v576 v578
  let v565 : BitVec 32 := Scalar.divsi v562 c2_i32_386
  let c1_i32_392 : BitVec 32 := 1#32
  let v580 : BitVec 32 := Scalar.subi v565 c1_i32_392
  let v581 : BitVec 32 := Scalar.select v579 v580 v565
  let v704 : Index := Scalar.indexCast v581
  let c512_465 : Index := 512#32
  let c0_466 : Index := 0#32
  ![0, v704.toNat, 512, 0]
def k0_off8 (k0_t1 : Fin k0_t1_loop.trips) : Fin 4 → Nat :=
  let c0_478 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let c0_i32_417 : BitVec 32 := 0#32
  let v625 : BitVec 1 := Scalar.cmpi .sgt v621 c0_i32_417
  let v626 : BitVec 32 := Scalar.extui v625
  let c0_i32_418 : BitVec 32 := 0#32
  let v627 : BitVec 1 := Scalar.cmpi .slt v621 c0_i32_418
  let v628 : BitVec 32 := Scalar.extui v627
  let v629 : BitVec 32 := Scalar.subi v626 v628
  let c2_i32_416 : BitVec 32 := 2#32
  let c0_i32_419 : BitVec 32 := 0#32
  let v630 : BitVec 1 := Scalar.cmpi .sgt c2_i32_416 c0_i32_419
  let v631 : BitVec 32 := Scalar.extui v630
  let c0_i32_420 : BitVec 32 := 0#32
  let v632 : BitVec 1 := Scalar.cmpi .slt c2_i32_416 c0_i32_420
  let v633 : BitVec 32 := Scalar.extui v632
  let v634 : BitVec 32 := Scalar.subi v631 v633
  let v635 : BitVec 1 := Scalar.cmpi .ne v629 v634
  let v636 : BitVec 32 := Scalar.remsi v621 c2_i32_416
  let c0_i32_421 : BitVec 32 := 0#32
  let v637 : BitVec 1 := Scalar.cmpi .ne v636 c0_i32_421
  let v638 : BitVec 1 := Scalar.andi v635 v637
  let v624 : BitVec 32 := Scalar.divsi v621 c2_i32_416
  let c1_i32_422 : BitVec 32 := 1#32
  let v639 : BitVec 32 := Scalar.subi v624 c1_i32_422
  let v640 : BitVec 32 := Scalar.select v638 v639 v624
  let v729 : Index := Scalar.indexCast v640
  let c512_479 : Index := 512#32
  let c0_480 : Index := 0#32
  ![0, v729.toNat, 512, 0]
def k0_off9 (k0_t1 : Fin k0_t1_loop.trips) : Fin 4 → Nat :=
  let c0_484 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let c0_i32_387 : BitVec 32 := 0#32
  let v566 : BitVec 1 := Scalar.cmpi .sgt v562 c0_i32_387
  let v567 : BitVec 32 := Scalar.extui v566
  let c0_i32_388 : BitVec 32 := 0#32
  let v568 : BitVec 1 := Scalar.cmpi .slt v562 c0_i32_388
  let v569 : BitVec 32 := Scalar.extui v568
  let v570 : BitVec 32 := Scalar.subi v567 v569
  let c2_i32_386 : BitVec 32 := 2#32
  let c0_i32_389 : BitVec 32 := 0#32
  let v571 : BitVec 1 := Scalar.cmpi .sgt c2_i32_386 c0_i32_389
  let v572 : BitVec 32 := Scalar.extui v571
  let c0_i32_390 : BitVec 32 := 0#32
  let v573 : BitVec 1 := Scalar.cmpi .slt c2_i32_386 c0_i32_390
  let v574 : BitVec 32 := Scalar.extui v573
  let v575 : BitVec 32 := Scalar.subi v572 v574
  let v576 : BitVec 1 := Scalar.cmpi .ne v570 v575
  let v577 : BitVec 32 := Scalar.remsi v562 c2_i32_386
  let c0_i32_391 : BitVec 32 := 0#32
  let v578 : BitVec 1 := Scalar.cmpi .ne v577 c0_i32_391
  let v579 : BitVec 1 := Scalar.andi v576 v578
  let v565 : BitVec 32 := Scalar.divsi v562 c2_i32_386
  let c1_i32_392 : BitVec 32 := 1#32
  let v580 : BitVec 32 := Scalar.subi v565 c1_i32_392
  let v581 : BitVec 32 := Scalar.select v579 v580 v565
  let v736 : Index := Scalar.indexCast v581
  let c768_485 : Index := 768#32
  let c0_486 : Index := 0#32
  ![0, v736.toNat, 768, 0]
def k0_off10 (k0_t1 : Fin k0_t1_loop.trips) : Fin 4 → Nat :=
  let c0_498 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let c0_i32_417 : BitVec 32 := 0#32
  let v625 : BitVec 1 := Scalar.cmpi .sgt v621 c0_i32_417
  let v626 : BitVec 32 := Scalar.extui v625
  let c0_i32_418 : BitVec 32 := 0#32
  let v627 : BitVec 1 := Scalar.cmpi .slt v621 c0_i32_418
  let v628 : BitVec 32 := Scalar.extui v627
  let v629 : BitVec 32 := Scalar.subi v626 v628
  let c2_i32_416 : BitVec 32 := 2#32
  let c0_i32_419 : BitVec 32 := 0#32
  let v630 : BitVec 1 := Scalar.cmpi .sgt c2_i32_416 c0_i32_419
  let v631 : BitVec 32 := Scalar.extui v630
  let c0_i32_420 : BitVec 32 := 0#32
  let v632 : BitVec 1 := Scalar.cmpi .slt c2_i32_416 c0_i32_420
  let v633 : BitVec 32 := Scalar.extui v632
  let v634 : BitVec 32 := Scalar.subi v631 v633
  let v635 : BitVec 1 := Scalar.cmpi .ne v629 v634
  let v636 : BitVec 32 := Scalar.remsi v621 c2_i32_416
  let c0_i32_421 : BitVec 32 := 0#32
  let v637 : BitVec 1 := Scalar.cmpi .ne v636 c0_i32_421
  let v638 : BitVec 1 := Scalar.andi v635 v637
  let v624 : BitVec 32 := Scalar.divsi v621 c2_i32_416
  let c1_i32_422 : BitVec 32 := 1#32
  let v639 : BitVec 32 := Scalar.subi v624 c1_i32_422
  let v640 : BitVec 32 := Scalar.select v638 v639 v624
  let v761 : Index := Scalar.indexCast v640
  let c768_499 : Index := 768#32
  let c0_500 : Index := 0#32
  ![0, v761.toNat, 768, 0]
def k0_off11 (k0_t1 : Fin k0_t1_loop.trips) : Fin 4 → Nat :=
  let c0_504 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let c0_i32_387 : BitVec 32 := 0#32
  let v566 : BitVec 1 := Scalar.cmpi .sgt v562 c0_i32_387
  let v567 : BitVec 32 := Scalar.extui v566
  let c0_i32_388 : BitVec 32 := 0#32
  let v568 : BitVec 1 := Scalar.cmpi .slt v562 c0_i32_388
  let v569 : BitVec 32 := Scalar.extui v568
  let v570 : BitVec 32 := Scalar.subi v567 v569
  let c2_i32_386 : BitVec 32 := 2#32
  let c0_i32_389 : BitVec 32 := 0#32
  let v571 : BitVec 1 := Scalar.cmpi .sgt c2_i32_386 c0_i32_389
  let v572 : BitVec 32 := Scalar.extui v571
  let c0_i32_390 : BitVec 32 := 0#32
  let v573 : BitVec 1 := Scalar.cmpi .slt c2_i32_386 c0_i32_390
  let v574 : BitVec 32 := Scalar.extui v573
  let v575 : BitVec 32 := Scalar.subi v572 v574
  let v576 : BitVec 1 := Scalar.cmpi .ne v570 v575
  let v577 : BitVec 32 := Scalar.remsi v562 c2_i32_386
  let c0_i32_391 : BitVec 32 := 0#32
  let v578 : BitVec 1 := Scalar.cmpi .ne v577 c0_i32_391
  let v579 : BitVec 1 := Scalar.andi v576 v578
  let v565 : BitVec 32 := Scalar.divsi v562 c2_i32_386
  let c1_i32_392 : BitVec 32 := 1#32
  let v580 : BitVec 32 := Scalar.subi v565 c1_i32_392
  let v581 : BitVec 32 := Scalar.select v579 v580 v565
  let v768 : Index := Scalar.indexCast v581
  let c1024_505 : Index := 1024#32
  let c0_506 : Index := 0#32
  ![0, v768.toNat, 1024, 0]
def k0_off12 (k0_t1 : Fin k0_t1_loop.trips) : Fin 4 → Nat :=
  let c0_518 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let c0_i32_417 : BitVec 32 := 0#32
  let v625 : BitVec 1 := Scalar.cmpi .sgt v621 c0_i32_417
  let v626 : BitVec 32 := Scalar.extui v625
  let c0_i32_418 : BitVec 32 := 0#32
  let v627 : BitVec 1 := Scalar.cmpi .slt v621 c0_i32_418
  let v628 : BitVec 32 := Scalar.extui v627
  let v629 : BitVec 32 := Scalar.subi v626 v628
  let c2_i32_416 : BitVec 32 := 2#32
  let c0_i32_419 : BitVec 32 := 0#32
  let v630 : BitVec 1 := Scalar.cmpi .sgt c2_i32_416 c0_i32_419
  let v631 : BitVec 32 := Scalar.extui v630
  let c0_i32_420 : BitVec 32 := 0#32
  let v632 : BitVec 1 := Scalar.cmpi .slt c2_i32_416 c0_i32_420
  let v633 : BitVec 32 := Scalar.extui v632
  let v634 : BitVec 32 := Scalar.subi v631 v633
  let v635 : BitVec 1 := Scalar.cmpi .ne v629 v634
  let v636 : BitVec 32 := Scalar.remsi v621 c2_i32_416
  let c0_i32_421 : BitVec 32 := 0#32
  let v637 : BitVec 1 := Scalar.cmpi .ne v636 c0_i32_421
  let v638 : BitVec 1 := Scalar.andi v635 v637
  let v624 : BitVec 32 := Scalar.divsi v621 c2_i32_416
  let c1_i32_422 : BitVec 32 := 1#32
  let v639 : BitVec 32 := Scalar.subi v624 c1_i32_422
  let v640 : BitVec 32 := Scalar.select v638 v639 v624
  let v793 : Index := Scalar.indexCast v640
  let c1024_519 : Index := 1024#32
  let c0_520 : Index := 0#32
  ![0, v793.toNat, 1024, 0]
def k0_off13 (k0_t1 : Fin k0_t1_loop.trips) : Fin 4 → Nat :=
  let c0_524 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let c0_i32_387 : BitVec 32 := 0#32
  let v566 : BitVec 1 := Scalar.cmpi .sgt v562 c0_i32_387
  let v567 : BitVec 32 := Scalar.extui v566
  let c0_i32_388 : BitVec 32 := 0#32
  let v568 : BitVec 1 := Scalar.cmpi .slt v562 c0_i32_388
  let v569 : BitVec 32 := Scalar.extui v568
  let v570 : BitVec 32 := Scalar.subi v567 v569
  let c2_i32_386 : BitVec 32 := 2#32
  let c0_i32_389 : BitVec 32 := 0#32
  let v571 : BitVec 1 := Scalar.cmpi .sgt c2_i32_386 c0_i32_389
  let v572 : BitVec 32 := Scalar.extui v571
  let c0_i32_390 : BitVec 32 := 0#32
  let v573 : BitVec 1 := Scalar.cmpi .slt c2_i32_386 c0_i32_390
  let v574 : BitVec 32 := Scalar.extui v573
  let v575 : BitVec 32 := Scalar.subi v572 v574
  let v576 : BitVec 1 := Scalar.cmpi .ne v570 v575
  let v577 : BitVec 32 := Scalar.remsi v562 c2_i32_386
  let c0_i32_391 : BitVec 32 := 0#32
  let v578 : BitVec 1 := Scalar.cmpi .ne v577 c0_i32_391
  let v579 : BitVec 1 := Scalar.andi v576 v578
  let v565 : BitVec 32 := Scalar.divsi v562 c2_i32_386
  let c1_i32_392 : BitVec 32 := 1#32
  let v580 : BitVec 32 := Scalar.subi v565 c1_i32_392
  let v581 : BitVec 32 := Scalar.select v579 v580 v565
  let v800 : Index := Scalar.indexCast v581
  let c1280_525 : Index := 1280#32
  let c0_526 : Index := 0#32
  ![0, v800.toNat, 1280, 0]
def k0_off14 (k0_t1 : Fin k0_t1_loop.trips) : Fin 4 → Nat :=
  let c0_538 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let c0_i32_417 : BitVec 32 := 0#32
  let v625 : BitVec 1 := Scalar.cmpi .sgt v621 c0_i32_417
  let v626 : BitVec 32 := Scalar.extui v625
  let c0_i32_418 : BitVec 32 := 0#32
  let v627 : BitVec 1 := Scalar.cmpi .slt v621 c0_i32_418
  let v628 : BitVec 32 := Scalar.extui v627
  let v629 : BitVec 32 := Scalar.subi v626 v628
  let c2_i32_416 : BitVec 32 := 2#32
  let c0_i32_419 : BitVec 32 := 0#32
  let v630 : BitVec 1 := Scalar.cmpi .sgt c2_i32_416 c0_i32_419
  let v631 : BitVec 32 := Scalar.extui v630
  let c0_i32_420 : BitVec 32 := 0#32
  let v632 : BitVec 1 := Scalar.cmpi .slt c2_i32_416 c0_i32_420
  let v633 : BitVec 32 := Scalar.extui v632
  let v634 : BitVec 32 := Scalar.subi v631 v633
  let v635 : BitVec 1 := Scalar.cmpi .ne v629 v634
  let v636 : BitVec 32 := Scalar.remsi v621 c2_i32_416
  let c0_i32_421 : BitVec 32 := 0#32
  let v637 : BitVec 1 := Scalar.cmpi .ne v636 c0_i32_421
  let v638 : BitVec 1 := Scalar.andi v635 v637
  let v624 : BitVec 32 := Scalar.divsi v621 c2_i32_416
  let c1_i32_422 : BitVec 32 := 1#32
  let v639 : BitVec 32 := Scalar.subi v624 c1_i32_422
  let v640 : BitVec 32 := Scalar.select v638 v639 v624
  let v825 : Index := Scalar.indexCast v640
  let c1280_539 : Index := 1280#32
  let c0_540 : Index := 0#32
  ![0, v825.toNat, 1280, 0]
def k0_off15 (k0_t1 : Fin k0_t1_loop.trips) : Fin 4 → Nat :=
  let c0_544 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let c0_i32_387 : BitVec 32 := 0#32
  let v566 : BitVec 1 := Scalar.cmpi .sgt v562 c0_i32_387
  let v567 : BitVec 32 := Scalar.extui v566
  let c0_i32_388 : BitVec 32 := 0#32
  let v568 : BitVec 1 := Scalar.cmpi .slt v562 c0_i32_388
  let v569 : BitVec 32 := Scalar.extui v568
  let v570 : BitVec 32 := Scalar.subi v567 v569
  let c2_i32_386 : BitVec 32 := 2#32
  let c0_i32_389 : BitVec 32 := 0#32
  let v571 : BitVec 1 := Scalar.cmpi .sgt c2_i32_386 c0_i32_389
  let v572 : BitVec 32 := Scalar.extui v571
  let c0_i32_390 : BitVec 32 := 0#32
  let v573 : BitVec 1 := Scalar.cmpi .slt c2_i32_386 c0_i32_390
  let v574 : BitVec 32 := Scalar.extui v573
  let v575 : BitVec 32 := Scalar.subi v572 v574
  let v576 : BitVec 1 := Scalar.cmpi .ne v570 v575
  let v577 : BitVec 32 := Scalar.remsi v562 c2_i32_386
  let c0_i32_391 : BitVec 32 := 0#32
  let v578 : BitVec 1 := Scalar.cmpi .ne v577 c0_i32_391
  let v579 : BitVec 1 := Scalar.andi v576 v578
  let v565 : BitVec 32 := Scalar.divsi v562 c2_i32_386
  let c1_i32_392 : BitVec 32 := 1#32
  let v580 : BitVec 32 := Scalar.subi v565 c1_i32_392
  let v581 : BitVec 32 := Scalar.select v579 v580 v565
  let v832 : Index := Scalar.indexCast v581
  let c1536_545 : Index := 1536#32
  let c0_546 : Index := 0#32
  ![0, v832.toNat, 1536, 0]
def k0_off16 (k0_t1 : Fin k0_t1_loop.trips) : Fin 4 → Nat :=
  let c0_558 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let c0_i32_417 : BitVec 32 := 0#32
  let v625 : BitVec 1 := Scalar.cmpi .sgt v621 c0_i32_417
  let v626 : BitVec 32 := Scalar.extui v625
  let c0_i32_418 : BitVec 32 := 0#32
  let v627 : BitVec 1 := Scalar.cmpi .slt v621 c0_i32_418
  let v628 : BitVec 32 := Scalar.extui v627
  let v629 : BitVec 32 := Scalar.subi v626 v628
  let c2_i32_416 : BitVec 32 := 2#32
  let c0_i32_419 : BitVec 32 := 0#32
  let v630 : BitVec 1 := Scalar.cmpi .sgt c2_i32_416 c0_i32_419
  let v631 : BitVec 32 := Scalar.extui v630
  let c0_i32_420 : BitVec 32 := 0#32
  let v632 : BitVec 1 := Scalar.cmpi .slt c2_i32_416 c0_i32_420
  let v633 : BitVec 32 := Scalar.extui v632
  let v634 : BitVec 32 := Scalar.subi v631 v633
  let v635 : BitVec 1 := Scalar.cmpi .ne v629 v634
  let v636 : BitVec 32 := Scalar.remsi v621 c2_i32_416
  let c0_i32_421 : BitVec 32 := 0#32
  let v637 : BitVec 1 := Scalar.cmpi .ne v636 c0_i32_421
  let v638 : BitVec 1 := Scalar.andi v635 v637
  let v624 : BitVec 32 := Scalar.divsi v621 c2_i32_416
  let c1_i32_422 : BitVec 32 := 1#32
  let v639 : BitVec 32 := Scalar.subi v624 c1_i32_422
  let v640 : BitVec 32 := Scalar.select v638 v639 v624
  let v857 : Index := Scalar.indexCast v640
  let c1536_559 : Index := 1536#32
  let c0_560 : Index := 0#32
  ![0, v857.toNat, 1536, 0]
def k0_off17 (k0_t1 : Fin k0_t1_loop.trips) : Fin 4 → Nat :=
  let c0_564 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c4_i32_380 : BitVec 32 := 4#32
  let c0_i32_381 : BitVec 32 := 0#32
  let v553 : BitVec 1 := Scalar.cmpi .eq c4_i32_380 c0_i32_381
  let c1_i32_382 : BitVec 32 := 1#32
  let v554 : BitVec 32 := Scalar.select v553 c1_i32_382 c4_i32_380
  let v555 : BitVec 32 := Scalar.remsi v534 v554
  let c0_i32_384 : BitVec 32 := 0#32
  let v557 : BitVec 1 := Scalar.cmpi .slt v555 c0_i32_384
  let c0_i32_385 : BitVec 32 := 0#32
  let v558 : BitVec 1 := Scalar.cmpi .slt v554 c0_i32_385
  let v559 : BitVec 1 := Scalar.xori v557 v558
  let c0_i32_383 : BitVec 32 := 0#32
  let v556 : BitVec 1 := Scalar.cmpi .ne v555 c0_i32_383
  let v560 : BitVec 1 := Scalar.andi v559 v556
  let v561 : BitVec 32 := Scalar.addi v555 v554
  let v562 : BitVec 32 := Scalar.select v560 v561 v555
  let c0_i32_387 : BitVec 32 := 0#32
  let v566 : BitVec 1 := Scalar.cmpi .sgt v562 c0_i32_387
  let v567 : BitVec 32 := Scalar.extui v566
  let c0_i32_388 : BitVec 32 := 0#32
  let v568 : BitVec 1 := Scalar.cmpi .slt v562 c0_i32_388
  let v569 : BitVec 32 := Scalar.extui v568
  let v570 : BitVec 32 := Scalar.subi v567 v569
  let c2_i32_386 : BitVec 32 := 2#32
  let c0_i32_389 : BitVec 32 := 0#32
  let v571 : BitVec 1 := Scalar.cmpi .sgt c2_i32_386 c0_i32_389
  let v572 : BitVec 32 := Scalar.extui v571
  let c0_i32_390 : BitVec 32 := 0#32
  let v573 : BitVec 1 := Scalar.cmpi .slt c2_i32_386 c0_i32_390
  let v574 : BitVec 32 := Scalar.extui v573
  let v575 : BitVec 32 := Scalar.subi v572 v574
  let v576 : BitVec 1 := Scalar.cmpi .ne v570 v575
  let v577 : BitVec 32 := Scalar.remsi v562 c2_i32_386
  let c0_i32_391 : BitVec 32 := 0#32
  let v578 : BitVec 1 := Scalar.cmpi .ne v577 c0_i32_391
  let v579 : BitVec 1 := Scalar.andi v576 v578
  let v565 : BitVec 32 := Scalar.divsi v562 c2_i32_386
  let c1_i32_392 : BitVec 32 := 1#32
  let v580 : BitVec 32 := Scalar.subi v565 c1_i32_392
  let v581 : BitVec 32 := Scalar.select v579 v580 v565
  let v864 : Index := Scalar.indexCast v581
  let c1792_565 : Index := 1792#32
  let c0_566 : Index := 0#32
  ![0, v864.toNat, 1792, 0]
def k0_off18 (k0_t1 : Fin k0_t1_loop.trips) : Fin 4 → Nat :=
  let c0_578 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let c0_i32_417 : BitVec 32 := 0#32
  let v625 : BitVec 1 := Scalar.cmpi .sgt v621 c0_i32_417
  let v626 : BitVec 32 := Scalar.extui v625
  let c0_i32_418 : BitVec 32 := 0#32
  let v627 : BitVec 1 := Scalar.cmpi .slt v621 c0_i32_418
  let v628 : BitVec 32 := Scalar.extui v627
  let v629 : BitVec 32 := Scalar.subi v626 v628
  let c2_i32_416 : BitVec 32 := 2#32
  let c0_i32_419 : BitVec 32 := 0#32
  let v630 : BitVec 1 := Scalar.cmpi .sgt c2_i32_416 c0_i32_419
  let v631 : BitVec 32 := Scalar.extui v630
  let c0_i32_420 : BitVec 32 := 0#32
  let v632 : BitVec 1 := Scalar.cmpi .slt c2_i32_416 c0_i32_420
  let v633 : BitVec 32 := Scalar.extui v632
  let v634 : BitVec 32 := Scalar.subi v631 v633
  let v635 : BitVec 1 := Scalar.cmpi .ne v629 v634
  let v636 : BitVec 32 := Scalar.remsi v621 c2_i32_416
  let c0_i32_421 : BitVec 32 := 0#32
  let v637 : BitVec 1 := Scalar.cmpi .ne v636 c0_i32_421
  let v638 : BitVec 1 := Scalar.andi v635 v637
  let v624 : BitVec 32 := Scalar.divsi v621 c2_i32_416
  let c1_i32_422 : BitVec 32 := 1#32
  let v639 : BitVec 32 := Scalar.subi v624 c1_i32_422
  let v640 : BitVec 32 := Scalar.select v638 v639 v624
  let v889 : Index := Scalar.indexCast v640
  let c1792_579 : Index := 1792#32
  let c0_580 : Index := 0#32
  ![0, v889.toNat, 1792, 0]
def k0_off19 (k0_t1 : Fin k0_t1_loop.trips) : Fin 4 → Nat :=
  let c0_589 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c2_i32_373 : BitVec 32 := 2#32
  let v535 : BitVec 32 := Scalar.subi v534 c2_i32_373
  let c4_i32_409 : BitVec 32 := 4#32
  let c0_i32_410 : BitVec 32 := 0#32
  let v612 : BitVec 1 := Scalar.cmpi .eq c4_i32_409 c0_i32_410
  let c1_i32_411 : BitVec 32 := 1#32
  let v613 : BitVec 32 := Scalar.select v612 c1_i32_411 c4_i32_409
  let v614 : BitVec 32 := Scalar.remsi v535 v613
  let c0_i32_413 : BitVec 32 := 0#32
  let v616 : BitVec 1 := Scalar.cmpi .slt v614 c0_i32_413
  let c0_i32_414 : BitVec 32 := 0#32
  let v617 : BitVec 1 := Scalar.cmpi .slt v613 c0_i32_414
  let v618 : BitVec 1 := Scalar.xori v616 v617
  let c0_i32_412 : BitVec 32 := 0#32
  let v615 : BitVec 1 := Scalar.cmpi .ne v614 c0_i32_412
  let v619 : BitVec 1 := Scalar.andi v618 v615
  let v620 : BitVec 32 := Scalar.addi v614 v613
  let v621 : BitVec 32 := Scalar.select v619 v620 v614
  let v914 : Index := Scalar.indexCast v621
  let c0_i32_403 : BitVec 32 := 0#32
  let v596 : BitVec 1 := Scalar.cmpi .sgt v535 c0_i32_403
  let v597 : BitVec 32 := Scalar.extui v596
  let c0_i32_404 : BitVec 32 := 0#32
  let v598 : BitVec 1 := Scalar.cmpi .slt v535 c0_i32_404
  let v599 : BitVec 32 := Scalar.extui v598
  let v600 : BitVec 32 := Scalar.subi v597 v599
  let c4_i32_402 : BitVec 32 := 4#32
  let c0_i32_405 : BitVec 32 := 0#32
  let v601 : BitVec 1 := Scalar.cmpi .sgt c4_i32_402 c0_i32_405
  let v602 : BitVec 32 := Scalar.extui v601
  let c0_i32_406 : BitVec 32 := 0#32
  let v603 : BitVec 1 := Scalar.cmpi .slt c4_i32_402 c0_i32_406
  let v604 : BitVec 32 := Scalar.extui v603
  let v605 : BitVec 32 := Scalar.subi v602 v604
  let v606 : BitVec 1 := Scalar.cmpi .ne v600 v605
  let v607 : BitVec 32 := Scalar.remsi v535 c4_i32_402
  let c0_i32_407 : BitVec 32 := 0#32
  let v608 : BitVec 1 := Scalar.cmpi .ne v607 c0_i32_407
  let v609 : BitVec 1 := Scalar.andi v606 v608
  let v595 : BitVec 32 := Scalar.divsi v535 c4_i32_402
  let c1_i32_408 : BitVec 32 := 1#32
  let v610 : BitVec 32 := Scalar.subi v595 c1_i32_408
  let v611 : BitVec 32 := Scalar.select v609 v610 v595
  let c512_i32_415 : BitVec 32 := 512#32
  let v622 : BitVec 32 := Scalar.muli v611 c512_i32_415
  let v623 : BitVec 32 := v622
  let v915 : Index := Scalar.indexCast v623
  let c0_590 : Index := 0#32
  ![0, v914.toNat, v915.toNat, 0]
def k0_cond1 (k0_t1 : Fin k0_t1_loop.trips) : BitVec 1 :=
  let c0_i32 : BitVec 32 := 0#32
  let c1_i32 : BitVec 32 := 1#32
  let arg11 : BitVec 32 := Scf.iv c0_i32 c1_i32 k0_t1
  let c0_i32_591 : BitVec 32 := 0#32
  let v919 : BitVec 1 := Scalar.cmpi .sge arg11 c0_i32_591
  let v920 : BitVec 32 := Scalar.extui v919
  let c0_i32_592 : BitVec 32 := 0#32
  let v921 : BitVec 1 := Scalar.cmpi .ne v920 c0_i32_592
  v921

def k0_mult3 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c0_i32_596 : BitVec 32 := 0#32
  let v925 : BitVec 1 := Scalar.cmpi .sgt v922 c0_i32_596
  let v926 : BitVec 32 := Scalar.extui v925
  let c0_i32_597 : BitVec 32 := 0#32
  let v927 : BitVec 1 := Scalar.cmpi .slt v922 c0_i32_597
  let v928 : BitVec 32 := Scalar.extui v927
  let v929 : BitVec 32 := Scalar.subi v926 v928
  let c4_i32_595 : BitVec 32 := 4#32
  let c0_i32_598 : BitVec 32 := 0#32
  let v930 : BitVec 1 := Scalar.cmpi .sgt c4_i32_595 c0_i32_598
  let v931 : BitVec 32 := Scalar.extui v930
  let c0_i32_599 : BitVec 32 := 0#32
  let v932 : BitVec 1 := Scalar.cmpi .slt c4_i32_595 c0_i32_599
  let v933 : BitVec 32 := Scalar.extui v932
  let v934 : BitVec 32 := Scalar.subi v931 v933
  let v935 : BitVec 1 := Scalar.cmpi .ne v929 v934
  let v936 : BitVec 32 := Scalar.remsi v922 c4_i32_595
  let c0_i32_600 : BitVec 32 := 0#32
  let v937 : BitVec 1 := Scalar.cmpi .ne v936 c0_i32_600
  let v938 : BitVec 1 := Scalar.andi v935 v937
  let v924 : BitVec 32 := Scalar.divsi v922 c4_i32_595
  let c1_i32_601 : BitVec 32 := 1#32
  let v939 : BitVec 32 := Scalar.subi v924 c1_i32_601
  let v940 : BitVec 32 := Scalar.select v938 v939 v924
  let c512_i32_608 : BitVec 32 := 512#32
  let v951 : BitVec 32 := Scalar.muli v940 c512_i32_608
  v951
def k0_off20 (k0_t1 : Fin k0_t1_loop.trips) : Fin 4 → Nat :=
  let c0_617 : Index := 0#32
  let c2_i32_616 : BitVec 32 := 2#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let v970 : BitVec 32 := Scalar.muli c2_i32_616 v950
  let v971 : Index := Scalar.indexCast v970
  let c0_i32_596 : BitVec 32 := 0#32
  let v925 : BitVec 1 := Scalar.cmpi .sgt v922 c0_i32_596
  let v926 : BitVec 32 := Scalar.extui v925
  let c0_i32_597 : BitVec 32 := 0#32
  let v927 : BitVec 1 := Scalar.cmpi .slt v922 c0_i32_597
  let v928 : BitVec 32 := Scalar.extui v927
  let v929 : BitVec 32 := Scalar.subi v926 v928
  let c4_i32_595 : BitVec 32 := 4#32
  let c0_i32_598 : BitVec 32 := 0#32
  let v930 : BitVec 1 := Scalar.cmpi .sgt c4_i32_595 c0_i32_598
  let v931 : BitVec 32 := Scalar.extui v930
  let c0_i32_599 : BitVec 32 := 0#32
  let v932 : BitVec 1 := Scalar.cmpi .slt c4_i32_595 c0_i32_599
  let v933 : BitVec 32 := Scalar.extui v932
  let v934 : BitVec 32 := Scalar.subi v931 v933
  let v935 : BitVec 1 := Scalar.cmpi .ne v929 v934
  let v936 : BitVec 32 := Scalar.remsi v922 c4_i32_595
  let c0_i32_600 : BitVec 32 := 0#32
  let v937 : BitVec 1 := Scalar.cmpi .ne v936 c0_i32_600
  let v938 : BitVec 1 := Scalar.andi v935 v937
  let v924 : BitVec 32 := Scalar.divsi v922 c4_i32_595
  let c1_i32_601 : BitVec 32 := 1#32
  let v939 : BitVec 32 := Scalar.subi v924 c1_i32_601
  let v940 : BitVec 32 := Scalar.select v938 v939 v924
  let c512_i32_608 : BitVec 32 := 512#32
  let v951 : BitVec 32 := Scalar.muli v940 c512_i32_608
  let v952 : BitVec 32 := v951
  let v972 : Index := Scalar.indexCast v952
  let c0_618 : Index := 0#32
  ![0, v971.toNat, v972.toNat, 0]
def k0_off21 (k0_t1 : Fin k0_t1_loop.trips) : Fin 4 → Nat :=
  let c0_621 : Index := 0#32
  let c2_i32_619 : BitVec 32 := 2#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let v975 : BitVec 32 := Scalar.muli c2_i32_619 v950
  let c1_i32_620 : BitVec 32 := 1#32
  let v976 : BitVec 32 := Scalar.addi v975 c1_i32_620
  let v977 : Index := Scalar.indexCast v976
  let c0_i32_596 : BitVec 32 := 0#32
  let v925 : BitVec 1 := Scalar.cmpi .sgt v922 c0_i32_596
  let v926 : BitVec 32 := Scalar.extui v925
  let c0_i32_597 : BitVec 32 := 0#32
  let v927 : BitVec 1 := Scalar.cmpi .slt v922 c0_i32_597
  let v928 : BitVec 32 := Scalar.extui v927
  let v929 : BitVec 32 := Scalar.subi v926 v928
  let c4_i32_595 : BitVec 32 := 4#32
  let c0_i32_598 : BitVec 32 := 0#32
  let v930 : BitVec 1 := Scalar.cmpi .sgt c4_i32_595 c0_i32_598
  let v931 : BitVec 32 := Scalar.extui v930
  let c0_i32_599 : BitVec 32 := 0#32
  let v932 : BitVec 1 := Scalar.cmpi .slt c4_i32_595 c0_i32_599
  let v933 : BitVec 32 := Scalar.extui v932
  let v934 : BitVec 32 := Scalar.subi v931 v933
  let v935 : BitVec 1 := Scalar.cmpi .ne v929 v934
  let v936 : BitVec 32 := Scalar.remsi v922 c4_i32_595
  let c0_i32_600 : BitVec 32 := 0#32
  let v937 : BitVec 1 := Scalar.cmpi .ne v936 c0_i32_600
  let v938 : BitVec 1 := Scalar.andi v935 v937
  let v924 : BitVec 32 := Scalar.divsi v922 c4_i32_595
  let c1_i32_601 : BitVec 32 := 1#32
  let v939 : BitVec 32 := Scalar.subi v924 c1_i32_601
  let v940 : BitVec 32 := Scalar.select v938 v939 v924
  let c512_i32_608 : BitVec 32 := 512#32
  let v951 : BitVec 32 := Scalar.muli v940 c512_i32_608
  let v952 : BitVec 32 := v951
  let v978 : Index := Scalar.indexCast v952
  let c0_622 : Index := 0#32
  ![0, v977.toNat, v978.toNat, 0]
def k0_mult4 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c0_i32_626 : BitVec 32 := 0#32
  let v984 : BitVec 1 := Scalar.cmpi .sgt v923 c0_i32_626
  let v985 : BitVec 32 := Scalar.extui v984
  let c0_i32_627 : BitVec 32 := 0#32
  let v986 : BitVec 1 := Scalar.cmpi .slt v923 c0_i32_627
  let v987 : BitVec 32 := Scalar.extui v986
  let v988 : BitVec 32 := Scalar.subi v985 v987
  let c4_i32_625 : BitVec 32 := 4#32
  let c0_i32_628 : BitVec 32 := 0#32
  let v989 : BitVec 1 := Scalar.cmpi .sgt c4_i32_625 c0_i32_628
  let v990 : BitVec 32 := Scalar.extui v989
  let c0_i32_629 : BitVec 32 := 0#32
  let v991 : BitVec 1 := Scalar.cmpi .slt c4_i32_625 c0_i32_629
  let v992 : BitVec 32 := Scalar.extui v991
  let v993 : BitVec 32 := Scalar.subi v990 v992
  let v994 : BitVec 1 := Scalar.cmpi .ne v988 v993
  let v995 : BitVec 32 := Scalar.remsi v923 c4_i32_625
  let c0_i32_630 : BitVec 32 := 0#32
  let v996 : BitVec 1 := Scalar.cmpi .ne v995 c0_i32_630
  let v997 : BitVec 1 := Scalar.andi v994 v996
  let v983 : BitVec 32 := Scalar.divsi v923 c4_i32_625
  let c1_i32_631 : BitVec 32 := 1#32
  let v998 : BitVec 32 := Scalar.subi v983 c1_i32_631
  let v999 : BitVec 32 := Scalar.select v997 v998 v983
  let c512_i32_638 : BitVec 32 := 512#32
  let v1010 : BitVec 32 := Scalar.muli v999 c512_i32_638
  v1010
def k0_off22 (k0_t1 : Fin k0_t1_loop.trips) : Fin 4 → Nat :=
  let c0_647 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let c0_i32_610 : BitVec 32 := 0#32
  let v954 : BitVec 1 := Scalar.cmpi .sgt v950 c0_i32_610
  let v955 : BitVec 32 := Scalar.extui v954
  let c0_i32_611 : BitVec 32 := 0#32
  let v956 : BitVec 1 := Scalar.cmpi .slt v950 c0_i32_611
  let v957 : BitVec 32 := Scalar.extui v956
  let v958 : BitVec 32 := Scalar.subi v955 v957
  let c2_i32_609 : BitVec 32 := 2#32
  let c0_i32_612 : BitVec 32 := 0#32
  let v959 : BitVec 1 := Scalar.cmpi .sgt c2_i32_609 c0_i32_612
  let v960 : BitVec 32 := Scalar.extui v959
  let c0_i32_613 : BitVec 32 := 0#32
  let v961 : BitVec 1 := Scalar.cmpi .slt c2_i32_609 c0_i32_613
  let v962 : BitVec 32 := Scalar.extui v961
  let v963 : BitVec 32 := Scalar.subi v960 v962
  let v964 : BitVec 1 := Scalar.cmpi .ne v958 v963
  let v965 : BitVec 32 := Scalar.remsi v950 c2_i32_609
  let c0_i32_614 : BitVec 32 := 0#32
  let v966 : BitVec 1 := Scalar.cmpi .ne v965 c0_i32_614
  let v967 : BitVec 1 := Scalar.andi v964 v966
  let v953 : BitVec 32 := Scalar.divsi v950 c2_i32_609
  let c1_i32_615 : BitVec 32 := 1#32
  let v968 : BitVec 32 := Scalar.subi v953 c1_i32_615
  let v969 : BitVec 32 := Scalar.select v967 v968 v953
  let v1030 : Index := Scalar.indexCast v969
  let c0_648 : Index := 0#32
  let c0_649 : Index := 0#32
  ![0, v1030.toNat, 0, 0]
def k0_off23 (k0_t1 : Fin k0_t1_loop.trips) : Fin 4 → Nat :=
  let c0_661 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let c0_i32_640 : BitVec 32 := 0#32
  let v1013 : BitVec 1 := Scalar.cmpi .sgt v1009 c0_i32_640
  let v1014 : BitVec 32 := Scalar.extui v1013
  let c0_i32_641 : BitVec 32 := 0#32
  let v1015 : BitVec 1 := Scalar.cmpi .slt v1009 c0_i32_641
  let v1016 : BitVec 32 := Scalar.extui v1015
  let v1017 : BitVec 32 := Scalar.subi v1014 v1016
  let c2_i32_639 : BitVec 32 := 2#32
  let c0_i32_642 : BitVec 32 := 0#32
  let v1018 : BitVec 1 := Scalar.cmpi .sgt c2_i32_639 c0_i32_642
  let v1019 : BitVec 32 := Scalar.extui v1018
  let c0_i32_643 : BitVec 32 := 0#32
  let v1020 : BitVec 1 := Scalar.cmpi .slt c2_i32_639 c0_i32_643
  let v1021 : BitVec 32 := Scalar.extui v1020
  let v1022 : BitVec 32 := Scalar.subi v1019 v1021
  let v1023 : BitVec 1 := Scalar.cmpi .ne v1017 v1022
  let v1024 : BitVec 32 := Scalar.remsi v1009 c2_i32_639
  let c0_i32_644 : BitVec 32 := 0#32
  let v1025 : BitVec 1 := Scalar.cmpi .ne v1024 c0_i32_644
  let v1026 : BitVec 1 := Scalar.andi v1023 v1025
  let v1012 : BitVec 32 := Scalar.divsi v1009 c2_i32_639
  let c1_i32_645 : BitVec 32 := 1#32
  let v1027 : BitVec 32 := Scalar.subi v1012 c1_i32_645
  let v1028 : BitVec 32 := Scalar.select v1026 v1027 v1012
  let v1054 : Index := Scalar.indexCast v1028
  let c0_662 : Index := 0#32
  let c0_663 : Index := 0#32
  ![0, v1054.toNat, 0, 0]
def k0_off24 (k0_t1 : Fin k0_t1_loop.trips) : Fin 4 → Nat :=
  let c0_667 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let c0_i32_610 : BitVec 32 := 0#32
  let v954 : BitVec 1 := Scalar.cmpi .sgt v950 c0_i32_610
  let v955 : BitVec 32 := Scalar.extui v954
  let c0_i32_611 : BitVec 32 := 0#32
  let v956 : BitVec 1 := Scalar.cmpi .slt v950 c0_i32_611
  let v957 : BitVec 32 := Scalar.extui v956
  let v958 : BitVec 32 := Scalar.subi v955 v957
  let c2_i32_609 : BitVec 32 := 2#32
  let c0_i32_612 : BitVec 32 := 0#32
  let v959 : BitVec 1 := Scalar.cmpi .sgt c2_i32_609 c0_i32_612
  let v960 : BitVec 32 := Scalar.extui v959
  let c0_i32_613 : BitVec 32 := 0#32
  let v961 : BitVec 1 := Scalar.cmpi .slt c2_i32_609 c0_i32_613
  let v962 : BitVec 32 := Scalar.extui v961
  let v963 : BitVec 32 := Scalar.subi v960 v962
  let v964 : BitVec 1 := Scalar.cmpi .ne v958 v963
  let v965 : BitVec 32 := Scalar.remsi v950 c2_i32_609
  let c0_i32_614 : BitVec 32 := 0#32
  let v966 : BitVec 1 := Scalar.cmpi .ne v965 c0_i32_614
  let v967 : BitVec 1 := Scalar.andi v964 v966
  let v953 : BitVec 32 := Scalar.divsi v950 c2_i32_609
  let c1_i32_615 : BitVec 32 := 1#32
  let v968 : BitVec 32 := Scalar.subi v953 c1_i32_615
  let v969 : BitVec 32 := Scalar.select v967 v968 v953
  let v1060 : Index := Scalar.indexCast v969
  let c256_668 : Index := 256#32
  let c0_669 : Index := 0#32
  ![0, v1060.toNat, 256, 0]
def k0_off25 (k0_t1 : Fin k0_t1_loop.trips) : Fin 4 → Nat :=
  let c0_681 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let c0_i32_640 : BitVec 32 := 0#32
  let v1013 : BitVec 1 := Scalar.cmpi .sgt v1009 c0_i32_640
  let v1014 : BitVec 32 := Scalar.extui v1013
  let c0_i32_641 : BitVec 32 := 0#32
  let v1015 : BitVec 1 := Scalar.cmpi .slt v1009 c0_i32_641
  let v1016 : BitVec 32 := Scalar.extui v1015
  let v1017 : BitVec 32 := Scalar.subi v1014 v1016
  let c2_i32_639 : BitVec 32 := 2#32
  let c0_i32_642 : BitVec 32 := 0#32
  let v1018 : BitVec 1 := Scalar.cmpi .sgt c2_i32_639 c0_i32_642
  let v1019 : BitVec 32 := Scalar.extui v1018
  let c0_i32_643 : BitVec 32 := 0#32
  let v1020 : BitVec 1 := Scalar.cmpi .slt c2_i32_639 c0_i32_643
  let v1021 : BitVec 32 := Scalar.extui v1020
  let v1022 : BitVec 32 := Scalar.subi v1019 v1021
  let v1023 : BitVec 1 := Scalar.cmpi .ne v1017 v1022
  let v1024 : BitVec 32 := Scalar.remsi v1009 c2_i32_639
  let c0_i32_644 : BitVec 32 := 0#32
  let v1025 : BitVec 1 := Scalar.cmpi .ne v1024 c0_i32_644
  let v1026 : BitVec 1 := Scalar.andi v1023 v1025
  let v1012 : BitVec 32 := Scalar.divsi v1009 c2_i32_639
  let c1_i32_645 : BitVec 32 := 1#32
  let v1027 : BitVec 32 := Scalar.subi v1012 c1_i32_645
  let v1028 : BitVec 32 := Scalar.select v1026 v1027 v1012
  let v1085 : Index := Scalar.indexCast v1028
  let c256_682 : Index := 256#32
  let c0_683 : Index := 0#32
  ![0, v1085.toNat, 256, 0]
def k0_off26 (k0_t1 : Fin k0_t1_loop.trips) : Fin 4 → Nat :=
  let c0_687 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let c0_i32_610 : BitVec 32 := 0#32
  let v954 : BitVec 1 := Scalar.cmpi .sgt v950 c0_i32_610
  let v955 : BitVec 32 := Scalar.extui v954
  let c0_i32_611 : BitVec 32 := 0#32
  let v956 : BitVec 1 := Scalar.cmpi .slt v950 c0_i32_611
  let v957 : BitVec 32 := Scalar.extui v956
  let v958 : BitVec 32 := Scalar.subi v955 v957
  let c2_i32_609 : BitVec 32 := 2#32
  let c0_i32_612 : BitVec 32 := 0#32
  let v959 : BitVec 1 := Scalar.cmpi .sgt c2_i32_609 c0_i32_612
  let v960 : BitVec 32 := Scalar.extui v959
  let c0_i32_613 : BitVec 32 := 0#32
  let v961 : BitVec 1 := Scalar.cmpi .slt c2_i32_609 c0_i32_613
  let v962 : BitVec 32 := Scalar.extui v961
  let v963 : BitVec 32 := Scalar.subi v960 v962
  let v964 : BitVec 1 := Scalar.cmpi .ne v958 v963
  let v965 : BitVec 32 := Scalar.remsi v950 c2_i32_609
  let c0_i32_614 : BitVec 32 := 0#32
  let v966 : BitVec 1 := Scalar.cmpi .ne v965 c0_i32_614
  let v967 : BitVec 1 := Scalar.andi v964 v966
  let v953 : BitVec 32 := Scalar.divsi v950 c2_i32_609
  let c1_i32_615 : BitVec 32 := 1#32
  let v968 : BitVec 32 := Scalar.subi v953 c1_i32_615
  let v969 : BitVec 32 := Scalar.select v967 v968 v953
  let v1092 : Index := Scalar.indexCast v969
  let c512_688 : Index := 512#32
  let c0_689 : Index := 0#32
  ![0, v1092.toNat, 512, 0]
def k0_off27 (k0_t1 : Fin k0_t1_loop.trips) : Fin 4 → Nat :=
  let c0_701 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let c0_i32_640 : BitVec 32 := 0#32
  let v1013 : BitVec 1 := Scalar.cmpi .sgt v1009 c0_i32_640
  let v1014 : BitVec 32 := Scalar.extui v1013
  let c0_i32_641 : BitVec 32 := 0#32
  let v1015 : BitVec 1 := Scalar.cmpi .slt v1009 c0_i32_641
  let v1016 : BitVec 32 := Scalar.extui v1015
  let v1017 : BitVec 32 := Scalar.subi v1014 v1016
  let c2_i32_639 : BitVec 32 := 2#32
  let c0_i32_642 : BitVec 32 := 0#32
  let v1018 : BitVec 1 := Scalar.cmpi .sgt c2_i32_639 c0_i32_642
  let v1019 : BitVec 32 := Scalar.extui v1018
  let c0_i32_643 : BitVec 32 := 0#32
  let v1020 : BitVec 1 := Scalar.cmpi .slt c2_i32_639 c0_i32_643
  let v1021 : BitVec 32 := Scalar.extui v1020
  let v1022 : BitVec 32 := Scalar.subi v1019 v1021
  let v1023 : BitVec 1 := Scalar.cmpi .ne v1017 v1022
  let v1024 : BitVec 32 := Scalar.remsi v1009 c2_i32_639
  let c0_i32_644 : BitVec 32 := 0#32
  let v1025 : BitVec 1 := Scalar.cmpi .ne v1024 c0_i32_644
  let v1026 : BitVec 1 := Scalar.andi v1023 v1025
  let v1012 : BitVec 32 := Scalar.divsi v1009 c2_i32_639
  let c1_i32_645 : BitVec 32 := 1#32
  let v1027 : BitVec 32 := Scalar.subi v1012 c1_i32_645
  let v1028 : BitVec 32 := Scalar.select v1026 v1027 v1012
  let v1117 : Index := Scalar.indexCast v1028
  let c512_702 : Index := 512#32
  let c0_703 : Index := 0#32
  ![0, v1117.toNat, 512, 0]
def k0_off28 (k0_t1 : Fin k0_t1_loop.trips) : Fin 4 → Nat :=
  let c0_707 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let c0_i32_610 : BitVec 32 := 0#32
  let v954 : BitVec 1 := Scalar.cmpi .sgt v950 c0_i32_610
  let v955 : BitVec 32 := Scalar.extui v954
  let c0_i32_611 : BitVec 32 := 0#32
  let v956 : BitVec 1 := Scalar.cmpi .slt v950 c0_i32_611
  let v957 : BitVec 32 := Scalar.extui v956
  let v958 : BitVec 32 := Scalar.subi v955 v957
  let c2_i32_609 : BitVec 32 := 2#32
  let c0_i32_612 : BitVec 32 := 0#32
  let v959 : BitVec 1 := Scalar.cmpi .sgt c2_i32_609 c0_i32_612
  let v960 : BitVec 32 := Scalar.extui v959
  let c0_i32_613 : BitVec 32 := 0#32
  let v961 : BitVec 1 := Scalar.cmpi .slt c2_i32_609 c0_i32_613
  let v962 : BitVec 32 := Scalar.extui v961
  let v963 : BitVec 32 := Scalar.subi v960 v962
  let v964 : BitVec 1 := Scalar.cmpi .ne v958 v963
  let v965 : BitVec 32 := Scalar.remsi v950 c2_i32_609
  let c0_i32_614 : BitVec 32 := 0#32
  let v966 : BitVec 1 := Scalar.cmpi .ne v965 c0_i32_614
  let v967 : BitVec 1 := Scalar.andi v964 v966
  let v953 : BitVec 32 := Scalar.divsi v950 c2_i32_609
  let c1_i32_615 : BitVec 32 := 1#32
  let v968 : BitVec 32 := Scalar.subi v953 c1_i32_615
  let v969 : BitVec 32 := Scalar.select v967 v968 v953
  let v1124 : Index := Scalar.indexCast v969
  let c768_708 : Index := 768#32
  let c0_709 : Index := 0#32
  ![0, v1124.toNat, 768, 0]
def k0_off29 (k0_t1 : Fin k0_t1_loop.trips) : Fin 4 → Nat :=
  let c0_721 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let c0_i32_640 : BitVec 32 := 0#32
  let v1013 : BitVec 1 := Scalar.cmpi .sgt v1009 c0_i32_640
  let v1014 : BitVec 32 := Scalar.extui v1013
  let c0_i32_641 : BitVec 32 := 0#32
  let v1015 : BitVec 1 := Scalar.cmpi .slt v1009 c0_i32_641
  let v1016 : BitVec 32 := Scalar.extui v1015
  let v1017 : BitVec 32 := Scalar.subi v1014 v1016
  let c2_i32_639 : BitVec 32 := 2#32
  let c0_i32_642 : BitVec 32 := 0#32
  let v1018 : BitVec 1 := Scalar.cmpi .sgt c2_i32_639 c0_i32_642
  let v1019 : BitVec 32 := Scalar.extui v1018
  let c0_i32_643 : BitVec 32 := 0#32
  let v1020 : BitVec 1 := Scalar.cmpi .slt c2_i32_639 c0_i32_643
  let v1021 : BitVec 32 := Scalar.extui v1020
  let v1022 : BitVec 32 := Scalar.subi v1019 v1021
  let v1023 : BitVec 1 := Scalar.cmpi .ne v1017 v1022
  let v1024 : BitVec 32 := Scalar.remsi v1009 c2_i32_639
  let c0_i32_644 : BitVec 32 := 0#32
  let v1025 : BitVec 1 := Scalar.cmpi .ne v1024 c0_i32_644
  let v1026 : BitVec 1 := Scalar.andi v1023 v1025
  let v1012 : BitVec 32 := Scalar.divsi v1009 c2_i32_639
  let c1_i32_645 : BitVec 32 := 1#32
  let v1027 : BitVec 32 := Scalar.subi v1012 c1_i32_645
  let v1028 : BitVec 32 := Scalar.select v1026 v1027 v1012
  let v1149 : Index := Scalar.indexCast v1028
  let c768_722 : Index := 768#32
  let c0_723 : Index := 0#32
  ![0, v1149.toNat, 768, 0]
def k0_off30 (k0_t1 : Fin k0_t1_loop.trips) : Fin 4 → Nat :=
  let c0_727 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let c0_i32_610 : BitVec 32 := 0#32
  let v954 : BitVec 1 := Scalar.cmpi .sgt v950 c0_i32_610
  let v955 : BitVec 32 := Scalar.extui v954
  let c0_i32_611 : BitVec 32 := 0#32
  let v956 : BitVec 1 := Scalar.cmpi .slt v950 c0_i32_611
  let v957 : BitVec 32 := Scalar.extui v956
  let v958 : BitVec 32 := Scalar.subi v955 v957
  let c2_i32_609 : BitVec 32 := 2#32
  let c0_i32_612 : BitVec 32 := 0#32
  let v959 : BitVec 1 := Scalar.cmpi .sgt c2_i32_609 c0_i32_612
  let v960 : BitVec 32 := Scalar.extui v959
  let c0_i32_613 : BitVec 32 := 0#32
  let v961 : BitVec 1 := Scalar.cmpi .slt c2_i32_609 c0_i32_613
  let v962 : BitVec 32 := Scalar.extui v961
  let v963 : BitVec 32 := Scalar.subi v960 v962
  let v964 : BitVec 1 := Scalar.cmpi .ne v958 v963
  let v965 : BitVec 32 := Scalar.remsi v950 c2_i32_609
  let c0_i32_614 : BitVec 32 := 0#32
  let v966 : BitVec 1 := Scalar.cmpi .ne v965 c0_i32_614
  let v967 : BitVec 1 := Scalar.andi v964 v966
  let v953 : BitVec 32 := Scalar.divsi v950 c2_i32_609
  let c1_i32_615 : BitVec 32 := 1#32
  let v968 : BitVec 32 := Scalar.subi v953 c1_i32_615
  let v969 : BitVec 32 := Scalar.select v967 v968 v953
  let v1156 : Index := Scalar.indexCast v969
  let c1024_728 : Index := 1024#32
  let c0_729 : Index := 0#32
  ![0, v1156.toNat, 1024, 0]
def k0_off31 (k0_t1 : Fin k0_t1_loop.trips) : Fin 4 → Nat :=
  let c0_741 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let c0_i32_640 : BitVec 32 := 0#32
  let v1013 : BitVec 1 := Scalar.cmpi .sgt v1009 c0_i32_640
  let v1014 : BitVec 32 := Scalar.extui v1013
  let c0_i32_641 : BitVec 32 := 0#32
  let v1015 : BitVec 1 := Scalar.cmpi .slt v1009 c0_i32_641
  let v1016 : BitVec 32 := Scalar.extui v1015
  let v1017 : BitVec 32 := Scalar.subi v1014 v1016
  let c2_i32_639 : BitVec 32 := 2#32
  let c0_i32_642 : BitVec 32 := 0#32
  let v1018 : BitVec 1 := Scalar.cmpi .sgt c2_i32_639 c0_i32_642
  let v1019 : BitVec 32 := Scalar.extui v1018
  let c0_i32_643 : BitVec 32 := 0#32
  let v1020 : BitVec 1 := Scalar.cmpi .slt c2_i32_639 c0_i32_643
  let v1021 : BitVec 32 := Scalar.extui v1020
  let v1022 : BitVec 32 := Scalar.subi v1019 v1021
  let v1023 : BitVec 1 := Scalar.cmpi .ne v1017 v1022
  let v1024 : BitVec 32 := Scalar.remsi v1009 c2_i32_639
  let c0_i32_644 : BitVec 32 := 0#32
  let v1025 : BitVec 1 := Scalar.cmpi .ne v1024 c0_i32_644
  let v1026 : BitVec 1 := Scalar.andi v1023 v1025
  let v1012 : BitVec 32 := Scalar.divsi v1009 c2_i32_639
  let c1_i32_645 : BitVec 32 := 1#32
  let v1027 : BitVec 32 := Scalar.subi v1012 c1_i32_645
  let v1028 : BitVec 32 := Scalar.select v1026 v1027 v1012
  let v1181 : Index := Scalar.indexCast v1028
  let c1024_742 : Index := 1024#32
  let c0_743 : Index := 0#32
  ![0, v1181.toNat, 1024, 0]
def k0_off32 (k0_t1 : Fin k0_t1_loop.trips) : Fin 4 → Nat :=
  let c0_747 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let c0_i32_610 : BitVec 32 := 0#32
  let v954 : BitVec 1 := Scalar.cmpi .sgt v950 c0_i32_610
  let v955 : BitVec 32 := Scalar.extui v954
  let c0_i32_611 : BitVec 32 := 0#32
  let v956 : BitVec 1 := Scalar.cmpi .slt v950 c0_i32_611
  let v957 : BitVec 32 := Scalar.extui v956
  let v958 : BitVec 32 := Scalar.subi v955 v957
  let c2_i32_609 : BitVec 32 := 2#32
  let c0_i32_612 : BitVec 32 := 0#32
  let v959 : BitVec 1 := Scalar.cmpi .sgt c2_i32_609 c0_i32_612
  let v960 : BitVec 32 := Scalar.extui v959
  let c0_i32_613 : BitVec 32 := 0#32
  let v961 : BitVec 1 := Scalar.cmpi .slt c2_i32_609 c0_i32_613
  let v962 : BitVec 32 := Scalar.extui v961
  let v963 : BitVec 32 := Scalar.subi v960 v962
  let v964 : BitVec 1 := Scalar.cmpi .ne v958 v963
  let v965 : BitVec 32 := Scalar.remsi v950 c2_i32_609
  let c0_i32_614 : BitVec 32 := 0#32
  let v966 : BitVec 1 := Scalar.cmpi .ne v965 c0_i32_614
  let v967 : BitVec 1 := Scalar.andi v964 v966
  let v953 : BitVec 32 := Scalar.divsi v950 c2_i32_609
  let c1_i32_615 : BitVec 32 := 1#32
  let v968 : BitVec 32 := Scalar.subi v953 c1_i32_615
  let v969 : BitVec 32 := Scalar.select v967 v968 v953
  let v1188 : Index := Scalar.indexCast v969
  let c1280_748 : Index := 1280#32
  let c0_749 : Index := 0#32
  ![0, v1188.toNat, 1280, 0]
def k0_off33 (k0_t1 : Fin k0_t1_loop.trips) : Fin 4 → Nat :=
  let c0_761 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let c0_i32_640 : BitVec 32 := 0#32
  let v1013 : BitVec 1 := Scalar.cmpi .sgt v1009 c0_i32_640
  let v1014 : BitVec 32 := Scalar.extui v1013
  let c0_i32_641 : BitVec 32 := 0#32
  let v1015 : BitVec 1 := Scalar.cmpi .slt v1009 c0_i32_641
  let v1016 : BitVec 32 := Scalar.extui v1015
  let v1017 : BitVec 32 := Scalar.subi v1014 v1016
  let c2_i32_639 : BitVec 32 := 2#32
  let c0_i32_642 : BitVec 32 := 0#32
  let v1018 : BitVec 1 := Scalar.cmpi .sgt c2_i32_639 c0_i32_642
  let v1019 : BitVec 32 := Scalar.extui v1018
  let c0_i32_643 : BitVec 32 := 0#32
  let v1020 : BitVec 1 := Scalar.cmpi .slt c2_i32_639 c0_i32_643
  let v1021 : BitVec 32 := Scalar.extui v1020
  let v1022 : BitVec 32 := Scalar.subi v1019 v1021
  let v1023 : BitVec 1 := Scalar.cmpi .ne v1017 v1022
  let v1024 : BitVec 32 := Scalar.remsi v1009 c2_i32_639
  let c0_i32_644 : BitVec 32 := 0#32
  let v1025 : BitVec 1 := Scalar.cmpi .ne v1024 c0_i32_644
  let v1026 : BitVec 1 := Scalar.andi v1023 v1025
  let v1012 : BitVec 32 := Scalar.divsi v1009 c2_i32_639
  let c1_i32_645 : BitVec 32 := 1#32
  let v1027 : BitVec 32 := Scalar.subi v1012 c1_i32_645
  let v1028 : BitVec 32 := Scalar.select v1026 v1027 v1012
  let v1213 : Index := Scalar.indexCast v1028
  let c1280_762 : Index := 1280#32
  let c0_763 : Index := 0#32
  ![0, v1213.toNat, 1280, 0]
def k0_off34 (k0_t1 : Fin k0_t1_loop.trips) : Fin 4 → Nat :=
  let c0_767 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let c0_i32_610 : BitVec 32 := 0#32
  let v954 : BitVec 1 := Scalar.cmpi .sgt v950 c0_i32_610
  let v955 : BitVec 32 := Scalar.extui v954
  let c0_i32_611 : BitVec 32 := 0#32
  let v956 : BitVec 1 := Scalar.cmpi .slt v950 c0_i32_611
  let v957 : BitVec 32 := Scalar.extui v956
  let v958 : BitVec 32 := Scalar.subi v955 v957
  let c2_i32_609 : BitVec 32 := 2#32
  let c0_i32_612 : BitVec 32 := 0#32
  let v959 : BitVec 1 := Scalar.cmpi .sgt c2_i32_609 c0_i32_612
  let v960 : BitVec 32 := Scalar.extui v959
  let c0_i32_613 : BitVec 32 := 0#32
  let v961 : BitVec 1 := Scalar.cmpi .slt c2_i32_609 c0_i32_613
  let v962 : BitVec 32 := Scalar.extui v961
  let v963 : BitVec 32 := Scalar.subi v960 v962
  let v964 : BitVec 1 := Scalar.cmpi .ne v958 v963
  let v965 : BitVec 32 := Scalar.remsi v950 c2_i32_609
  let c0_i32_614 : BitVec 32 := 0#32
  let v966 : BitVec 1 := Scalar.cmpi .ne v965 c0_i32_614
  let v967 : BitVec 1 := Scalar.andi v964 v966
  let v953 : BitVec 32 := Scalar.divsi v950 c2_i32_609
  let c1_i32_615 : BitVec 32 := 1#32
  let v968 : BitVec 32 := Scalar.subi v953 c1_i32_615
  let v969 : BitVec 32 := Scalar.select v967 v968 v953
  let v1220 : Index := Scalar.indexCast v969
  let c1536_768 : Index := 1536#32
  let c0_769 : Index := 0#32
  ![0, v1220.toNat, 1536, 0]
def k0_off35 (k0_t1 : Fin k0_t1_loop.trips) : Fin 4 → Nat :=
  let c0_781 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let c0_i32_640 : BitVec 32 := 0#32
  let v1013 : BitVec 1 := Scalar.cmpi .sgt v1009 c0_i32_640
  let v1014 : BitVec 32 := Scalar.extui v1013
  let c0_i32_641 : BitVec 32 := 0#32
  let v1015 : BitVec 1 := Scalar.cmpi .slt v1009 c0_i32_641
  let v1016 : BitVec 32 := Scalar.extui v1015
  let v1017 : BitVec 32 := Scalar.subi v1014 v1016
  let c2_i32_639 : BitVec 32 := 2#32
  let c0_i32_642 : BitVec 32 := 0#32
  let v1018 : BitVec 1 := Scalar.cmpi .sgt c2_i32_639 c0_i32_642
  let v1019 : BitVec 32 := Scalar.extui v1018
  let c0_i32_643 : BitVec 32 := 0#32
  let v1020 : BitVec 1 := Scalar.cmpi .slt c2_i32_639 c0_i32_643
  let v1021 : BitVec 32 := Scalar.extui v1020
  let v1022 : BitVec 32 := Scalar.subi v1019 v1021
  let v1023 : BitVec 1 := Scalar.cmpi .ne v1017 v1022
  let v1024 : BitVec 32 := Scalar.remsi v1009 c2_i32_639
  let c0_i32_644 : BitVec 32 := 0#32
  let v1025 : BitVec 1 := Scalar.cmpi .ne v1024 c0_i32_644
  let v1026 : BitVec 1 := Scalar.andi v1023 v1025
  let v1012 : BitVec 32 := Scalar.divsi v1009 c2_i32_639
  let c1_i32_645 : BitVec 32 := 1#32
  let v1027 : BitVec 32 := Scalar.subi v1012 c1_i32_645
  let v1028 : BitVec 32 := Scalar.select v1026 v1027 v1012
  let v1245 : Index := Scalar.indexCast v1028
  let c1536_782 : Index := 1536#32
  let c0_783 : Index := 0#32
  ![0, v1245.toNat, 1536, 0]
def k0_off36 (k0_t1 : Fin k0_t1_loop.trips) : Fin 4 → Nat :=
  let c0_787 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_593 : BitVec 32 := 1#32
  let v922 : BitVec 32 := Scalar.addi v534 c1_i32_593
  let c4_i32_602 : BitVec 32 := 4#32
  let c0_i32_603 : BitVec 32 := 0#32
  let v941 : BitVec 1 := Scalar.cmpi .eq c4_i32_602 c0_i32_603
  let c1_i32_604 : BitVec 32 := 1#32
  let v942 : BitVec 32 := Scalar.select v941 c1_i32_604 c4_i32_602
  let v943 : BitVec 32 := Scalar.remsi v922 v942
  let c0_i32_606 : BitVec 32 := 0#32
  let v945 : BitVec 1 := Scalar.cmpi .slt v943 c0_i32_606
  let c0_i32_607 : BitVec 32 := 0#32
  let v946 : BitVec 1 := Scalar.cmpi .slt v942 c0_i32_607
  let v947 : BitVec 1 := Scalar.xori v945 v946
  let c0_i32_605 : BitVec 32 := 0#32
  let v944 : BitVec 1 := Scalar.cmpi .ne v943 c0_i32_605
  let v948 : BitVec 1 := Scalar.andi v947 v944
  let v949 : BitVec 32 := Scalar.addi v943 v942
  let v950 : BitVec 32 := Scalar.select v948 v949 v943
  let c0_i32_610 : BitVec 32 := 0#32
  let v954 : BitVec 1 := Scalar.cmpi .sgt v950 c0_i32_610
  let v955 : BitVec 32 := Scalar.extui v954
  let c0_i32_611 : BitVec 32 := 0#32
  let v956 : BitVec 1 := Scalar.cmpi .slt v950 c0_i32_611
  let v957 : BitVec 32 := Scalar.extui v956
  let v958 : BitVec 32 := Scalar.subi v955 v957
  let c2_i32_609 : BitVec 32 := 2#32
  let c0_i32_612 : BitVec 32 := 0#32
  let v959 : BitVec 1 := Scalar.cmpi .sgt c2_i32_609 c0_i32_612
  let v960 : BitVec 32 := Scalar.extui v959
  let c0_i32_613 : BitVec 32 := 0#32
  let v961 : BitVec 1 := Scalar.cmpi .slt c2_i32_609 c0_i32_613
  let v962 : BitVec 32 := Scalar.extui v961
  let v963 : BitVec 32 := Scalar.subi v960 v962
  let v964 : BitVec 1 := Scalar.cmpi .ne v958 v963
  let v965 : BitVec 32 := Scalar.remsi v950 c2_i32_609
  let c0_i32_614 : BitVec 32 := 0#32
  let v966 : BitVec 1 := Scalar.cmpi .ne v965 c0_i32_614
  let v967 : BitVec 1 := Scalar.andi v964 v966
  let v953 : BitVec 32 := Scalar.divsi v950 c2_i32_609
  let c1_i32_615 : BitVec 32 := 1#32
  let v968 : BitVec 32 := Scalar.subi v953 c1_i32_615
  let v969 : BitVec 32 := Scalar.select v967 v968 v953
  let v1252 : Index := Scalar.indexCast v969
  let c1792_788 : Index := 1792#32
  let c0_789 : Index := 0#32
  ![0, v1252.toNat, 1792, 0]
def k0_off37 (k0_t1 : Fin k0_t1_loop.trips) : Fin 4 → Nat :=
  let c0_801 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let c0_i32_640 : BitVec 32 := 0#32
  let v1013 : BitVec 1 := Scalar.cmpi .sgt v1009 c0_i32_640
  let v1014 : BitVec 32 := Scalar.extui v1013
  let c0_i32_641 : BitVec 32 := 0#32
  let v1015 : BitVec 1 := Scalar.cmpi .slt v1009 c0_i32_641
  let v1016 : BitVec 32 := Scalar.extui v1015
  let v1017 : BitVec 32 := Scalar.subi v1014 v1016
  let c2_i32_639 : BitVec 32 := 2#32
  let c0_i32_642 : BitVec 32 := 0#32
  let v1018 : BitVec 1 := Scalar.cmpi .sgt c2_i32_639 c0_i32_642
  let v1019 : BitVec 32 := Scalar.extui v1018
  let c0_i32_643 : BitVec 32 := 0#32
  let v1020 : BitVec 1 := Scalar.cmpi .slt c2_i32_639 c0_i32_643
  let v1021 : BitVec 32 := Scalar.extui v1020
  let v1022 : BitVec 32 := Scalar.subi v1019 v1021
  let v1023 : BitVec 1 := Scalar.cmpi .ne v1017 v1022
  let v1024 : BitVec 32 := Scalar.remsi v1009 c2_i32_639
  let c0_i32_644 : BitVec 32 := 0#32
  let v1025 : BitVec 1 := Scalar.cmpi .ne v1024 c0_i32_644
  let v1026 : BitVec 1 := Scalar.andi v1023 v1025
  let v1012 : BitVec 32 := Scalar.divsi v1009 c2_i32_639
  let c1_i32_645 : BitVec 32 := 1#32
  let v1027 : BitVec 32 := Scalar.subi v1012 c1_i32_645
  let v1028 : BitVec 32 := Scalar.select v1026 v1027 v1012
  let v1277 : Index := Scalar.indexCast v1028
  let c1792_802 : Index := 1792#32
  let c0_803 : Index := 0#32
  ![0, v1277.toNat, 1792, 0]
def k0_off38 (k0_t1 : Fin k0_t1_loop.trips) : Fin 4 → Nat :=
  let c0_812 : Index := 0#32
  let c2_i32 : BitVec 32 := 2#32
  let c0_i32 : BitVec 32 := 0#32
  let c1_i32 : BitVec 32 := 1#32
  let arg11 : BitVec 32 := Scf.iv c0_i32 c1_i32 k0_t1
  let v533 : BitVec 32 := Scalar.muli c2_i32 arg11
  let c2_i32_372 : BitVec 32 := 2#32
  let v534 : BitVec 32 := Scalar.addi v533 c2_i32_372
  let c1_i32_594 : BitVec 32 := 1#32
  let v923 : BitVec 32 := Scalar.subi v534 c1_i32_594
  let c4_i32_632 : BitVec 32 := 4#32
  let c0_i32_633 : BitVec 32 := 0#32
  let v1000 : BitVec 1 := Scalar.cmpi .eq c4_i32_632 c0_i32_633
  let c1_i32_634 : BitVec 32 := 1#32
  let v1001 : BitVec 32 := Scalar.select v1000 c1_i32_634 c4_i32_632
  let v1002 : BitVec 32 := Scalar.remsi v923 v1001
  let c0_i32_636 : BitVec 32 := 0#32
  let v1004 : BitVec 1 := Scalar.cmpi .slt v1002 c0_i32_636
  let c0_i32_637 : BitVec 32 := 0#32
  let v1005 : BitVec 1 := Scalar.cmpi .slt v1001 c0_i32_637
  let v1006 : BitVec 1 := Scalar.xori v1004 v1005
  let c0_i32_635 : BitVec 32 := 0#32
  let v1003 : BitVec 1 := Scalar.cmpi .ne v1002 c0_i32_635
  let v1007 : BitVec 1 := Scalar.andi v1006 v1003
  let v1008 : BitVec 32 := Scalar.addi v1002 v1001
  let v1009 : BitVec 32 := Scalar.select v1007 v1008 v1002
  let v1302 : Index := Scalar.indexCast v1009
  let c0_i32_626 : BitVec 32 := 0#32
  let v984 : BitVec 1 := Scalar.cmpi .sgt v923 c0_i32_626
  let v985 : BitVec 32 := Scalar.extui v984
  let c0_i32_627 : BitVec 32 := 0#32
  let v986 : BitVec 1 := Scalar.cmpi .slt v923 c0_i32_627
  let v987 : BitVec 32 := Scalar.extui v986
  let v988 : BitVec 32 := Scalar.subi v985 v987
  let c4_i32_625 : BitVec 32 := 4#32
  let c0_i32_628 : BitVec 32 := 0#32
  let v989 : BitVec 1 := Scalar.cmpi .sgt c4_i32_625 c0_i32_628
  let v990 : BitVec 32 := Scalar.extui v989
  let c0_i32_629 : BitVec 32 := 0#32
  let v991 : BitVec 1 := Scalar.cmpi .slt c4_i32_625 c0_i32_629
  let v992 : BitVec 32 := Scalar.extui v991
  let v993 : BitVec 32 := Scalar.subi v990 v992
  let v994 : BitVec 1 := Scalar.cmpi .ne v988 v993
  let v995 : BitVec 32 := Scalar.remsi v923 c4_i32_625
  let c0_i32_630 : BitVec 32 := 0#32
  let v996 : BitVec 1 := Scalar.cmpi .ne v995 c0_i32_630
  let v997 : BitVec 1 := Scalar.andi v994 v996
  let v983 : BitVec 32 := Scalar.divsi v923 c4_i32_625
  let c1_i32_631 : BitVec 32 := 1#32
  let v998 : BitVec 32 := Scalar.subi v983 c1_i32_631
  let v999 : BitVec 32 := Scalar.select v997 v998 v983
  let c512_i32_638 : BitVec 32 := 512#32
  let v1010 : BitVec 32 := Scalar.muli v999 c512_i32_638
  let v1011 : BitVec 32 := v1010
  let v1303 : Index := Scalar.indexCast v1011
  let c0_813 : Index := 0#32
  ![0, v1302.toNat, v1303.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x2048x512 : Shape := ⟨3, ![16, 2048, 512]⟩
abbrev S16x2048x128 : Shape := ⟨3, ![16, 2048, 128]⟩
abbrev S16x2048x2x4x64 : Shape := ⟨5, ![16, 2048, 2, 4, 64]⟩
abbrev S16x2048x2x64 : Shape := ⟨4, ![16, 2048, 2, 64]⟩
abbrev S16x2x2048x2048x4 : Shape := ⟨5, ![16, 2, 2048, 2048, 4]⟩
abbrev S16x2x4x2048x2048 : Shape := ⟨5, ![16, 2, 4, 2048, 2048]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x4x128 : Shape := ⟨4, ![16, 2048, 4, 128]⟩
abbrev S16x4x2048x128 : Shape := ⟨4, ![16, 4, 2048, 128]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S16x2048x2x4x64, .f32⟩
  | .hbm, ⟨4, _⟩ => ⟨S16x2048x2x64, .f32⟩
  | .hbm, ⟨5, _⟩ => ⟨S16x2048x2x64, .f32⟩
  | .hbm, ⟨6, _⟩ => ⟨S16x2x2048x2048x4, .f32⟩
  | .hbm, ⟨7, _⟩ => ⟨S16x2x4x2048x2048, .f32⟩
  | .hbm, ⟨8, _⟩ => ⟨S_, .f32⟩
  | .hbm, ⟨9, _⟩ => ⟨S16x2x4x2048x2048, .f32⟩
  | .hbm, ⟨10, _⟩ => ⟨S16x2x4x2048x2048, .f32⟩
  | .hbm, ⟨11, _⟩ => ⟨S_, .f32⟩
  | .hbm, ⟨12, _⟩ => ⟨S16x2x4x2048, .f32⟩
  | .hbm, ⟨13, _⟩ => ⟨S_, .f32⟩
  | .hbm, ⟨14, _⟩ => ⟨S16x2x4x2048, .f32⟩
  | .hbm, ⟨15, _⟩ => ⟨S16x2x4x2048, .f32⟩
  | .hbm, ⟨16, _⟩ => ⟨S16x2x4x2048x1, .f32⟩
  | .hbm, ⟨17, _⟩ => ⟨S16x2x4x2048x2048, .f32⟩
  | .hbm, ⟨18, _⟩ => ⟨S16x2x4x2048x2048, .f32⟩
  | .hbm, ⟨19, _⟩ => ⟨S16x2x4x2048x2048, .f32⟩
  | .hbm, ⟨20, _⟩ => ⟨S_, .f32⟩
  | .hbm, ⟨21, _⟩ => ⟨S16x2x4x2048, .f32⟩
  | .hbm, ⟨22, _⟩ => ⟨S16x2x4x2048x1, .f32⟩
  | .hbm, ⟨23, _⟩ => ⟨S16x2x4x2048x2048, .f32⟩
  | .hbm, ⟨24, _⟩ => ⟨S16x2x4x2048x2048, .f32⟩
  | .hbm, ⟨25, _⟩ => ⟨S16x2x64x4x2048, .f32⟩
  | .hbm, ⟨26, _⟩ => ⟨S16x2048x2x4x64, .f32⟩
  | .hbm, ⟨27, _⟩ => ⟨S16x2048x512, .f32⟩
  | .hbm, ⟨28, _⟩ => ⟨S16x2048x4x128, .f32⟩
  | .hbm, ⟨29, _⟩ => ⟨S16x4x2048x128, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel2.lean ====
abbrev S16x16x256 : Shape := ⟨3, ![16, 16, 256]⟩
abbrev S16x2048x512 : Shape := ⟨3, ![16, 2048, 512]⟩
abbrev S16x1024x1024 : Shape := ⟨3, ![16, 1024, 1024]⟩
abbrev S128x2x256 : Shape := ⟨3, ![128, 2, 256]⟩
abbrev S16x4096x1024 : Shape := ⟨3, ![16, 4096, 1024]⟩
abbrev S1x2x256 : Shape := ⟨3, ![1, 2, 256]⟩
abbrev S2x2048x512 : Shape := ⟨3, ![2, 2048, 512]⟩
abbrev S1x1024x1024 : Shape := ⟨3, ![1, 1024, 1024]⟩
abbrev S1x512x1024 : Shape := ⟨3, ![1, 512, 1024]⟩
abbrev S1024x1024 : Shape := ⟨2, ![1024, 1024]⟩
abbrev S2x512x512 : Shape := ⟨3, ![2, 512, 512]⟩
abbrev S1x512x512 : Shape := ⟨3, ![1, 512, 512]⟩
abbrev S512x512 : Shape := ⟨2, ![512, 512]⟩
abbrev S512x1024 : Shape := ⟨2, ![512, 1024]⟩
abbrev S1x1x1 : Shape := ⟨3, ![1, 1, 1]⟩
abbrev S1x1x512 : Shape := ⟨3, ![1, 1, 512]⟩
abbrev S1x512 : Shape := ⟨2, ![1, 512]⟩

abbrev nBuf : Space → Nat
  | .hbm => 8
  | .vmem => 14
  | .smem => 2
  | _ => 0

abbrev bufTy : (tb : Table) → Fin (tcTables nBuf tb) → BufTy
  | .hbm, ⟨0, _⟩ => ⟨S16x16x256, .i32⟩
  | .hbm, ⟨1, _⟩ => ⟨S16x2048x512, .i32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x16x256, .i32⟩
  | .hbm, ⟨6, _⟩ => ⟨S128x2x256, .i32⟩
  | .hbm, ⟨7, _⟩ => ⟨S16x4096x1024, .f32⟩
  | .local _ .vmem, ⟨0, _⟩ => ⟨S2x2048x512, .i32⟩
  | .local _ .vmem, ⟨1, _⟩ => ⟨S2x2048x512, .i32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x512x512, .i32⟩
  | .local _ .smem, ⟨0, _⟩ => ⟨S1x2x256, .i32⟩
  | .local _ .smem, ⟨1, _⟩ => ⟨S1x2x256, .i32⟩
  | _, _ => ⟨S16x16x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let arg0 : BitVec 32 := BitVec.ofNat 32 (i 0).val
  let c1_i32_9 : BitVec 32 := 1#32
  let v18 : BitVec 32 := Scalar.addi arg0 c1_i32_9
  let c2_i32 : BitVec 32 := 2#32
  let c0_i32_10 : BitVec 32 := 0#32
  let v19 : BitVec 1 := Scalar.cmpi .eq c2_i32 c0_i32_10
  let c1_i32_11 : BitVec 32 := 1#32
  let v20 : BitVec 32 := Scalar.select v19 c1_i32_11 c2_i32
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v29 : Index := Scalar.indexCast v28
  let c0 : Index := 0#32
  let c0_15 : Index := 0#32
  ![v29.toNat, 0, 0]
@[reducible] def k0_t1_loop : Scf.Loop 32 :=
  let c0_i32_40 : BitVec 32 := 0#32
  let c256_i32 : BitVec 32 := 256#32
  let v73 : BitVec 32 := Scalar.addi c0_i32_40 c256_i32
  let c1_i32_41 : BitVec 32 := 1#32
  ⟨c0_i32_40, v73, c1_i32_41⟩
def k0_off2 (k0_t1 : Fin k0_t1_loop.trips) : Fin 3 → Nat :=
  let c0_47 : Index := 0#32
  let c0_48 : Index := 0#32
  let c0_i32_40 : BitVec 32 := 0#32
  let c1_i32_41 : BitVec 32 := 1#32
  let arg11 : BitVec 32 := Scf.iv c0_i32_40 c1_i32_41 k0_t1
  let v75 : Index := Scalar.indexCast arg11
  ![0, 0, v75.toNat]
def k0_off3 (v76 : BitVec 32) : Fin 3 → Nat :=
  let c0_49 : Index := 0#32
  let v77 : Index := Scalar.indexCast v76
  let c0_50 : Index := 0#32
  ![0, v77.toNat, 0]

def k0_chk1 (v76 : BitVec 32) : Prop :=
  (∀ a, (k0_off3 v76) a + S1x1x512.size a ≤ S2x2048x512.size a)
theorem k0_off3_inb : ∀ (v76 : BitVec 32) (k0_hw1 : k0_chk1 v76), ∀ a, (k0_off3 v76) a + S1x1x512.size a ≤ S2x2048x512.size a := fun v76 k0_hw1 => k0_hw1

def k0_off4 (i : grid0.Coords) (k0_t1 : Fin k0_t1_loop.trips) : Fin 3 → Nat :=
  let arg0 : BitVec 32 := BitVec.ofNat 32 (i 0).val
  let c2_i32_34 : BitVec 32 := 2#32
  let c0_i32_35 : BitVec 32 := 0#32
  let v63 : BitVec 1 := Scalar.cmpi .eq c2_i32_34 c0_i32_35
  let c1_i32_36 : BitVec 32 := 1#32
  let v64 : BitVec 32 := Scalar.select v63 c1_i32_36 c2_i32_34
  let v65 : BitVec 32 := Scalar.remsi arg0 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  let v81 : Index := Scalar.indexCast v72
  let c0_i32_51 : BitVec 32 := 0#32
  let c0_i32_40 : BitVec 32 := 0#32
  let c1_i32_41 : BitVec 32 := 1#32
  let arg11 : BitVec 32 := Scf.iv c0_i32_40 c1_i32_41 k0_t1
  let v80 : BitVec 32 := Scalar.addi c0_i32_51 arg11
  let v82 : Index := Scalar.indexCast v80
  let c0_52 : Index := 0#32
  ![v81.toNat, v82.toNat, 0]
@[reducible] def k0_t2_loop : Scf.Loop 32 :=
  let c0_i32_43 : BitVec 32 := 0#32
  let c256_i32_44 : BitVec 32 := 256#32
  let v74 : BitVec 32 := Scalar.addi c0_i32_43 c256_i32_44
  let c1_i32_45 : BitVec 32 := 1#32
  ⟨c0_i32_43, v74, c1_i32_45⟩
def k0_off5 (k0_t2 : Fin k0_t2_loop.trips) : Fin 3 → Nat :=
  let c0_47 : Index := 0#32
  let c1 : Index := 1#32
  let c0_i32_43 : BitVec 32 := 0#32
  let c1_i32_45 : BitVec 32 := 1#32
  let arg11 : BitVec 32 := Scf.iv c0_i32_43 c1_i32_45 k0_t2
  let v75 : Index := Scalar.indexCast arg11
  ![0, 1, v75.toNat]
def k0_off6 (v76 : BitVec 32) : Fin 3 → Nat :=
  let c1_48 : Index := 1#32
  let v77 : Index := Scalar.indexCast v76
  let c0_49 : Index := 0#32
  ![1, v77.toNat, 0]

def k0_chk2 (v76 : BitVec 32) : Prop :=
  (∀ a, (k0_off6 v76) a + S1x1x512.size a ≤ S2x2048x512.size a)
theorem k0_off6_inb : ∀ (v76 : BitVec 32) (k0_hw2 : k0_chk2 v76), ∀ a, (k0_off6 v76) a + S1x1x512.size a ≤ S2x2048x512.size a := fun v76 k0_hw2 => k0_hw2

def k0_off7 (i : grid0.Coords) (k0_t2 : Fin k0_t2_loop.trips) : Fin 3 → Nat :=
  let arg0 : BitVec 32 := BitVec.ofNat 32 (i 0).val
  let c2_i32_34 : BitVec 32 := 2#32
  let c0_i32_35 : BitVec 32 := 0#32
  let v63 : BitVec 1 := Scalar.cmpi .eq c2_i32_34 c0_i32_35
  let c1_i32_36 : BitVec 32 := 1#32
  let v64 : BitVec 32 := Scalar.select v63 c1_i32_36 c2_i32_34
  let v65 : BitVec 32 := Scalar.remsi arg0 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  let v81 : Index := Scalar.indexCast v72
  let c256_i32_50 : BitVec 32 := 256#32
  let c0_i32_43 : BitVec 32 := 0#32
  let c1_i32_45 : BitVec 32 := 1#32
  let arg11 : BitVec 32 := Scf.iv c0_i32_43 c1_i32_45 k0_t2
  let v80 : BitVec 32 := Scalar.addi c256_i32_50 arg11
  let v82 : Index := Scalar.indexCast v80
  let c0_51 : Index := 0#32
  ![v81.toNat, v82.toNat, 0]
def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .smem S1x2x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x16x256 : Shape := ⟨3, ![16, 16, 256]⟩
abbrev S16x2048x512 : Shape := ⟨3, ![16, 2048, 512]⟩
abbrev S16x1024x1024 : Shape := ⟨3, ![16, 1024, 1024]⟩
abbrev S_ : Shape := ⟨0, ![]⟩
abbrev S16x2048x1024 : Shape := ⟨3, ![16, 2048, 1024]⟩
abbrev S16 : Shape := ⟨1, ![16]⟩
abbrev S16x1x1 : Shape := ⟨3, ![16, 1, 1]⟩
abbrev S16x16x256x1 : Shape := ⟨4, ![16, 16, 256, 1]⟩
abbrev S16x16x256x2 : Shape := ⟨4, ![16, 16, 256, 2]⟩
abbrev S16x16x256x1024 : Shape := ⟨4, ![16, 16, 256, 1024]⟩
abbrev S16x1024x16x256 : Shape := ⟨4, ![16, 1024, 16, 256]⟩
abbrev S16x4096x1024 : Shape := ⟨3, ![16, 4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x16x256, .i32⟩
  | .hbm, ⟨1, _⟩ => ⟨S16x2048x512, .i32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S_, .i32⟩
  | .hbm, ⟨6, _⟩ => ⟨S16x2048x512, .i32⟩
  | .hbm, ⟨7, _⟩ => ⟨S16x2048x512, .i32⟩
  | .hbm, ⟨8, _⟩ => ⟨S16x2048x512, .f32⟩
  | .hbm, ⟨9, _⟩ => ⟨S_, .i32⟩
  | .hbm, ⟨10, _⟩ => ⟨S16x2048x512, .i32⟩
  | .hbm, ⟨11, _⟩ => ⟨S16x2048x512, .i32⟩
  | .hbm, ⟨12, _⟩ => ⟨S16x2048x512, .f32⟩
  | .hbm, ⟨13, _⟩ => ⟨S16x2048x1024, .f32⟩
  | .hbm, ⟨14, _⟩ => ⟨S16, .i32⟩
  | .hbm, ⟨15, _⟩ => ⟨S16x1x1, .i32⟩
  | .hbm, ⟨16, _⟩ => ⟨S_, .i32⟩
  | .hbm, ⟨17, _⟩ => ⟨S16x1x1, .i32⟩
  | .hbm, ⟨18, _⟩ => ⟨S16x1x1, .i1⟩
  | .hbm, ⟨19, _⟩ => ⟨S_, .i32⟩
  | .hbm, ⟨20, _⟩ => ⟨S16x1x1, .i32⟩
  | .hbm, ⟨21, _⟩ => ⟨S16x1x1, .i32⟩
  | .hbm, ⟨22, _⟩ => ⟨S16x1x1, .i32⟩
  | .hbm, ⟨23, _⟩ => ⟨S_, .i32⟩
  | .hbm, ⟨24, _⟩ => ⟨S16x16x256, .i32⟩
  | .hbm, ⟨25, _⟩ => ⟨S16x16x256, .i1⟩
  | .hbm, ⟨26, _⟩ => ⟨S_, .i32⟩
  | .hbm, ⟨27, _⟩ => ⟨S16x16x256, .i32⟩
  | .hbm, ⟨28, _⟩ => ⟨S16x16x256, .i32⟩
  | .hbm, ⟨29, _⟩ => ⟨S16x16x256, .i32⟩
  | .hbm, ⟨30, _⟩ => ⟨S16x16x256, .i32⟩
  | .hbm, ⟨31, _⟩ => ⟨S16x16x256x1, .i32⟩
  | .hbm, ⟨32, _⟩ => ⟨S16x16x256x1, .i32⟩
  | .hbm, ⟨33, _⟩ => ⟨S16x16x256x2, .i32⟩
  | .hbm, ⟨34, _⟩ => ⟨S16x16x256x1024, .f32⟩
  | .hbm, ⟨35, _⟩ => ⟨S16x1024x16x256, .f32⟩
  | .hbm, ⟨36, _⟩ => ⟨S16x16x256x1024, .f32⟩
  | .hbm, ⟨37, _⟩ => ⟨S16x1024x16x256, .f32⟩
  | .hbm, ⟨38, _⟩ => ⟨S16x16x256x1024, .f32⟩
  | .hbm, ⟨39, _⟩ => ⟨S16x16x256x1024, .f32⟩
  | .hbm, ⟨40, _⟩ => ⟨S16x16x256x1024, .f32⟩
  | .hbm, ⟨41, _⟩ => ⟨S_, .f32⟩
  | .hbm, ⟨42, _⟩ => ⟨S16x16x256x1024, .f32⟩
  | .hbm, ⟨43, _⟩ => ⟨S16x16x256x1024, .f32⟩
  | .hbm, ⟨44, _⟩ => ⟨S_, .f32⟩
  | .hbm, ⟨45, _⟩ => ⟨S16x16x256x1024, .f32⟩
  | .hbm, ⟨46, _⟩ => ⟨S16x16x256x1024, .f32⟩
  | .hbm, ⟨47, _⟩ => ⟨S16x16x256x1024, .f32⟩
  | .hbm, ⟨48, _⟩ => ⟨S16x16x256x1024, .f32⟩
  | .hbm, ⟨49, _⟩ => ⟨S16x1024x16x256, .f32⟩
  | .hbm, ⟨50, _⟩ => ⟨S16x16x256x1024, .f32⟩
  | .hbm, ⟨51, _⟩ => ⟨S16x16x256x1024, .f32⟩
  | .hbm, ⟨52, _⟩ => ⟨S16x4096x1024, .f32⟩
  | _, _ => ⟨S16x16x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Proof.Ideal.Softmax.lean ====
/-
  The arithmetic of one row of attention over the extended reals. The row's scores are real numbers `r t`, the values
  arbitrary extended reals `v t`. The kernel takes powers of two of the scores divided by `log 2`, sums the products with
  the values first and divides the sum at the end; the mathematics takes exponentials, divides each one by their sum and
  sums the products with the values last. Both are the same, because the sum of the exponentials is a positive real
  number, by which a sum of extended reals may be divided term by term.
-/
module

public import Idealize.ShloMosaic.PureOps.Ideal
public import Idealize.ShloMosaic.PureOps.Ideal.Laws

@[expose] public section

namespace Cert.Proof

open Idealize.ShloMosaic

/-- A sum of extended reals is multiplied by a nonnegative real term by term. -/
theorem sum_mul_real {ι : Type*} (s : Finset ι) (f : ι → EReal) {c : ℝ} (hc : 0 ≤ c) :
    (∑ t ∈ s, f t) * (c : EReal) = ∑ t ∈ s, f t * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A sum of reals is the same sum among the extended reals. -/
theorem coe_sum {ι : Type*} (s : Finset ι) (f : ι → ℝ) :
    ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-- The maximum of a row, in the extended reals, is the score `r t₀` that no other exceeds. -/
theorem fold_max_real {n : ℕ} (r : Fin n → ℝ) (t₀ : Fin n) (h : ∀ t, r t ≤ r t₀) :
    (Finset.univ : Finset (Fin n)).fold max (⊥ : EReal) (fun t => (r t : EReal)) = (r t₀ : EReal) := by
  apply le_antisymm
  · rw [Finset.fold_max_le]
    exact ⟨bot_le, fun t _ => by exact_mod_cast h t⟩
  · rw [Finset.le_fold_max]
    exact Or.inr ⟨t₀, Finset.mem_univ _, le_refl _⟩

/-- Two to the power `x / log 2` is `e` to the power `x`. -/
theorem exp2_div_log (x : ℝ) : Ideal.exp2 ((x / Real.log 2 : ℝ) : EReal) = ((Real.exp x : ℝ) : EReal) := by
  have h2 : Real.log 2 ≠ 0 := (Real.log_pos (by norm_num)).ne'
  rw [Ideal.exp2_coe]
  congr 1
  show (2 : ℝ) ^ (x / Real.log 2) = _
  rw [Real.rpow_def_of_pos (by norm_num)]
  congr 1
  field_simp

/-- One row: the quotient of sums of powers of two is the sum of the values weighted by the softmax of the scores. -/
theorem softmax_row {n : ℕ} (hn : 0 < n) (r : Fin n → ℝ) (K R : Fin n → EReal) (v : Fin n → EReal)
    (hK : ∀ t, K t = ((r t / Real.log 2 : ℝ) : EReal)) (hR : ∀ t, R t = (r t : EReal)) :
    (∑ t, Ideal.exp2 (K t - (Finset.univ : Finset (Fin n)).fold max ⊥ K) * v t)
        * Ideal.div 1 (∑ t, Ideal.exp2 (K t - (Finset.univ : Finset (Fin n)).fold max ⊥ K) * 1)
      = ∑ t, v t * Ideal.div (Ideal.exp (R t - max ⊥ ((Finset.univ : Finset (Fin n)).fold max ⊥ R)))
          (∑ u, Ideal.exp (R u - max ⊥ ((Finset.univ : Finset (Fin n)).fold max ⊥ R))) := by
  haveI : Nonempty (Fin n) := ⟨⟨0, hn⟩⟩
  obtain ⟨t₀, ht₀⟩ := Finite.exists_max r
  have hl : 0 < Real.log 2 := Real.log_pos (by norm_num)
  obtain rfl : K = fun t => ((r t / Real.log 2 : ℝ) : EReal) := funext hK
  obtain rfl : R = fun t => (r t : EReal) := funext hR
  rw [fold_max_real (fun t => r t / Real.log 2) t₀ (fun t => div_le_div_of_nonneg_right (ht₀ t) hl.le),
    fold_max_real r t₀ ht₀]
  have hk : ∀ t, Ideal.exp2 (((r t / Real.log 2 : ℝ) : EReal) - ((r t₀ / Real.log 2 : ℝ) : EReal))
      = ((Real.exp (r t - r t₀) : ℝ) : EReal) := fun t => by
    rw [← EReal.coe_sub, ← sub_div, exp2_div_log]
  have hr : ∀ t, Ideal.exp ((r t : EReal) - max ⊥ (r t₀ : EReal)) = ((Real.exp (r t - r t₀) : ℝ) : EReal) := fun t => by
    rw [max_eq_right bot_le, ← EReal.coe_sub, Ideal.exp_coe]
  simp only [hk, hr, mul_one]
  rw [← coe_sum]
  have hpos : 0 < ∑ t, Real.exp (r t - r t₀) :=
    Finset.sum_pos (fun t _ => Real.exp_pos _) Finset.univ_nonempty
  rw [Ideal.div_coe hpos.ne', one_mul, sum_mul_real _ _ (by positivity)]
  refine Finset.sum_congr rfl fun t _ => ?_
  rw [Ideal.div_coe hpos.ne', mul_assoc, mul_left_comm]

end Cert.Proof
-- ==== Proof.Ideal.Offsets.lean ====
/-
  Where the trips of the attention loop read and store. Trip `k` works on the units `2k` to `2k + 3`: a unit is a block
  of 512 query rows and a pair of heads. The offsets are printed as chains of 32-bit words; here is each in closed form.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

@[expose] public section

noncomputable section

namespace Cert.Proof.KernelIdeal

open Cert.KernelIdeal
open Idealize.ShloMosaic

/-- The loop runs seven trips. -/
theorem trips_eq : k0_t1_loop.trips = 7 := by decide

theorem trip_lt (k : Fin k0_t1_loop.trips) : k.val < 7 := trips_eq ▸ k.isLt

/-- The condition of the second half of a trip (`i ≥ 0`) holds at every trip. -/
theorem cond_true : ∀ k : Fin k0_t1_loop.trips, k0_cond1 k = 1#1 := by decide +kernel

/-- The even head's queries of unit `2k + 2`. -/
instance closed1 (k : Fin k0_t1_loop.trips) : ClosedOff (k0_off1 k) :=
  ⟨![0, 2 * (2 * ((k.val + 1) % 2)), 512 * ((k.val + 1) / 2), 0], by revert k; decide +kernel⟩

/-- The odd head's queries of unit `2k + 2`. -/
instance closed2 (k : Fin k0_t1_loop.trips) : ClosedOff (k0_off2 k) :=
  ⟨![0, 2 * (2 * ((k.val + 1) % 2)) + 1, 512 * ((k.val + 1) / 2), 0], by revert k; decide +kernel⟩

/-- Key tile 0 of unit `2k + 2`. -/
instance closed3 (k : Fin k0_t1_loop.trips) : ClosedOff (k0_off3 k) :=
  ⟨![0, (k.val + 1) % 2, 0, 0], by revert k; decide +kernel⟩

/-- Value tile 0 of unit `2k + 0`. -/
instance closed4 (k : Fin k0_t1_loop.trips) : ClosedOff (k0_off4 k) :=
  ⟨![0, k.val % 2, 0, 0], by revert k; decide +kernel⟩

/-- Key tile 1 of unit `2k + 2`. -/
instance closed5 (k : Fin k0_t1_loop.trips) : ClosedOff (k0_off5 k) :=
  ⟨![0, (k.val + 1) % 2, 256, 0], by revert k; decide +kernel⟩

/-- Value tile 1 of unit `2k + 0`. -/
instance closed6 (k : Fin k0_t1_loop.trips) : ClosedOff (k0_off6 k) :=
  ⟨![0, k.val % 2, 256, 0], by revert k; decide +kernel⟩

/-- Key tile 2 of unit `2k + 2`. -/
instance closed7 (k : Fin k0_t1_loop.trips) : ClosedOff (k0_off7 k) :=
  ⟨![0, (k.val + 1) % 2, 512, 0], by revert k; decide +kernel⟩

/-- Value tile 2 of unit `2k + 0`. -/
instance closed8 (k : Fin k0_t1_loop.trips) : ClosedOff (k0_off8 k) :=
  ⟨![0, k.val % 2, 512, 0], by revert k; decide +kernel⟩

/-- Key tile 3 of unit `2k + 2`. -/
instance closed9 (k : Fin k0_t1_loop.trips) : ClosedOff (k0_off9 k) :=
  ⟨![0, (k.val + 1) % 2, 768, 0], by revert k; decide +kernel⟩

/-- Value tile 3 of unit `2k + 0`. -/
instance closed10 (k : Fin k0_t1_loop.trips) : ClosedOff (k0_off10 k) :=
  ⟨![0, k.val % 2, 768, 0], by revert k; decide +kernel⟩

/-- Key tile 4 of unit `2k + 2`. -/
instance closed11 (k : Fin k0_t1_loop.trips) : ClosedOff (k0_off11 k) :=
  ⟨![0, (k.val + 1) % 2, 1024, 0], by revert k; decide +kernel⟩

/-- Value tile 4 of unit `2k + 0`. -/
instance closed12 (k : Fin k0_t1_loop.trips) : ClosedOff (k0_off12 k) :=
  ⟨![0, k.val % 2, 1024, 0], by revert k; decide +kernel⟩

/-- Key tile 5 of unit `2k + 2`. -/
instance closed13 (k : Fin k0_t1_loop.trips) : ClosedOff (k0_off13 k) :=
  ⟨![0, (k.val + 1) % 2, 1280, 0], by revert k; decide +kernel⟩

/-- Value tile 5 of unit `2k + 0`. -/
instance closed14 (k : Fin k0_t1_loop.trips) : ClosedOff (k0_off14 k) :=
  ⟨![0, k.val % 2, 1280, 0], by revert k; decide +kernel⟩

/-- Key tile 6 of unit `2k + 2`. -/
instance closed15 (k : Fin k0_t1_loop.trips) : ClosedOff (k0_off15 k) :=
  ⟨![0, (k.val + 1) % 2, 1536, 0], by revert k; decide +kernel⟩

/-- Value tile 6 of unit `2k + 0`. -/
instance closed16 (k : Fin k0_t1_loop.trips) : ClosedOff (k0_off16 k) :=
  ⟨![0, k.val % 2, 1536, 0], by revert k; decide +kernel⟩

/-- Key tile 7 of unit `2k + 2`. -/
instance closed17 (k : Fin k0_t1_loop.trips) : ClosedOff (k0_off17 k) :=
  ⟨![0, (k.val + 1) % 2, 1792, 0], by revert k; decide +kernel⟩

/-- Value tile 7 of unit `2k + 0`. -/
instance closed18 (k : Fin k0_t1_loop.trips) : ClosedOff (k0_off18 k) :=
  ⟨![0, k.val % 2, 1792, 0], by revert k; decide +kernel⟩

/-- The result block of unit `2k + 0`. -/
instance closed19 (k : Fin k0_t1_loop.trips) : ClosedOff (k0_off19 k) :=
  ⟨![0, 2 * (k.val % 2), 512 * (k.val / 2), 0], by revert k; decide +kernel⟩

/-- The even head's queries of unit `2k + 3`. -/
instance closed20 (k : Fin k0_t1_loop.trips) : ClosedOff (k0_off20 k) :=
  ⟨![0, 2 * (2 * ((k.val + 1) % 2) + 1), 512 * ((k.val + 1) / 2), 0], by revert k; decide +kernel⟩

/-- The odd head's queries of unit `2k + 3`. -/
instance closed21 (k : Fin k0_t1_loop.trips) : ClosedOff (k0_off21 k) :=
  ⟨![0, 2 * (2 * ((k.val + 1) % 2) + 1) + 1, 512 * ((k.val + 1) / 2), 0], by revert k; decide +kernel⟩

/-- Key tile 0 of unit `2k + 3`. -/
instance closed22 (k : Fin k0_t1_loop.trips) : ClosedOff (k0_off22 k) :=
  ⟨![0, (k.val + 1) % 2, 0, 0], by revert k; decide +kernel⟩

/-- Value tile 0 of unit `2k + 1`. -/
instance closed23 (k : Fin k0_t1_loop.trips) : ClosedOff (k0_off23 k) :=
  ⟨![0, k.val % 2, 0, 0], by revert k; decide +kernel⟩

/-- Key tile 1 of unit `2k + 3`. -/
instance closed24 (k : Fin k0_t1_loop.trips) : ClosedOff (k0_off24 k) :=
  ⟨![0, (k.val + 1) % 2, 256, 0], by revert k; decide +kernel⟩

/-- Value tile 1 of unit `2k + 1`. -/
instance closed25 (k : Fin k0_t1_loop.trips) : ClosedOff (k0_off25 k) :=
  ⟨![0, k.val % 2, 256, 0], by revert k; decide +kernel⟩

/-- Key tile 2 of unit `2k + 3`. -/
instance closed26 (k : Fin k0_t1_loop.trips) : ClosedOff (k0_off26 k) :=
  ⟨![0, (k.val + 1) % 2, 512, 0], by revert k; decide +kernel⟩

/-- Value tile 2 of unit `2k + 1`. -/
instance closed27 (k : Fin k0_t1_loop.trips) : ClosedOff (k0_off27 k) :=
  ⟨![0, k.val % 2, 512, 0], by revert k; decide +kernel⟩

/-- Key tile 3 of unit `2k + 3`. -/
instance closed28 (k : Fin k0_t1_loop.trips) : ClosedOff (k0_off28 k) :=
  ⟨![0, (k.val + 1) % 2, 768, 0], by revert k; decide +kernel⟩

/-- Value tile 3 of unit `2k + 1`. -/
instance closed29 (k : Fin k0_t1_loop.trips) : ClosedOff (k0_off29 k) :=
  ⟨![0, k.val % 2, 768, 0], by revert k; decide +kernel⟩

/-- Key tile 4 of unit `2k + 3`. -/
instance closed30 (k : Fin k0_t1_loop.trips) : ClosedOff (k0_off30 k) :=
  ⟨![0, (k.val + 1) % 2, 1024, 0], by revert k; decide +kernel⟩

/-- Value tile 4 of unit `2k + 1`. -/
instance closed31 (k : Fin k0_t1_loop.trips) : ClosedOff (k0_off31 k) :=
  ⟨![0, k.val % 2, 1024, 0], by revert k; decide +kernel⟩

/-- Key tile 5 of unit `2k + 3`. -/
instance closed32 (k : Fin k0_t1_loop.trips) : ClosedOff (k0_off32 k) :=
  ⟨![0, (k.val + 1) % 2, 1280, 0], by revert k; decide +kernel⟩

/-- Value tile 5 of unit `2k + 1`. -/
instance closed33 (k : Fin k0_t1_loop.trips) : ClosedOff (k0_off33 k) :=
  ⟨![0, k.val % 2, 1280, 0], by revert k; decide +kernel⟩

/-- Key tile 6 of unit `2k + 3`. -/
instance closed34 (k : Fin k0_t1_loop.trips) : ClosedOff (k0_off34 k) :=
  ⟨![0, (k.val + 1) % 2, 1536, 0], by revert k; decide +kernel⟩

/-- Value tile 6 of unit `2k + 1`. -/
instance closed35 (k : Fin k0_t1_loop.trips) : ClosedOff (k0_off35 k) :=
  ⟨![0, k.val % 2, 1536, 0], by revert k; decide +kernel⟩

/-- Key tile 7 of unit `2k + 3`. -/
instance closed36 (k : Fin k0_t1_loop.trips) : ClosedOff (k0_off36 k) :=
  ⟨![0, (k.val + 1) % 2, 1792, 0], by revert k; decide +kernel⟩

/-- Value tile 7 of unit `2k + 1`. -/
instance closed37 (k : Fin k0_t1_loop.trips) : ClosedOff (k0_off37 k) :=
  ⟨![0, k.val % 2, 1792, 0], by revert k; decide +kernel⟩

/-- The result block of unit `2k + 1`. -/
instance closed38 (k : Fin k0_t1_loop.trips) : ClosedOff (k0_off38 k) :=
  ⟨![0, 2 * (k.val % 2) + 1, 512 * (k.val / 2), 0], by revert k; decide +kernel⟩

end Cert.Proof.KernelIdeal

end
-- ==== Proof.Ideal.Vocab.lean ====
/-
  The attention kernel's arithmetic by units. A block of the kernel's arrays holds the 2048 query rows of eight heads
  (in four pairs), and the keys and values of two groups; unit `u < 16` is the block of 512 query rows `u / 4` and the
  pair of heads `u % 4`, whose keys and values are those of group `u % 4 / 2`. The even head's rows are stacked on the
  odd head's, so a unit's scores are 1024 × 2048. Here are the scores of a unit, their row maximum, the exponentials,
  the accumulated products with the values, and the unit's result, each a function of whole blocks.
-/
module

public import proofs.«01_k».proof.Proof.Ideal.Offsets
public import Idealize.ShloMosaic.Lib.Exec
public import Idealize.ShloMosaic.Lib.Tactic
public import Idealize.ShloMosaic.Lib.ValueIdxCoords

@[expose] public section

noncomputable section

namespace Cert.Proof.KernelIdeal

open Cert.KernelIdeal Cert.KernelIdeal.Gen
open Idealize.ShloMosaic Idealize.ShloMosaic.ValueIdx

variable {F : FTy → Type} [FloatOps F]

/-- The 512 query rows of head `h` from row `512 * rb`. -/
def qTile (q : Vec F S1x8x2048x128 .bf16) (h rb : ℕ) : Vec F S1x1x512x128 .bf16 := fun y =>
  q (ix4 (0 : Fin 1) (⟨h % 8, Nat.mod_lt _ (by decide)⟩ : Fin 8)
    (⟨(512 * rb + (y 2).val) % 2048, Nat.mod_lt _ (by decide)⟩ : Fin 2048) (y 3 : Fin 128))

/-- Tile `j` of the 2048 keys (or values) of group `g`: 256 of them. -/
def kTile (k : Vec F S1x2x2048x128 .bf16) (g j : ℕ) : Vec F S1x1x256x128 .bf16 := fun y =>
  k (ix4 (0 : Fin 1) (⟨g % 2, Nat.mod_lt _ (by decide)⟩ : Fin 2)
    (⟨(256 * j + (y 2).val) % 2048, Nat.mod_lt _ (by decide)⟩ : Fin 2048) (y 3 : Fin 128))

/-- The query rows of a pair: the even head's above the odd head's. -/
def stackQ (x y : Vec F S1x1x512x128 .bf16) : FVec F S1024x128 .bf16 :=
  concatenate S1024x128 0 [⟨S512x128, shapeCast S512x128 x shapeCasts_S1x1x512x128_S512x128⟩,
    ⟨S512x128, shapeCast S512x128 y shapeCasts_S1x1x512x128_S512x128⟩] concatenates_S512x128_S512x128_S1024x128_d0

/-- The query rows of unit `u`. -/
def unitQ (q : Vec F S1x8x2048x128 .bf16) (u : ℕ) : FVec F S1024x128 .bf16 :=
  stackQ (qTile q (2 * (u % 4)) (u / 4)) (qTile q (2 * (u % 4) + 1) (u / 4))

/-- The scores of 1024 rows against one tile of keys, as the product leaves them. -/
def scoreTile (l : FVec F S1024x128 .bf16) (kt : Vec F S1x1x256x128 .bf16) : FVec F S1024x256 .f32 :=
  matmul dot_S1024x128_S256x128_S1024x256_1_1_0_0_n_n none l
    (shapeCast S256x128 kt shapeCasts_S1x1x256x128_S256x128 : FVec F S256x128 .bf16) (constant S1024x256 .f32 0x00000000#32)

/-- The scores as they are stored. -/
def scoreOut (l : FVec F S1024x128 .bf16) (kt : Vec F S1x1x256x128 .bf16) : FVec F S1024x256 .f32 :=
  shapeCast S1024x256 (scoreTile l kt) shapeCasts_S1024x256_S1024x256

/-- All scores of unit `u`. -/
def S (q : Vec F S1x8x2048x128 .bf16) (k : Vec F S1x2x2048x128 .bf16) (u : ℕ) : Vec F S1024x2048 .f32 := fun x =>
  scoreOut (unitQ q u) (kTile k (u % 4 / 2) ((x 1).val / 256))
    (ix2 (x 0 : Fin 1024) (⟨(x 1).val % 256, Nat.mod_lt _ (by decide)⟩ : Fin 256))

/-- The left and the right 128 columns of a tile. -/
def colsL (t : FVec F S1024x256 .f32) : FVec F S1024x128 .f32 :=
  extractStridedSlice S1024x128 ![0, 0] t slices_S1024x256_o0_0_S1024x128
def colsR (t : FVec F S1024x256 .f32) : FVec F S1024x128 .f32 :=
  extractStridedSlice S1024x128 ![0, 128] t slices_S1024x256_o0_128_S1024x128

/-- The maximum, column by column mod 128, over the first `j + 1` tiles of keys. -/
def runMax (l : FVec F S1024x128 .bf16) (k : Vec F S1x2x2048x128 .bf16) (g : ℕ) : ℕ → FVec F S1024x128 .f32
  | 0 => maximumf (colsL (scoreTile l (kTile k g 0))) (colsR (scoreTile l (kTile k g 0)))
  | j + 1 => maximumf (maximumf (runMax l k g j) (colsL (scoreTile l (kTile k g (j + 1)))))
      (colsR (scoreTile l (kTile k g (j + 1))))

/-- The maximum of each row, in every lane. -/
def rowMax (v : FVec F S1024x128 .f32) : FVec F S1024x128 .f32 :=
  shapeCast S1024x128 (broadcastTo S1024x128 (shapeCast S1024x1 (shapeCast S1024x1
    (multiReduction .maximumf [1] S1024 v 0xFF800000#32 reduces_S1024x128_S1024 (.inl rfl) rfl : FVec F S1024 .f32)
    shapeCasts_S1024_S1024x1 : FVec F S1024x1 .f32) shapeCasts_S1024x1_S1024x1 : FVec F S1024x1 .f32)
    broadcasts_S1024x1_S1024x128 : FVec F S1024x128 .f32) shapeCasts_S1024x128_S1024x128

/-- The row maxima of unit `u`. -/
def M (q : Vec F S1x8x2048x128 .bf16) (k : Vec F S1x2x2048x128 .bf16) (u : ℕ) : Vec F S1024x128 .f32 :=
  rowMax (runMax (unitQ q u) k (u % 4 / 2) 7)

/-- Columns `128 * c` to `128 * c + 127` of a unit's scores. -/
def sCols (s : Vec F S1024x2048 .f32) (c : ℕ) : Vec F S1024x128 .f32 := fun y =>
  s (ix2 (y 0 : Fin 1024) (⟨(128 * c + (y 1).val) % 2048, Nat.mod_lt _ (by decide)⟩ : Fin 2048))

/-- The exponentials of 128 columns. -/
def expCols (m s : Vec F S1024x128 .f32) : FVec F S1024x128 .bf16 :=
  shapeCast S1024x128 (truncf .bf16 (exp2 (subf s m : FVec F S1024x128 .f32)) bitsLt_bf16_f32 : FVec F S1024x128 .bf16)
    shapeCasts_S1024x128_S1024x128

/-- The exponentials of scores `s` against maxima `m`. -/
def P (s : Vec F S1024x2048 .f32) (m : Vec F S1024x128 .f32) : Vec F S1024x2048 .bf16 := fun x =>
  expCols m (sCols s ((x 1).val / 128))
    (ix2 (x 0 : Fin 1024) (⟨(x 1).val % 128, Nat.mod_lt _ (by decide)⟩ : Fin 128))

/-- Columns `256 * j` to `256 * j + 255` of a unit's exponentials. -/
def pCols (p : Vec F S1024x2048 .bf16) (j : ℕ) : Vec F S1024x256 .bf16 := fun y =>
  p (ix2 (y 0 : Fin 1024) (⟨(256 * j + (y 1).val) % 2048, Nat.mod_lt _ (by decide)⟩ : Fin 2048))

/-- One tile of values with 128 columns of ones beside it. -/
def valuesOnes (vt : Vec F S1x1x256x128 .bf16) : FVec F S256x256 .bf16 :=
  concatenate S256x256 1 [⟨S256x128, shapeCast S256x128 vt shapeCasts_S1x1x256x128_S256x128⟩,
    ⟨S256x128, (broadcast S256x128 (Scalar.ofBits .bf16 0x3F80#16 : F .bf16) : FVec F S256x128 .bf16)⟩]
    concatenates_S256x128_S256x128_S256x256_d1

/-- The products of one tile of exponentials with the values and with the ones. -/
def pvTile (pt : Vec F S1024x256 .bf16) (vt : Vec F S1x1x256x128 .bf16) : FVec F S1024x256 .f32 :=
  matmul dot_S1024x256_S256x256_S1024x256_1_0_0_1_n_n none (pt : FVec F S1024x256 .bf16) (valuesOnes vt)
    (constant S1024x256 .f32 0x00000000#32)

/-- The sum of the products over the first `j + 1` tiles. -/
def acc (p : Vec F S1024x2048 .bf16) (v : Vec F S1x2x2048x128 .bf16) (g : ℕ) : ℕ → FVec F S1024x256 .f32
  | 0 => pvTile (pCols p 0) (kTile v g 0)
  | j + 1 => addf (acc p v g j) (pvTile (pCols p (j + 1)) (kTile v g (j + 1)))

/-- The even head's rows in the left 64 lanes and the odd head's in the right, divided by the sums of the rows. -/
def finish (a : FVec F S1024x256 .f32) : FVec F S1x1x512x128 .f32 :=
  shapeCast S1x1x512x128 (select
    (cmpi .slt (iota .tc S512x128 32 [1] iota_S512x128_d1_w32) (broadcast S512x128 64#32) : IVec S512x128 1)
    (extractStridedSlice S512x128 ![0, 0]
      (mulf (colsL a) (divf (broadcast S1024x128 (Scalar.ofBits .f32 0x3F800000#32 : F .f32)) (colsR a)) : FVec F S1024x128 .f32)
      slices_S1024x128_o0_0_S512x128 : FVec F S512x128 .f32)
    (extractStridedSlice S512x128 ![512, 0]
      (mulf (colsL a) (divf (broadcast S1024x128 (Scalar.ofBits .f32 0x3F800000#32 : F .f32)) (colsR a)) : FVec F S1024x128 .f32)
      slices_S1024x128_o512_0_S512x128 : FVec F S512x128 .f32) : FVec F S512x128 .f32)
    shapeCasts_S512x128_S1x1x512x128

/-- The result of unit `u` from its exponentials. -/
def O (p : Vec F S1024x2048 .bf16) (v : Vec F S1x2x2048x128 .bf16) (u : ℕ) : FVec F S1x1x512x128 .f32 :=
  finish (acc p v (u % 4 / 2) 7)

/-- The result block with unit `u`'s part replaced by `X`. -/
def put (u : ℕ) (X : Vec F S1x1x512x128 .f32) (old : Vec F S1x4x2048x128 .f32) : Vec F S1x4x2048x128 .f32 := fun y =>
  if (y 1).val = u % 4 ∧ (y 2).val / 512 = u / 4 then
    X (ix4 (0 : Fin 1) (0 : Fin 1) (⟨(y 2).val % 512, Nat.mod_lt _ (by decide)⟩ : Fin 512) (y 3 : Fin 128))
  else old y

end Cert.Proof.KernelIdeal

end
-- ==== Proof.Ideal.Tiles.lean ====
/-
  What a load reads of a block, and where a store's piece lies in a unit's array: each tile of queries, keys, values,
  scores and exponentials at its literal offsets.
-/
module

public import proofs.«01_k».proof.Proof.Ideal.Vocab
public import Idealize.ShloMosaic.Lib.Pipeline.FrameBody
public import Idealize.ShloMosaic.Lib.WritesUnit
public import Idealize.ShloMosaic.Lib.Pipeline.Value

@[expose] public section

noncomputable section

namespace Cert.Proof.KernelIdeal

open Cert.KernelIdeal Cert.KernelIdeal.Gen
open Idealize.ShloMosaic Idealize.ShloMosaic.ValueIdx

variable {F : FTy → Type} [FloatOps F]

/-- A load of 512 query rows reads the tile of queries at its offsets. -/
theorem ld_q (X : Vec F S1x8x2048x128 .bf16) {off : Fin 4 → ℕ} {h rb : ℕ} (e : off = ![0, h, 512 * rb, 0])
    (inb : ∀ a, off a + S1x1x512x128.size a ≤ S1x8x2048x128.size a) (hh : h < 8) (hrb : rb < 4) :
    View.ld X (Rect.unit (s := S1x8x2048x128) off S1x1x512x128.size inb) = qTile X h rb := by
  subst e
  funext y
  refine congrArg X (funext fun a => Fin.ext ?_)
  have h0 : (y 0).val < 1 := (y 0).isLt
  have h1 : (y 1).val < 1 := (y 1).isLt
  have h2 : (y 2).val < 512 := (y 2).isLt
  fin_cases a
  · show 0 + 1 * (y 0).val = 0; omega
  · show h + 1 * (y 1).val = h % 8; omega
  · show 512 * rb + 1 * (y 2).val = (512 * rb + (y 2).val) % 2048; omega
  · show 0 + 1 * (y 3).val = (y 3).val; omega

/-- A load of 256 keys (or values) reads the tile at its offsets. -/
theorem ld_k (X : Vec F S1x2x2048x128 .bf16) {off : Fin 4 → ℕ} {g j : ℕ} (e : off = ![0, g, 256 * j, 0])
    (inb : ∀ a, off a + S1x1x256x128.size a ≤ S1x2x2048x128.size a) (hg : g < 2) (hj : j < 8) :
    View.ld X (Rect.unit (s := S1x2x2048x128) off S1x1x256x128.size inb) = kTile X g j := by
  subst e
  funext y
  refine congrArg X (funext fun a => Fin.ext ?_)
  have h0 : (y 0).val < 1 := (y 0).isLt
  have h1 : (y 1).val < 1 := (y 1).isLt
  have h2 : (y 2).val < 256 := (y 2).isLt
  fin_cases a
  · show 0 + 1 * (y 0).val = 0; omega
  · show g + 1 * (y 1).val = g % 2; omega
  · show 256 * j + 1 * (y 2).val = (256 * j + (y 2).val) % 2048; omega
  · show 0 + 1 * (y 3).val = (y 3).val; omega

/-- A load of 128 columns of scores. -/
theorem ld_s (X : Vec F S1024x2048 .f32) {off : Fin 2 → ℕ} {c : ℕ} (e : off = ![0, 128 * c])
    (inb : ∀ a, off a + S1024x128.size a ≤ S1024x2048.size a) (hc : c < 16) :
    View.ld X (Rect.unit (s := S1024x2048) off S1024x128.size inb) = sCols X c := by
  subst e
  funext y
  refine congrArg X (funext fun a => Fin.ext ?_)
  have h1 : (y 1).val < 128 := (y 1).isLt
  fin_cases a
  · show 0 + 1 * (y 0).val = (y 0).val; omega
  · show 128 * c + 1 * (y 1).val = (128 * c + (y 1).val) % 2048; omega

/-- A load of 256 columns of exponentials. -/
theorem ld_p (X : Vec F S1024x2048 .bf16) {off : Fin 2 → ℕ} {j : ℕ} (e : off = ![0, 256 * j])
    (inb : ∀ a, off a + S1024x256.size a ≤ S1024x2048.size a) (hj : j < 8) :
    View.ld X (Rect.unit (s := S1024x2048) off S1024x256.size inb) = pCols X j := by
  subst e
  funext y
  refine congrArg X (funext fun a => Fin.ext ?_)
  have h1 : (y 1).val < 256 := (y 1).isLt
  fin_cases a
  · show 0 + 1 * (y 0).val = (y 0).val; omega
  · show 256 * j + 1 * (y 1).val = (256 * j + (y 1).val) % 2048; omega

/-- The scores of a unit at the columns of tile `j` are that tile's. -/
theorem S_emb (q : Vec F S1x8x2048x128 .bf16) (k : Vec F S1x2x2048x128 .bf16) (u : ℕ) {off : Fin 2 → ℕ} {j : ℕ}
    (e : off = ![0, 256 * j]) (inb : ∀ a, off a + S1024x256.size a ≤ S1024x2048.size a) (x : S1024x256.Idx) :
    S q k u ((Rect.unit (s := S1024x2048) off S1024x256.size inb).emb x)
      = scoreOut (unitQ q u) (kTile k (u % 4 / 2) j) x := by
  subst e
  have h1 : (x 1).val < 256 := (x 1).isLt
  have hd : (256 * j + 1 * (x 1).val) / 256 = j := by omega
  show scoreOut (unitQ q u) (kTile k (u % 4 / 2) ((256 * j + 1 * (x 1).val) / 256)) _ = _
  rw [hd]
  refine congrArg _ (funext fun a => Fin.ext ?_)
  fin_cases a
  · show 0 + 1 * (x 0).val = (x 0).val; omega
  · show (256 * j + 1 * (x 1).val) % 256 = (x 1).val; omega

/-- The exponentials of a unit at columns `128 * c` and on. -/
theorem P_emb (s : Vec F S1024x2048 .f32) (m : Vec F S1024x128 .f32) {off : Fin 2 → ℕ} {c : ℕ}
    (e : off = ![0, 128 * c]) (inb : ∀ a, off a + S1024x128.size a ≤ S1024x2048.size a) (x : S1024x128.Idx) :
    P s m ((Rect.unit (s := S1024x2048) off S1024x128.size inb).emb x) = expCols m (sCols s c) x := by
  subst e
  have h1 : (x 1).val < 128 := (x 1).isLt
  have hd : (128 * c + 1 * (x 1).val) / 128 = c := by omega
  show expCols m (sCols s ((128 * c + 1 * (x 1).val) / 128)) _ = _
  rw [hd]
  refine congrArg _ (funext fun a => Fin.ext ?_)
  fin_cases a
  · show 0 + 1 * (x 0).val = (x 0).val; omega
  · show (128 * c + 1 * (x 1).val) % 128 = (x 1).val; omega

/-- A store of one unit's result changes the block as `put` says. -/
theorem read_put (v : View sig .tc .vmem S1x4x2048x128 .f32) (f : v.ty.Contents (Elt F)) {off : Fin 4 → ℕ} {u : ℕ}
    (e : off = ![0, u % 4, 512 * (u / 4), 0]) (inb : ∀ a, off a + S1x1x512x128.size a ≤ S1x4x2048x128.size a)
    (X : Vec F S1x1x512x128 .f32) (L : List (View.Piece (Elt F) S1x4x2048x128 .f32)) :
    v.read (Elt F) (v.writes (Elt F) f
        ((⟨Rect.unit (s := S1x4x2048x128) off S1x1x512x128.size inb, X⟩ : View.Piece (Elt F) S1x4x2048x128 .f32) :: L))
      = put u X (v.read (Elt F) (v.writes (Elt F) f L)) := by
  funext y
  have h0 : (y 0).val < 1 := (y 0).isLt
  have h1 : (y 1).val < 4 := (y 1).isLt
  have h2 : (y 2).val < 2048 := (y 2).isLt
  have h3 : (y 3).val < 128 := (y 3).isLt
  unfold put
  by_cases hy : (y 1).val = u % 4 ∧ (y 2).val / 512 = u / 4
  · rw [if_pos hy]
    refine View.read_writes_cons_unit_of_mem v f inb X L y _ e fun a => ?_
    obtain ⟨ha, hb⟩ := hy
    fin_cases a
    · show (y 0).val = 0 + 0; omega
    · show (y 1).val = u % 4 + 0; omega
    · show (y 2).val = 512 * (u / 4) + (y 2).val % 512; omega
    · show (y 3).val = 0 + (y 3).val; omega
  · rw [if_neg hy]
    by_cases ha : (y 1).val = u % 4
    · have hb : (y 2).val / 512 ≠ u / 4 := fun h => hy ⟨ha, h⟩
      refine View.read_writes_cons_unit_of_not_mem v f inb X L y e 2 ?_
      show (y 2).val < 512 * (u / 4) ∨ 512 * (u / 4) + 512 ≤ (y 2).val
      omega
    · refine View.read_writes_cons_unit_of_not_mem v f inb X L y e 1 ?_
      show (y 1).val < u % 4 ∨ u % 4 + 1 ≤ (y 1).val
      omega

/-- The eight stores that fill a unit's scores, tile by tile, the last first. -/
def sPieces (g : ℕ → FVec F S1024x256 .f32) : List (View.Piece (Elt F) S1024x2048 .f32) :=
  [ ⟨Rect.unit ![0, 1792] S1024x256.size inb_S1024x2048_S1024x256_0_1792, g 7⟩,
    ⟨Rect.unit ![0, 1536] S1024x256.size inb_S1024x2048_S1024x256_0_1536, g 6⟩,
    ⟨Rect.unit ![0, 1280] S1024x256.size inb_S1024x2048_S1024x256_0_1280, g 5⟩,
    ⟨Rect.unit ![0, 1024] S1024x256.size inb_S1024x2048_S1024x256_0_1024, g 4⟩,
    ⟨Rect.unit ![0, 768] S1024x256.size inb_S1024x2048_S1024x256_0_768, g 3⟩,
    ⟨Rect.unit ![0, 512] S1024x256.size inb_S1024x2048_S1024x256_0_512, g 2⟩,
    ⟨Rect.unit ![0, 256] S1024x256.size inb_S1024x2048_S1024x256_0_256, g 1⟩,
    ⟨Rect.unit ![0, 0] S1024x256.size inb_S1024x2048_S1024x256_0_0, g 0⟩ ]

/-- The sixteen stores that fill a unit's exponentials, 128 columns each, the last first. -/
def pPieces (g : ℕ → FVec F S1024x128 .bf16) : List (View.Piece (Elt F) S1024x2048 .bf16) :=
  [ ⟨Rect.unit ![0, 1920] S1024x128.size inb_S1024x2048_S1024x128_0_1920, g 15⟩,
    ⟨Rect.unit ![0, 1792] S1024x128.size inb_S1024x2048_S1024x128_0_1792, g 14⟩,
    ⟨Rect.unit ![0, 1664] S1024x128.size inb_S1024x2048_S1024x128_0_1664, g 13⟩,
    ⟨Rect.unit ![0, 1536] S1024x128.size inb_S1024x2048_S1024x128_0_1536, g 12⟩,
    ⟨Rect.unit ![0, 1408] S1024x128.size inb_S1024x2048_S1024x128_0_1408, g 11⟩,
    ⟨Rect.unit ![0, 1280] S1024x128.size inb_S1024x2048_S1024x128_0_1280, g 10⟩,
    ⟨Rect.unit ![0, 1152] S1024x128.size inb_S1024x2048_S1024x128_0_1152, g 9⟩,
    ⟨Rect.unit ![0, 1024] S1024x128.size inb_S1024x2048_S1024x128_0_1024, g 8⟩,
    ⟨Rect.unit ![0, 896] S1024x128.size inb_S1024x2048_S1024x128_0_896, g 7⟩,
    ⟨Rect.unit ![0, 768] S1024x128.size inb_S1024x2048_S1024x128_0_768, g 6⟩,
    ⟨Rect.unit ![0, 640] S1024x128.size inb_S1024x2048_S1024x128_0_640, g 5⟩,
    ⟨Rect.unit ![0, 512] S1024x128.size inb_S1024x2048_S1024x128_0_512, g 4⟩,
    ⟨Rect.unit ![0, 384] S1024x128.size inb_S1024x2048_S1024x128_0_384, g 3⟩,
    ⟨Rect.unit ![0, 256] S1024x128.size inb_S1024x2048_S1024x128_0_256, g 2⟩,
    ⟨Rect.unit ![0, 128] S1024x128.size inb_S1024x2048_S1024x128_0_128, g 1⟩,
    ⟨Rect.unit ![0, 0] S1024x128.size inb_S1024x2048_S1024x128_0_0, g 0⟩ ]

theorem cons_congr {s : Shape} {e : EltTy} {r : Rect s} {w w' : r.shape.Idx → Elt F e}
    {L L' : List (View.Piece (Elt F) s e)} (hw : w = w') (hL : L = L') :
    ((⟨r, w⟩ : View.Piece (Elt F) s e) :: L) = ⟨r, w'⟩ :: L' := by subst hw; subst hL; rfl

/-- A column of the scores lies in the tile it is counted in. -/
theorem mem_cols {W o : ℕ} (y : S1024x2048.Idx) (size : Fin 2 → ℕ) (hs0 : size 0 = 1024) (hs1 : size 1 = W)
    (inb : ∀ a, (![0, o] : Fin 2 → ℕ) a + size a ≤ S1024x2048.size a) (h1 : o ≤ (y 1).val) (h2 : (y 1).val < o + W) :
    y ∈ (Rect.unit (s := S1024x2048) ![0, o] size inb).set := by
  rw [Rect.mem_set_unit]
  intro a
  have h0 : (y 0).val < 1024 := (y 0).isLt
  fin_cases a
  · refine ⟨Nat.zero_le _, ?_⟩
    show (y 0).val < 0 + size 0
    omega
  · refine ⟨h1, ?_⟩
    show (y 1).val < o + size 1
    omega

theorem sPieces_cover (g : ℕ → FVec F S1024x256 .f32) (y : S1024x2048.Idx) : ∃ p ∈ sPieces g, y ∈ p.1.set := by
  have h : (y 1).val < 2048 := (y 1).isLt
  unfold sPieces
  by_cases h0 : (y 1).val < 256
  · exact ⟨⟨Rect.unit ![0, 0] S1024x256.size inb_S1024x2048_S1024x256_0_0, g 0⟩, .tail _ (.tail _ (.tail _ (.tail _ (.tail _ (.tail _ (.tail _ (.head _))))))),
      mem_cols (W := 256) y _ rfl rfl inb_S1024x2048_S1024x256_0_0 (by omega) (by omega)⟩
  by_cases h1 : (y 1).val < 512
  · exact ⟨⟨Rect.unit ![0, 256] S1024x256.size inb_S1024x2048_S1024x256_0_256, g 1⟩, .tail _ (.tail _ (.tail _ (.tail _ (.tail _ (.tail _ (.head _)))))),
      mem_cols (W := 256) y _ rfl rfl inb_S1024x2048_S1024x256_0_256 (by omega) (by omega)⟩
  by_cases h2 : (y 1).val < 768
  · exact ⟨⟨Rect.unit ![0, 512] S1024x256.size inb_S1024x2048_S1024x256_0_512, g 2⟩, .tail _ (.tail _ (.tail _ (.tail _ (.tail _ (.head _))))),
      mem_cols (W := 256) y _ rfl rfl inb_S1024x2048_S1024x256_0_512 (by omega) (by omega)⟩
  by_cases h3 : (y 1).val < 1024
  · exact ⟨⟨Rect.unit ![0, 768] S1024x256.size inb_S1024x2048_S1024x256_0_768, g 3⟩, .tail _ (.tail _ (.tail _ (.tail _ (.head _)))),
      mem_cols (W := 256) y _ rfl rfl inb_S1024x2048_S1024x256_0_768 (by omega) (by omega)⟩
  by_cases h4 : (y 1).val < 1280
  · exact ⟨⟨Rect.unit ![0, 1024] S1024x256.size inb_S1024x2048_S1024x256_0_1024, g 4⟩, .tail _ (.tail _ (.tail _ (.head _))),
      mem_cols (W := 256) y _ rfl rfl inb_S1024x2048_S1024x256_0_1024 (by omega) (by omega)⟩
  by_cases h5 : (y 1).val < 1536
  · exact ⟨⟨Rect.unit ![0, 1280] S1024x256.size inb_S1024x2048_S1024x256_0_1280, g 5⟩, .tail _ (.tail _ (.head _)),
      mem_cols (W := 256) y _ rfl rfl inb_S1024x2048_S1024x256_0_1280 (by omega) (by omega)⟩
  by_cases h6 : (y 1).val < 1792
  · exact ⟨⟨Rect.unit ![0, 1536] S1024x256.size inb_S1024x2048_S1024x256_0_1536, g 6⟩, .tail _ (.head _),
      mem_cols (W := 256) y _ rfl rfl inb_S1024x2048_S1024x256_0_1536 (by omega) (by omega)⟩
  exact ⟨⟨Rect.unit ![0, 1792] S1024x256.size inb_S1024x2048_S1024x256_0_1792, g 7⟩, .head _,
      mem_cols (W := 256) y _ rfl rfl inb_S1024x2048_S1024x256_0_1792 (by omega) (by omega)⟩

theorem pPieces_cover (g : ℕ → FVec F S1024x128 .bf16) (y : S1024x2048.Idx) : ∃ p ∈ pPieces g, y ∈ p.1.set := by
  have h : (y 1).val < 2048 := (y 1).isLt
  unfold pPieces
  by_cases h0 : (y 1).val < 128
  · exact ⟨⟨Rect.unit ![0, 0] S1024x128.size inb_S1024x2048_S1024x128_0_0, g 0⟩, .tail _ (.tail _ (.tail _ (.tail _ (.tail _ (.tail _ (.tail _ (.tail _ (.tail _ (.tail _ (.tail _ (.tail _ (.tail _ (.tail _ (.tail _ (.head _))))))))))))))),
      mem_cols (W := 128) y _ rfl rfl inb_S1024x2048_S1024x128_0_0 (by omega) (by omega)⟩
  by_cases h1 : (y 1).val < 256
  · exact ⟨⟨Rect.unit ![0, 128] S1024x128.size inb_S1024x2048_S1024x128_0_128, g 1⟩, .tail _ (.tail _ (.tail _ (.tail _ (.tail _ (.tail _ (.tail _ (.tail _ (.tail _ (.tail _ (.tail _ (.tail _ (.tail _ (.tail _ (.head _)))))))))))))),
      mem_cols (W := 128) y _ rfl rfl inb_S1024x2048_S1024x128_0_128 (by omega) (by omega)⟩
  by_cases h2 : (y 1).val < 384
  · exact ⟨⟨Rect.unit ![0, 256] S1024x128.size inb_S1024x2048_S1024x128_0_256, g 2⟩, .tail _ (.tail _ (.tail _ (.tail _ (.tail _ (.tail _ (.tail _ (.tail _ (.tail _ (.tail _ (.tail _ (.tail _ (.tail _ (.head _))))))))))))),
      mem_cols (W := 128) y _ rfl rfl inb_S1024x2048_S1024x128_0_256 (by omega) (by omega)⟩
  by_cases h3 : (y 1).val < 512
  · exact ⟨⟨Rect.unit ![0, 384] S1024x128.size inb_S1024x2048_S1024x128_0_384, g 3⟩, .tail _ (.tail _ (.tail _ (.tail _ (.tail _ (.tail _ (.tail _ (.tail _ (.tail _ (.tail _ (.tail _ (.tail _ (.head _)))))))))))),
      mem_cols (W := 128) y _ rfl rfl inb_S1024x2048_S1024x128_0_384 (by omega) (by omega)⟩
  by_cases h4 : (y 1).val < 640
  · exact ⟨⟨Rect.unit ![0, 512] S1024x128.size inb_S1024x2048_S1024x128_0_512, g 4⟩, .tail _ (.tail _ (.tail _ (.tail _ (.tail _ (.tail _ (.tail _ (.tail _ (.tail _ (.tail _ (.tail _ (.head _))))))))))),
      mem_cols (W := 128) y _ rfl rfl inb_S1024x2048_S1024x128_0_512 (by omega) (by omega)⟩
  by_cases h5 : (y 1).val < 768
  · exact ⟨⟨Rect.unit ![0, 640] S1024x128.size inb_S1024x2048_S1024x128_0_640, g 5⟩, .tail _ (.tail _ (.tail _ (.tail _ (.tail _ (.tail _ (.tail _ (.tail _ (.tail _ (.tail _ (.head _)))))))))),
      mem_cols (W := 128) y _ rfl rfl inb_S1024x2048_S1024x128_0_640 (by omega) (by omega)⟩
  by_cases h6 : (y 1).val < 896
  · exact ⟨⟨Rect.unit ![0, 768] S1024x128.size inb_S1024x2048_S1024x128_0_768, g 6⟩, .tail _ (.tail _ (.tail _ (.tail _ (.tail _ (.tail _ (.tail _ (.tail _ (.tail _ (.head _))))))))),
      mem_cols (W := 128) y _ rfl rfl inb_S1024x2048_S1024x128_0_768 (by omega) (by omega)⟩
  by_cases h7 : (y 1).val < 1024
  · exact ⟨⟨Rect.unit ![0, 896] S1024x128.size inb_S1024x2048_S1024x128_0_896, g 7⟩, .tail _ (.tail _ (.tail _ (.tail _ (.tail _ (.tail _ (.tail _ (.tail _ (.head _)))))))),
      mem_cols (W := 128) y _ rfl rfl inb_S1024x2048_S1024x128_0_896 (by omega) (by omega)⟩
  by_cases h8 : (y 1).val < 1152
  · exact ⟨⟨Rect.unit ![0, 1024] S1024x128.size inb_S1024x2048_S1024x128_0_1024, g 8⟩, .tail _ (.tail _ (.tail _ (.tail _ (.tail _ (.tail _ (.tail _ (.head _))))))),
      mem_cols (W := 128) y _ rfl rfl inb_S1024x2048_S1024x128_0_1024 (by omega) (by omega)⟩
  by_cases h9 : (y 1).val < 1280
  · exact ⟨⟨Rect.unit ![0, 1152] S1024x128.size inb_S1024x2048_S1024x128_0_1152, g 9⟩, .tail _ (.tail _ (.tail _ (.tail _ (.tail _ (.tail _ (.head _)))))),
      mem_cols (W := 128) y _ rfl rfl inb_S1024x2048_S1024x128_0_1152 (by omega) (by omega)⟩
  by_cases h10 : (y 1).val < 1408
  · exact ⟨⟨Rect.unit ![0, 1280] S1024x128.size inb_S1024x2048_S1024x128_0_1280, g 10⟩, .tail _ (.tail _ (.tail _ (.tail _ (.tail _ (.head _))))),
      mem_cols (W := 128) y _ rfl rfl inb_S1024x2048_S1024x128_0_1280 (by omega) (by omega)⟩
  by_cases h11 : (y 1).val < 1536
  · exact ⟨⟨Rect.unit ![0, 1408] S1024x128.size inb_S1024x2048_S1024x128_0_1408, g 11⟩, .tail _ (.tail _ (.tail _ (.tail _ (.head _)))),
      mem_cols (W := 128) y _ rfl rfl inb_S1024x2048_S1024x128_0_1408 (by omega) (by omega)⟩
  by_cases h12 : (y 1).val < 1664
  · exact ⟨⟨Rect.unit ![0, 1536] S1024x128.size inb_S1024x2048_S1024x128_0_1536, g 12⟩, .tail _ (.tail _ (.tail _ (.head _))),
      mem_cols (W := 128) y _ rfl rfl inb_S1024x2048_S1024x128_0_1536 (by omega) (by omega)⟩
  by_cases h13 : (y 1).val < 1792
  · exact ⟨⟨Rect.unit ![0, 1664] S1024x128.size inb_S1024x2048_S1024x128_0_1664, g 13⟩, .tail _ (.tail _ (.head _)),
      mem_cols (W := 128) y _ rfl rfl inb_S1024x2048_S1024x128_0_1664 (by omega) (by omega)⟩
  by_cases h14 : (y 1).val < 1920
  · exact ⟨⟨Rect.unit ![0, 1792] S1024x128.size inb_S1024x2048_S1024x128_0_1792, g 14⟩, .tail _ (.head _),
      mem_cols (W := 128) y _ rfl rfl inb_S1024x2048_S1024x128_0_1792 (by omega) (by omega)⟩
  exact ⟨⟨Rect.unit ![0, 1920] S1024x128.size inb_S1024x2048_S1024x128_0_1920, g 15⟩, .head _,
      mem_cols (W := 128) y _ rfl rfl inb_S1024x2048_S1024x128_0_1920 (by omega) (by omega)⟩

/-- The eight stores of a unit's score tiles leave its scores. -/
theorem canon_sPieces (q : Vec F S1x8x2048x128 .bf16) (k : Vec F S1x2x2048x128 .bf16) (u : ℕ) :
    View.canon (sPieces fun j => scoreOut (unitQ q u) (kTile k (u % 4 / 2) j)) = S q k u := by
  funext y
  refine View.canon_apply_of_pieces (S q k u) _ ?_ y (sPieces_cover _ y)
  intro p hp x
  unfold sPieces at hp
  simp only [List.mem_cons, List.not_mem_nil, or_false] at hp
  rcases hp with rfl | rfl | rfl | rfl | rfl | rfl | rfl | rfl
  · exact (S_emb q k u (j := 7) rfl inb_S1024x2048_S1024x256_0_1792 x).symm
  · exact (S_emb q k u (j := 6) rfl inb_S1024x2048_S1024x256_0_1536 x).symm
  · exact (S_emb q k u (j := 5) rfl inb_S1024x2048_S1024x256_0_1280 x).symm
  · exact (S_emb q k u (j := 4) rfl inb_S1024x2048_S1024x256_0_1024 x).symm
  · exact (S_emb q k u (j := 3) rfl inb_S1024x2048_S1024x256_0_768 x).symm
  · exact (S_emb q k u (j := 2) rfl inb_S1024x2048_S1024x256_0_512 x).symm
  · exact (S_emb q k u (j := 1) rfl inb_S1024x2048_S1024x256_0_256 x).symm
  · exact (S_emb q k u (j := 0) rfl inb_S1024x2048_S1024x256_0_0 x).symm

/-- The sixteen stores of a unit's exponentials leave its exponentials. -/
theorem canon_pPieces (s : Vec F S1024x2048 .f32) (m : Vec F S1024x128 .f32) :
    View.canon (pPieces fun c => expCols m (sCols s c)) = P s m := by
  funext y
  refine View.canon_apply_of_pieces (P s m) _ ?_ y (pPieces_cover _ y)
  intro p hp x
  unfold pPieces at hp
  simp only [List.mem_cons, List.not_mem_nil, or_false] at hp
  rcases hp with rfl | rfl | rfl | rfl | rfl | rfl | rfl | rfl | rfl | rfl | rfl | rfl | rfl | rfl | rfl | rfl
  · exact (P_emb s m (c := 15) rfl inb_S1024x2048_S1024x128_0_1920 x).symm
  · exact (P_emb s m (c := 14) rfl inb_S1024x2048_S1024x128_0_1792 x).symm
  · exact (P_emb s m (c := 13) rfl inb_S1024x2048_S1024x128_0_1664 x).symm
  · exact (P_emb s m (c := 12) rfl inb_S1024x2048_S1024x128_0_1536 x).symm
  · exact (P_emb s m (c := 11) rfl inb_S1024x2048_S1024x128_0_1408 x).symm
  · exact (P_emb s m (c := 10) rfl inb_S1024x2048_S1024x128_0_1280 x).symm
  · exact (P_emb s m (c := 9) rfl inb_S1024x2048_S1024x128_0_1152 x).symm
  · exact (P_emb s m (c := 8) rfl inb_S1024x2048_S1024x128_0_1024 x).symm
  · exact (P_emb s m (c := 7) rfl inb_S1024x2048_S1024x128_0_896 x).symm
  · exact (P_emb s m (c := 6) rfl inb_S1024x2048_S1024x128_0_768 x).symm
  · exact (P_emb s m (c := 5) rfl inb_S1024x2048_S1024x128_0_640 x).symm
  · exact (P_emb s m (c := 4) rfl inb_S1024x2048_S1024x128_0_512 x).symm
  · exact (P_emb s m (c := 3) rfl inb_S1024x2048_S1024x128_0_384 x).symm
  · exact (P_emb s m (c := 2) rfl inb_S1024x2048_S1024x128_0_256 x).symm
  · exact (P_emb s m (c := 1) rfl inb_S1024x2048_S1024x128_0_128 x).symm
  · exact (P_emb s m (c := 0) rfl inb_S1024x2048_S1024x128_0_0 x).symm

/-! ## Loads through a view -/

theorem rd_q (v : View sig .tc .vmem S1x8x2048x128 .bf16) (f : v.ty.Contents (Elt F)) {off : Fin 4 → ℕ} {h rb : ℕ}
    (e : off = ![0, h, 512 * rb, 0]) (inb : ∀ a, off a + S1x1x512x128.size a ≤ S1x8x2048x128.size a) (hh : h < 8) (hrb : rb < 4) :
    v.readAt (Elt F) (Rect.unit (s := S1x8x2048x128) off S1x1x512x128.size inb).toLoadRect f = qTile (v.read (Elt F) f) h rb :=
  ld_q _ e inb hh hrb

theorem rd_k (v : View sig .tc .vmem S1x2x2048x128 .bf16) (f : v.ty.Contents (Elt F)) {off : Fin 4 → ℕ} {g j : ℕ}
    (e : off = ![0, g, 256 * j, 0]) (inb : ∀ a, off a + S1x1x256x128.size a ≤ S1x2x2048x128.size a) (hg : g < 2) (hj : j < 8) :
    v.readAt (Elt F) (Rect.unit (s := S1x2x2048x128) off S1x1x256x128.size inb).toLoadRect f = kTile (v.read (Elt F) f) g j :=
  ld_k _ e inb hg hj

theorem rd_s (v : View sig .tc .vmem S1024x2048 .f32) (f : v.ty.Contents (Elt F)) {off : Fin 2 → ℕ} {c : ℕ}
    (e : off = ![0, 128 * c]) (inb : ∀ a, off a + S1024x128.size a ≤ S1024x2048.size a) (hc : c < 16) :
    v.readAt (Elt F) (Rect.unit (s := S1024x2048) off S1024x128.size inb).toLoadRect f = sCols (v.read (Elt F) f) c :=
  ld_s _ e inb hc

theorem rd_p (v : View sig .tc .vmem S1024x2048 .bf16) (f : v.ty.Contents (Elt F)) {off : Fin 2 → ℕ} {j : ℕ}
    (e : off = ![0, 256 * j]) (inb : ∀ a, off a + S1024x256.size a ≤ S1024x2048.size a) (hj : j < 8) :
    v.readAt (Elt F) (Rect.unit (s := S1024x2048) off S1024x256.size inb).toLoadRect f = pCols (v.read (Elt F) f) j :=
  ld_p _ e inb hj

/-- A load of 128 columns of the scores just stored. -/
theorem cov_s (v : View sig .tc .vmem S1024x2048 .f32) (q : Vec F S1x8x2048x128 .bf16) (k : Vec F S1x2x2048x128 .bf16) (u : ℕ)
    {off : Fin 2 → ℕ} {c : ℕ} (e : off = ![0, 128 * c]) (inb : ∀ a, off a + S1024x128.size a ≤ S1024x2048.size a) (hc : c < 16) :
    v.readCov (sPieces fun j => scoreOut (unitQ q u) (kTile k (u % 4 / 2) j))
        (Rect.unit (s := S1024x2048) off S1024x128.size inb).toLoadRect = sCols (S q k u) c :=
  (View.readCov_eq_canon' v _ _).trans (by rw [canon_sPieces]; exact ld_s _ e inb hc)

/-- A load of 256 columns of the exponentials just stored. -/
theorem cov_p (v : View sig .tc .vmem S1024x2048 .bf16) (s : Vec F S1024x2048 .f32) (m : Vec F S1024x128 .f32)
    {off : Fin 2 → ℕ} {j : ℕ} (e : off = ![0, 256 * j]) (inb : ∀ a, off a + S1024x256.size a ≤ S1024x2048.size a) (hj : j < 8) :
    v.readCov (pPieces fun c => expCols m (sCols s c))
        (Rect.unit (s := S1024x2048) off S1024x256.size inb).toLoadRect = pCols (P s m) j :=
  (View.readCov_eq_canon' v _ _).trans (by rw [canon_pPieces]; exact ld_p _ e inb hj)

/-- The row maxima are stored and loaded whole. -/
theorem whole_m (x : S1024x128.Idx) :
    (Rect.unit (s := S1024x128) ![0, 0] S1024x128.size inb_S1024x128_S1024x128_0_0).emb x = x := by
  funext a
  refine Fin.ext ?_
  fin_cases a
  · show 0 + 1 * (x 0).val = (x 0).val; omega
  · show 0 + 1 * (x 1).val = (x 1).val; omega

theorem rd_m (v : View sig .tc .vmem S1024x128 .f32) (f : v.ty.Contents (Elt F)) :
    v.readAt (Elt F) (Rect.unit (s := S1024x128) ![0, 0] S1024x128.size inb_S1024x128_S1024x128_0_0).toLoadRect f
      = v.read (Elt F) f := by
  funext y
  exact congrArg (v.read (Elt F) f) (whole_m y)

theorem read_m (v : View sig .tc .vmem S1024x128 .f32) (f : v.ty.Contents (Elt F)) (w : FVec F S1024x128 .f32) :
    v.read (Elt F) (v.writes (Elt F) f
      [⟨Rect.unit (s := S1024x128) ![0, 0] S1024x128.size inb_S1024x128_S1024x128_0_0, w⟩]) = w := by
  funext y
  have h := View.read_writes_cons_emb v f
    (Rect.unit (s := S1024x128) ![0, 0] S1024x128.size inb_S1024x128_S1024x128_0_0) w [] y
  rwa [whole_m] at h

theorem cov_m (v : View sig .tc .vmem S1024x128 .f32) (w : FVec F S1024x128 .f32) :
    v.readCov [(⟨Rect.unit (s := S1024x128) ![0, 0] S1024x128.size inb_S1024x128_S1024x128_0_0, w⟩ :
        View.Piece (Elt F) S1024x128 .f32)]
      (Rect.unit (s := S1024x128) ![0, 0] S1024x128.size inb_S1024x128_S1024x128_0_0).toLoadRect = w :=
  (rd_m v _).trans (read_m v _ w)

theorem read_s (v : View sig .tc .vmem S1024x2048 .f32) (f : v.ty.Contents (Elt F)) (q : Vec F S1x8x2048x128 .bf16)
    (k : Vec F S1x2x2048x128 .bf16) (u : ℕ) :
    v.read (Elt F) (v.writes (Elt F) f (sPieces fun j => scoreOut (unitQ q u) (kTile k (u % 4 / 2) j))) = S q k u :=
  (View.read_writes_eq_canon v f _ (sPieces_cover _)).trans (canon_sPieces q k u)

theorem read_p (v : View sig .tc .vmem S1024x2048 .bf16) (f : v.ty.Contents (Elt F)) (s : Vec F S1024x2048 .f32)
    (m : Vec F S1024x128 .f32) :
    v.read (Elt F) (v.writes (Elt F) f (pPieces fun c => expCols m (sCols s c))) = P s m :=
  (View.read_writes_eq_canon v f _ (pPieces_cover _)).trans (canon_pPieces s m)

/-! ## The units' values from loaded tiles -/

theorem unitQ_of (q : Vec F S1x8x2048x128 .bf16) (u : ℕ) {x y : Vec F S1x1x512x128 .bf16}
    (hx : x = qTile q (2 * (u % 4)) (u / 4)) (hy : y = qTile q (2 * (u % 4) + 1) (u / 4)) : stackQ x y = unitQ q u := by
  subst hx; subst hy; rfl

theorem s_of (q : Vec F S1x8x2048x128 .bf16) (k : Vec F S1x2x2048x128 .bf16) (u : ℕ) {l : FVec F S1024x128 .bf16}
    {t0 t1 t2 t3 t4 t5 t6 t7 : Vec F S1x1x256x128 .bf16} (hl : l = unitQ q u)
    (h0 : t0 = kTile k (u % 4 / 2) 0) (h1 : t1 = kTile k (u % 4 / 2) 1) (h2 : t2 = kTile k (u % 4 / 2) 2) (h3 : t3 = kTile k (u % 4 / 2) 3) (h4 : t4 = kTile k (u % 4 / 2) 4) (h5 : t5 = kTile k (u % 4 / 2) 5) (h6 : t6 = kTile k (u % 4 / 2) 6) (h7 : t7 = kTile k (u % 4 / 2) 7) :
    [ (⟨Rect.unit (s := S1024x2048) ![0, 1792] S1024x256.size inb_S1024x2048_S1024x256_0_1792, scoreOut l t7⟩ : View.Piece (Elt F) S1024x2048 EltTy.f32),
      (⟨Rect.unit (s := S1024x2048) ![0, 1536] S1024x256.size inb_S1024x2048_S1024x256_0_1536, scoreOut l t6⟩ : View.Piece (Elt F) S1024x2048 EltTy.f32),
      (⟨Rect.unit (s := S1024x2048) ![0, 1280] S1024x256.size inb_S1024x2048_S1024x256_0_1280, scoreOut l t5⟩ : View.Piece (Elt F) S1024x2048 EltTy.f32),
      (⟨Rect.unit (s := S1024x2048) ![0, 1024] S1024x256.size inb_S1024x2048_S1024x256_0_1024, scoreOut l t4⟩ : View.Piece (Elt F) S1024x2048 EltTy.f32),
      (⟨Rect.unit (s := S1024x2048) ![0, 768] S1024x256.size inb_S1024x2048_S1024x256_0_768, scoreOut l t3⟩ : View.Piece (Elt F) S1024x2048 EltTy.f32),
      (⟨Rect.unit (s := S1024x2048) ![0, 512] S1024x256.size inb_S1024x2048_S1024x256_0_512, scoreOut l t2⟩ : View.Piece (Elt F) S1024x2048 EltTy.f32),
      (⟨Rect.unit (s := S1024x2048) ![0, 256] S1024x256.size inb_S1024x2048_S1024x256_0_256, scoreOut l t1⟩ : View.Piece (Elt F) S1024x2048 EltTy.f32),
      (⟨Rect.unit (s := S1024x2048) ![0, 0] S1024x256.size inb_S1024x2048_S1024x256_0_0, scoreOut l t0⟩ : View.Piece (Elt F) S1024x2048 EltTy.f32) ]
      = sPieces fun j => scoreOut (unitQ q u) (kTile k (u % 4 / 2) j) := by
  subst hl; subst h0; subst h1; subst h2; subst h3; subst h4; subst h5; subst h6; subst h7; rfl

theorem m_of (q : Vec F S1x8x2048x128 .bf16) (k : Vec F S1x2x2048x128 .bf16) (u : ℕ) {l : FVec F S1024x128 .bf16}
    {t0 t1 t2 t3 t4 t5 t6 t7 : Vec F S1x1x256x128 .bf16} (hl : l = unitQ q u)
    (h0 : t0 = kTile k (u % 4 / 2) 0) (h1 : t1 = kTile k (u % 4 / 2) 1) (h2 : t2 = kTile k (u % 4 / 2) 2) (h3 : t3 = kTile k (u % 4 / 2) 3) (h4 : t4 = kTile k (u % 4 / 2) 4) (h5 : t5 = kTile k (u % 4 / 2) 5) (h6 : t6 = kTile k (u % 4 / 2) 6) (h7 : t7 = kTile k (u % 4 / 2) 7) :
    rowMax (maximumf (maximumf (maximumf (maximumf (maximumf (maximumf (maximumf (maximumf (maximumf (maximumf (maximumf (maximumf (maximumf (maximumf (maximumf (colsL (scoreTile l t0)) (colsR (scoreTile l t0)))
      (colsL (scoreTile l t1))) (colsR (scoreTile l t1)))
      (colsL (scoreTile l t2))) (colsR (scoreTile l t2)))
      (colsL (scoreTile l t3))) (colsR (scoreTile l t3)))
      (colsL (scoreTile l t4))) (colsR (scoreTile l t4)))
      (colsL (scoreTile l t5))) (colsR (scoreTile l t5)))
      (colsL (scoreTile l t6))) (colsR (scoreTile l t6)))
      (colsL (scoreTile l t7))) (colsR (scoreTile l t7)))
      = M q k u := by
  subst hl; subst h0; subst h1; subst h2; subst h3; subst h4; subst h5; subst h6; subst h7; rfl

theorem p_of (s : Vec F S1024x2048 .f32) (m : Vec F S1024x128 .f32) {m' : Vec F S1024x128 .f32}
    {s0 s1 s2 s3 s4 s5 s6 s7 s8 s9 s10 s11 s12 s13 s14 s15 : Vec F S1024x128 .f32} (hm : m' = m)
    (h0 : s0 = sCols s 0) (h1 : s1 = sCols s 1) (h2 : s2 = sCols s 2) (h3 : s3 = sCols s 3) (h4 : s4 = sCols s 4) (h5 : s5 = sCols s 5) (h6 : s6 = sCols s 6) (h7 : s7 = sCols s 7) (h8 : s8 = sCols s 8) (h9 : s9 = sCols s 9) (h10 : s10 = sCols s 10) (h11 : s11 = sCols s 11) (h12 : s12 = sCols s 12) (h13 : s13 = sCols s 13) (h14 : s14 = sCols s 14) (h15 : s15 = sCols s 15) :
    [ (⟨Rect.unit (s := S1024x2048) ![0, 1920] S1024x128.size inb_S1024x2048_S1024x128_0_1920, expCols m' s15⟩ : View.Piece (Elt F) S1024x2048 EltTy.bf16),
      (⟨Rect.unit (s := S1024x2048) ![0, 1792] S1024x128.size inb_S1024x2048_S1024x128_0_1792, expCols m' s14⟩ : View.Piece (Elt F) S1024x2048 EltTy.bf16),
      (⟨Rect.unit (s := S1024x2048) ![0, 1664] S1024x128.size inb_S1024x2048_S1024x128_0_1664, expCols m' s13⟩ : View.Piece (Elt F) S1024x2048 EltTy.bf16),
      (⟨Rect.unit (s := S1024x2048) ![0, 1536] S1024x128.size inb_S1024x2048_S1024x128_0_1536, expCols m' s12⟩ : View.Piece (Elt F) S1024x2048 EltTy.bf16),
      (⟨Rect.unit (s := S1024x2048) ![0, 1408] S1024x128.size inb_S1024x2048_S1024x128_0_1408, expCols m' s11⟩ : View.Piece (Elt F) S1024x2048 EltTy.bf16),
      (⟨Rect.unit (s := S1024x2048) ![0, 1280] S1024x128.size inb_S1024x2048_S1024x128_0_1280, expCols m' s10⟩ : View.Piece (Elt F) S1024x2048 EltTy.bf16),
      (⟨Rect.unit (s := S1024x2048) ![0, 1152] S1024x128.size inb_S1024x2048_S1024x128_0_1152, expCols m' s9⟩ : View.Piece (Elt F) S1024x2048 EltTy.bf16),
      (⟨Rect.unit (s := S1024x2048) ![0, 1024] S1024x128.size inb_S1024x2048_S1024x128_0_1024, expCols m' s8⟩ : View.Piece (Elt F) S1024x2048 EltTy.bf16),
      (⟨Rect.unit (s := S1024x2048) ![0, 896] S1024x128.size inb_S1024x2048_S1024x128_0_896, expCols m' s7⟩ : View.Piece (Elt F) S1024x2048 EltTy.bf16),
      (⟨Rect.unit (s := S1024x2048) ![0, 768] S1024x128.size inb_S1024x2048_S1024x128_0_768, expCols m' s6⟩ : View.Piece (Elt F) S1024x2048 EltTy.bf16),
      (⟨Rect.unit (s := S1024x2048) ![0, 640] S1024x128.size inb_S1024x2048_S1024x128_0_640, expCols m' s5⟩ : View.Piece (Elt F) S1024x2048 EltTy.bf16),
      (⟨Rect.unit (s := S1024x2048) ![0, 512] S1024x128.size inb_S1024x2048_S1024x128_0_512, expCols m' s4⟩ : View.Piece (Elt F) S1024x2048 EltTy.bf16),
      (⟨Rect.unit (s := S1024x2048) ![0, 384] S1024x128.size inb_S1024x2048_S1024x128_0_384, expCols m' s3⟩ : View.Piece (Elt F) S1024x2048 EltTy.bf16),
      (⟨Rect.unit (s := S1024x2048) ![0, 256] S1024x128.size inb_S1024x2048_S1024x128_0_256, expCols m' s2⟩ : View.Piece (Elt F) S1024x2048 EltTy.bf16),
      (⟨Rect.unit (s := S1024x2048) ![0, 128] S1024x128.size inb_S1024x2048_S1024x128_0_128, expCols m' s1⟩ : View.Piece (Elt F) S1024x2048 EltTy.bf16),
      (⟨Rect.unit (s := S1024x2048) ![0, 0] S1024x128.size inb_S1024x2048_S1024x128_0_0, expCols m' s0⟩ : View.Piece (Elt F) S1024x2048 EltTy.bf16) ]
      = pPieces fun c => expCols m (sCols s c) := by
  subst hm; subst h0; subst h1; subst h2; subst h3; subst h4; subst h5; subst h6; subst h7; subst h8; subst h9; subst h10; subst h11; subst h12; subst h13; subst h14; subst h15; rfl

theorem o_of (p : Vec F S1024x2048 .bf16) (k : Vec F S1x2x2048x128 .bf16) (u : ℕ)
    {p0 p1 p2 p3 p4 p5 p6 p7 : Vec F S1024x256 .bf16} {t0 t1 t2 t3 t4 t5 t6 t7 : Vec F S1x1x256x128 .bf16}
    (g0 : p0 = pCols p 0) (g1 : p1 = pCols p 1) (g2 : p2 = pCols p 2) (g3 : p3 = pCols p 3) (g4 : p4 = pCols p 4) (g5 : p5 = pCols p 5) (g6 : p6 = pCols p 6) (g7 : p7 = pCols p 7)
    (h0 : t0 = kTile k (u % 4 / 2) 0) (h1 : t1 = kTile k (u % 4 / 2) 1) (h2 : t2 = kTile k (u % 4 / 2) 2) (h3 : t3 = kTile k (u % 4 / 2) 3) (h4 : t4 = kTile k (u % 4 / 2) 4) (h5 : t5 = kTile k (u % 4 / 2) 5) (h6 : t6 = kTile k (u % 4 / 2) 6) (h7 : t7 = kTile k (u % 4 / 2) 7) :
    finish (addf (addf (addf (addf (addf (addf (addf (pvTile p0 t0) (pvTile p1 t1)) (pvTile p2 t2)) (pvTile p3 t3)) (pvTile p4 t4)) (pvTile p5 t5)) (pvTile p6 t6)) (pvTile p7 t7)) = O p k u := by
  subst g0; subst g1; subst g2; subst g3; subst g4; subst g5; subst g6; subst g7; subst h0; subst h1; subst h2; subst h3; subst h4; subst h5; subst h6; subst h7; rfl

end Cert.Proof.KernelIdeal

end
-- ==== Proof.Ideal.Trip.lean ====
module

public import proofs.«01_k».proof.Proof.Ideal.Tiles
public import Idealize.ShloMosaic.Lib.Exec
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- What trip `k` leaves, from blocks `q`, `kk`, `v` and old contents `o` (result), `s1`, `m1`, `p0`: the scores and
    maxima of unit `2k + 3`, the exponentials of unit `2k + 2`, and the results of units `2k` and `2k + 1` in place. -/
structure TripPost (k : ℕ) (q : Vec F S1x8x2048x128 .bf16) (kk v : Vec F S1x2x2048x128 .bf16)
    (o : Vec F S1x4x2048x128 .f32) (s1 : Vec F S1024x2048 .f32) (m1 : Vec F S1024x128 .f32) (p0 : Vec F S1024x2048 .bf16)
    (o' : Vec F S1x4x2048x128 .f32) (s1' : Vec F S1024x2048 .f32) (m1' : Vec F S1024x128 .f32)
    (p0' : Vec F S1024x2048 .bf16) : Prop where
  score : s1' = S q kk (2 * k + 3)
  top : m1' = M q kk (2 * k + 3)
  exps : p0' = P (S q kk (2 * k + 2)) (M q kk (2 * k + 2))
  result : o' = put (2 * k + 1) (O (P s1 m1) v (2 * k + 1)) (put (2 * k) (O p0 v (2 * k)) o)

set_option maxHeartbeats 4000000 in
/-- One trip of the loop. -/
theorem trip (c : Dev nD) (i : grid0.Coords) (arg1 : Memref sig .tc .vmem S1x8x2048x128 .bf16) (harg1 : arg1.IsWhole) (arg2 : Memref sig .tc .vmem S1x2x2048x128 .bf16) (harg2 : arg2.IsWhole) (arg3 : Memref sig .tc .vmem S1x2x2048x128 .bf16) (harg3 : arg3.IsWhole) (arg4 : Memref sig .tc .vmem S1x4x2048x128 .f32) (harg4 : arg4.IsWhole) (arg5 : Memref sig .tc .vmem S1024x2048 .f32) (harg5 : arg5.IsWhole) (arg6 : Memref sig .tc .vmem S1024x2048 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x2048 .bf16) (harg9 : arg9.IsWhole) (arg10 : Memref sig .tc .vmem S1024x2048 .bf16) (harg10 : arg10.IsWhole)
    (v95 : FVec F S1024x128 .bf16) (v96 : Vec F S1024x128 .f32) (v249 : FVec F S1024x128 .f32)
    (f1 : arg1.view.ty.Contents (Elt F)) (f2 : arg2.view.ty.Contents (Elt F)) (f3 : arg3.view.ty.Contents (Elt F))
    (f4 : arg4.view.ty.Contents (Elt F)) (f5 : arg5.view.ty.Contents (Elt F)) (f6 : arg6.view.ty.Contents (Elt F))
    (f7 : arg7.view.ty.Contents (Elt F)) (f8 : arg8.view.ty.Contents (Elt F)) (f9 : arg9.view.ty.Contents (Elt F))
    (f10 : arg10.view.ty.Contents (Elt F)) (k : Fin k0_t1_loop.trips) :
    (iprop((arg1.view.loc (c : Thread nD τ) ↦{fullShare} f1) ∗ (arg2.view.loc (c : Thread nD τ) ↦{fullShare} f2)
      ∗ (arg3.view.loc (c : Thread nD τ) ↦{fullShare} f3) ∗ (arg4.view.loc (c : Thread nD τ) ↦{fullShare} f4)
      ∗ (arg5.view.loc (c : Thread nD τ) ↦{fullShare} f5) ∗ (arg6.view.loc (c : Thread nD τ) ↦{fullShare} f6)
      ∗ (arg7.view.loc (c : Thread nD τ) ↦{fullShare} f7) ∗ (arg8.view.loc (c : Thread nD τ) ↦{fullShare} f8)
      ∗ (arg9.view.loc (c : Thread nD τ) ↦{fullShare} f9) ∗ (arg10.view.loc (c : Thread nD τ) ↦{fullShare} f10)) : sProp 𝕄)
    ⊢ wp frame (wpE defs₀ 𝒱₀ (c : Thread nD τ) none) Set.univ
        (Cert.KernelIdeal.Gen.k0_t1_body (F := F) i arg1 harg1 arg2 harg2 arg3 harg3 arg4 harg4 arg5 harg5 arg6 harg6 arg7 harg7 arg8 harg8 arg9 harg9 arg10 harg10 v95 v96 v249 k ())
        (fun _ => iprop(∃ g4 g5 g6 g7 g8 g9 g10, (arg1.view.loc (c : Thread nD τ) ↦{fullShare} f1)
          ∗ (arg2.view.loc (c : Thread nD τ) ↦{fullShare} f2) ∗ (arg3.view.loc (c : Thread nD τ) ↦{fullShare} f3)
          ∗ (arg4.view.loc (c : Thread nD τ) ↦{fullShare} g4) ∗ (arg5.view.loc (c : Thread nD τ) ↦{fullShare} g5)
          ∗ (arg6.view.loc (c : Thread nD τ) ↦{fullShare} g6) ∗ (arg7.view.loc (c : Thread nD τ) ↦{fullShare} g7)
          ∗ (arg8.view.loc (c : Thread nD τ) ↦{fullShare} g8) ∗ (arg9.view.loc (c : Thread nD τ) ↦{fullShare} g9)
          ∗ (arg10.view.loc (c : Thread nD τ) ↦{fullShare} g10)
          ∗ ⌜TripPost k.val (arg1.view.read (Elt F) f1) (arg2.view.read (Elt F) f2) (arg3.view.read (Elt F) f3)
              (arg4.view.read (Elt F) f4) (arg6.view.read (Elt F) f6) (arg8.view.read (Elt F) f8) (arg9.view.read (Elt F) f9)
              (arg4.view.read (Elt F) g4) (arg6.view.read (Elt F) g6) (arg8.view.read (Elt F) g8)
              (arg9.view.read (Elt F) g9)⌝)) := by
  have hc := cond_true k
  unfold Cert.KernelIdeal.Gen.k0_t1_body
  iintro ⟨H1, H2, H3, H4, H5, H6, H7, H8, H9, H10⟩
  sl_exec_parts
  sl_step
  iexists _
  iexists _
  iexists _
  iexists _
  iexists _
  iexists _
  iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10

  ipureintro
  have a1 : (k.val + 1) % 2 = (2 * k.val + 2) % 4 / 2 := by omega
  have a2 : k.val % 2 = (2 * k.val) % 4 / 2 := by omega
  have a3 : (k.val + 1) % 2 = (2 * k.val + 3) % 4 / 2 := by omega
  have a4 : k.val % 2 = (2 * k.val + 1) % 4 / 2 := by omega
  have hk := trip_lt k
  have x0 := rd_k arg2.view f2 (off := k0_off3 k) (g := (2 * k.val + 2) % 4 / 2) (j := 0)
    ((closed3 k).eq.trans (congrArg (fun g => ![0, g, 0, 0]) a1)) (k0_off3_inb k) (by omega) (by decide)
  have x1 := rd_k arg2.view f2 (off := k0_off5 k) (g := (2 * k.val + 2) % 4 / 2) (j := 1)
    ((closed5 k).eq.trans (congrArg (fun g => ![0, g, 256, 0]) a1)) (k0_off5_inb k) (by omega) (by decide)
  have x2 := rd_k arg2.view f2 (off := k0_off7 k) (g := (2 * k.val + 2) % 4 / 2) (j := 2)
    ((closed7 k).eq.trans (congrArg (fun g => ![0, g, 512, 0]) a1)) (k0_off7_inb k) (by omega) (by decide)
  have x3 := rd_k arg2.view f2 (off := k0_off9 k) (g := (2 * k.val + 2) % 4 / 2) (j := 3)
    ((closed9 k).eq.trans (congrArg (fun g => ![0, g, 768, 0]) a1)) (k0_off9_inb k) (by omega) (by decide)
  have x4 := rd_k arg2.view f2 (off := k0_off11 k) (g := (2 * k.val + 2) % 4 / 2) (j := 4)
    ((closed11 k).eq.trans (congrArg (fun g => ![0, g, 1024, 0]) a1)) (k0_off11_inb k) (by omega) (by decide)
  have x5 := rd_k arg2.view f2 (off := k0_off13 k) (g := (2 * k.val + 2) % 4 / 2) (j := 5)
    ((closed13 k).eq.trans (congrArg (fun g => ![0, g, 1280, 0]) a1)) (k0_off13_inb k) (by omega) (by decide)
  have x6 := rd_k arg2.view f2 (off := k0_off15 k) (g := (2 * k.val + 2) % 4 / 2) (j := 6)
    ((closed15 k).eq.trans (congrArg (fun g => ![0, g, 1536, 0]) a1)) (k0_off15_inb k) (by omega) (by decide)
  have x7 := rd_k arg2.view f2 (off := k0_off17 k) (g := (2 * k.val + 2) % 4 / 2) (j := 7)
    ((closed17 k).eq.trans (congrArg (fun g => ![0, g, 1792, 0]) a1)) (k0_off17_inb k) (by omega) (by decide)
  have y0 := rd_k arg3.view f3 (off := k0_off4 k) (g := (2 * k.val) % 4 / 2) (j := 0)
    ((closed4 k).eq.trans (congrArg (fun g => ![0, g, 0, 0]) a2)) (k0_off4_inb k) (by omega) (by decide)
  have y1 := rd_k arg3.view f3 (off := k0_off6 k) (g := (2 * k.val) % 4 / 2) (j := 1)
    ((closed6 k).eq.trans (congrArg (fun g => ![0, g, 256, 0]) a2)) (k0_off6_inb k) (by omega) (by decide)
  have y2 := rd_k arg3.view f3 (off := k0_off8 k) (g := (2 * k.val) % 4 / 2) (j := 2)
    ((closed8 k).eq.trans (congrArg (fun g => ![0, g, 512, 0]) a2)) (k0_off8_inb k) (by omega) (by decide)
  have y3 := rd_k arg3.view f3 (off := k0_off10 k) (g := (2 * k.val) % 4 / 2) (j := 3)
    ((closed10 k).eq.trans (congrArg (fun g => ![0, g, 768, 0]) a2)) (k0_off10_inb k) (by omega) (by decide)
  have y4 := rd_k arg3.view f3 (off := k0_off12 k) (g := (2 * k.val) % 4 / 2) (j := 4)
    ((closed12 k).eq.trans (congrArg (fun g => ![0, g, 1024, 0]) a2)) (k0_off12_inb k) (by omega) (by decide)
  have y5 := rd_k arg3.view f3 (off := k0_off14 k) (g := (2 * k.val) % 4 / 2) (j := 5)
    ((closed14 k).eq.trans (congrArg (fun g => ![0, g, 1280, 0]) a2)) (k0_off14_inb k) (by omega) (by decide)
  have y6 := rd_k arg3.view f3 (off := k0_off16 k) (g := (2 * k.val) % 4 / 2) (j := 6)
    ((closed16 k).eq.trans (congrArg (fun g => ![0, g, 1536, 0]) a2)) (k0_off16_inb k) (by omega) (by decide)
  have y7 := rd_k arg3.view f3 (off := k0_off18 k) (g := (2 * k.val) % 4 / 2) (j := 7)
    ((closed18 k).eq.trans (congrArg (fun g => ![0, g, 1792, 0]) a2)) (k0_off18_inb k) (by omega) (by decide)
  have z0 := rd_k arg2.view f2 (off := k0_off22 k) (g := (2 * k.val + 3) % 4 / 2) (j := 0)
    ((closed22 k).eq.trans (congrArg (fun g => ![0, g, 0, 0]) a3)) (k0_off22_inb k hc) (by omega) (by decide)
  have z1 := rd_k arg2.view f2 (off := k0_off24 k) (g := (2 * k.val + 3) % 4 / 2) (j := 1)
    ((closed24 k).eq.trans (congrArg (fun g => ![0, g, 256, 0]) a3)) (k0_off24_inb k hc) (by omega) (by decide)
  have z2 := rd_k arg2.view f2 (off := k0_off26 k) (g := (2 * k.val + 3) % 4 / 2) (j := 2)
    ((closed26 k).eq.trans (congrArg (fun g => ![0, g, 512, 0]) a3)) (k0_off26_inb k hc) (by omega) (by decide)
  have z3 := rd_k arg2.view f2 (off := k0_off28 k) (g := (2 * k.val + 3) % 4 / 2) (j := 3)
    ((closed28 k).eq.trans (congrArg (fun g => ![0, g, 768, 0]) a3)) (k0_off28_inb k hc) (by omega) (by decide)
  have z4 := rd_k arg2.view f2 (off := k0_off30 k) (g := (2 * k.val + 3) % 4 / 2) (j := 4)
    ((closed30 k).eq.trans (congrArg (fun g => ![0, g, 1024, 0]) a3)) (k0_off30_inb k hc) (by omega) (by decide)
  have z5 := rd_k arg2.view f2 (off := k0_off32 k) (g := (2 * k.val + 3) % 4 / 2) (j := 5)
    ((closed32 k).eq.trans (congrArg (fun g => ![0, g, 1280, 0]) a3)) (k0_off32_inb k hc) (by omega) (by decide)
  have z6 := rd_k arg2.view f2 (off := k0_off34 k) (g := (2 * k.val + 3) % 4 / 2) (j := 6)
    ((closed34 k).eq.trans (congrArg (fun g => ![0, g, 1536, 0]) a3)) (k0_off34_inb k hc) (by omega) (by decide)
  have z7 := rd_k arg2.view f2 (off := k0_off36 k) (g := (2 * k.val + 3) % 4 / 2) (j := 7)
    ((closed36 k).eq.trans (congrArg (fun g => ![0, g, 1792, 0]) a3)) (k0_off36_inb k hc) (by omega) (by decide)
  have w0 := rd_k arg3.view f3 (off := k0_off23 k) (g := (2 * k.val + 1) % 4 / 2) (j := 0)
    ((closed23 k).eq.trans (congrArg (fun g => ![0, g, 0, 0]) a4)) (k0_off23_inb k hc) (by omega) (by decide)
  have w1 := rd_k arg3.view f3 (off := k0_off25 k) (g := (2 * k.val + 1) % 4 / 2) (j := 1)
    ((closed25 k).eq.trans (congrArg (fun g => ![0, g, 256, 0]) a4)) (k0_off25_inb k hc) (by omega) (by decide)
  have w2 := rd_k arg3.view f3 (off := k0_off27 k) (g := (2 * k.val + 1) % 4 / 2) (j := 2)
    ((closed27 k).eq.trans (congrArg (fun g => ![0, g, 512, 0]) a4)) (k0_off27_inb k hc) (by omega) (by decide)
  have w3 := rd_k arg3.view f3 (off := k0_off29 k) (g := (2 * k.val + 1) % 4 / 2) (j := 3)
    ((closed29 k).eq.trans (congrArg (fun g => ![0, g, 768, 0]) a4)) (k0_off29_inb k hc) (by omega) (by decide)
  have w4 := rd_k arg3.view f3 (off := k0_off31 k) (g := (2 * k.val + 1) % 4 / 2) (j := 4)
    ((closed31 k).eq.trans (congrArg (fun g => ![0, g, 1024, 0]) a4)) (k0_off31_inb k hc) (by omega) (by decide)
  have w5 := rd_k arg3.view f3 (off := k0_off33 k) (g := (2 * k.val + 1) % 4 / 2) (j := 5)
    ((closed33 k).eq.trans (congrArg (fun g => ![0, g, 1280, 0]) a4)) (k0_off33_inb k hc) (by omega) (by decide)
  have w6 := rd_k arg3.view f3 (off := k0_off35 k) (g := (2 * k.val + 1) % 4 / 2) (j := 6)
    ((closed35 k).eq.trans (congrArg (fun g => ![0, g, 1536, 0]) a4)) (k0_off35_inb k hc) (by omega) (by decide)
  have w7 := rd_k arg3.view f3 (off := k0_off37 k) (g := (2 * k.val + 1) % 4 / 2) (j := 7)
    ((closed37 k).eq.trans (congrArg (fun g => ![0, g, 1792, 0]) a4)) (k0_off37_inb k hc) (by omega) (by decide)
  have l2 := unitQ_of (arg1.view.read (Elt F) f1) (2 * k.val + 2)
    (rd_q arg1.view f1 (off := k0_off1 k) (h := 2 * ((2 * k.val + 2) % 4)) (rb := (2 * k.val + 2) / 4)
      ((closed1 k).eq.trans (congrArg₂ (fun g r => ![0, g, 512 * r, 0]) (by omega) (by omega))) (k0_off1_inb k) (by omega) (by omega))
    (rd_q arg1.view f1 (off := k0_off2 k) (h := 2 * ((2 * k.val + 2) % 4) + 1) (rb := (2 * k.val + 2) / 4)
      ((closed2 k).eq.trans (congrArg₂ (fun g r => ![0, g, 512 * r, 0]) (by omega) (by omega))) (k0_off2_inb k) (by omega) (by omega))
  have l3 := unitQ_of (arg1.view.read (Elt F) f1) (2 * k.val + 3)
    (rd_q arg1.view f1 (off := k0_off20 k) (h := 2 * ((2 * k.val + 3) % 4)) (rb := (2 * k.val + 3) / 4)
      ((closed20 k).eq.trans (congrArg₂ (fun g r => ![0, g, 512 * r, 0]) (by omega) (by omega))) (k0_off20_inb k hc) (by omega) (by omega))
    (rd_q arg1.view f1 (off := k0_off21 k) (h := 2 * ((2 * k.val + 3) % 4) + 1) (rb := (2 * k.val + 3) / 4)
      ((closed21 k).eq.trans (congrArg₂ (fun g r => ![0, g, 512 * r, 0]) (by omega) (by omega))) (k0_off21_inb k hc) (by omega) (by omega))
  have e5 := s_of _ (arg2.view.read (Elt F) f2) _ l2 x0 x1 x2 x3 x4 x5 x6 x7
  have e7 := m_of _ (arg2.view.read (Elt F) f2) _ l2 x0 x1 x2 x3 x4 x5 x6 x7
  have e6 := s_of _ (arg2.view.read (Elt F) f2) _ l3 z0 z1 z2 z3 z4 z5 z6 z7
  have e8 := m_of _ (arg2.view.read (Elt F) f2) _ l3 z0 z1 z2 z3 z4 z5 z6 z7
  have s0 := (congrArg (fun L => arg5.view.readCov L (Rect.unit (s := S1024x2048) ![0, 0] S1024x128.size
    inb_S1024x2048_S1024x128_0_0).toLoadRect) e5).trans (cov_s arg5.view _ _ _ (c := 0) rfl _ (by decide))
  have s1 := (congrArg (fun L => arg5.view.readCov L (Rect.unit (s := S1024x2048) ![0, 128] S1024x128.size
    inb_S1024x2048_S1024x128_0_128).toLoadRect) e5).trans (cov_s arg5.view _ _ _ (c := 1) rfl _ (by decide))
  have s2 := (congrArg (fun L => arg5.view.readCov L (Rect.unit (s := S1024x2048) ![0, 256] S1024x128.size
    inb_S1024x2048_S1024x128_0_256).toLoadRect) e5).trans (cov_s arg5.view _ _ _ (c := 2) rfl _ (by decide))
  have s3 := (congrArg (fun L => arg5.view.readCov L (Rect.unit (s := S1024x2048) ![0, 384] S1024x128.size
    inb_S1024x2048_S1024x128_0_384).toLoadRect) e5).trans (cov_s arg5.view _ _ _ (c := 3) rfl _ (by decide))
  have s4 := (congrArg (fun L => arg5.view.readCov L (Rect.unit (s := S1024x2048) ![0, 512] S1024x128.size
    inb_S1024x2048_S1024x128_0_512).toLoadRect) e5).trans (cov_s arg5.view _ _ _ (c := 4) rfl _ (by decide))
  have s5 := (congrArg (fun L => arg5.view.readCov L (Rect.unit (s := S1024x2048) ![0, 640] S1024x128.size
    inb_S1024x2048_S1024x128_0_640).toLoadRect) e5).trans (cov_s arg5.view _ _ _ (c := 5) rfl _ (by decide))
  have s6 := (congrArg (fun L => arg5.view.readCov L (Rect.unit (s := S1024x2048) ![0, 768] S1024x128.size
    inb_S1024x2048_S1024x128_0_768).toLoadRect) e5).trans (cov_s arg5.view _ _ _ (c := 6) rfl _ (by decide))
  have s7 := (congrArg (fun L => arg5.view.readCov L (Rect.unit (s := S1024x2048) ![0, 896] S1024x128.size
    inb_S1024x2048_S1024x128_0_896).toLoadRect) e5).trans (cov_s arg5.view _ _ _ (c := 7) rfl _ (by decide))
  have s8 := (congrArg (fun L => arg5.view.readCov L (Rect.unit (s := S1024x2048) ![0, 1024] S1024x128.size
    inb_S1024x2048_S1024x128_0_1024).toLoadRect) e5).trans (cov_s arg5.view _ _ _ (c := 8) rfl _ (by decide))
  have s9 := (congrArg (fun L => arg5.view.readCov L (Rect.unit (s := S1024x2048) ![0, 1152] S1024x128.size
    inb_S1024x2048_S1024x128_0_1152).toLoadRect) e5).trans (cov_s arg5.view _ _ _ (c := 9) rfl _ (by decide))
  have s10 := (congrArg (fun L => arg5.view.readCov L (Rect.unit (s := S1024x2048) ![0, 1280] S1024x128.size
    inb_S1024x2048_S1024x128_0_1280).toLoadRect) e5).trans (cov_s arg5.view _ _ _ (c := 10) rfl _ (by decide))
  have s11 := (congrArg (fun L => arg5.view.readCov L (Rect.unit (s := S1024x2048) ![0, 1408] S1024x128.size
    inb_S1024x2048_S1024x128_0_1408).toLoadRect) e5).trans (cov_s arg5.view _ _ _ (c := 11) rfl _ (by decide))
  have s12 := (congrArg (fun L => arg5.view.readCov L (Rect.unit (s := S1024x2048) ![0, 1536] S1024x128.size
    inb_S1024x2048_S1024x128_0_1536).toLoadRect) e5).trans (cov_s arg5.view _ _ _ (c := 12) rfl _ (by decide))
  have s13 := (congrArg (fun L => arg5.view.readCov L (Rect.unit (s := S1024x2048) ![0, 1664] S1024x128.size
    inb_S1024x2048_S1024x128_0_1664).toLoadRect) e5).trans (cov_s arg5.view _ _ _ (c := 13) rfl _ (by decide))
  have s14 := (congrArg (fun L => arg5.view.readCov L (Rect.unit (s := S1024x2048) ![0, 1792] S1024x128.size
    inb_S1024x2048_S1024x128_0_1792).toLoadRect) e5).trans (cov_s arg5.view _ _ _ (c := 14) rfl _ (by decide))
  have s15 := (congrArg (fun L => arg5.view.readCov L (Rect.unit (s := S1024x2048) ![0, 1920] S1024x128.size
    inb_S1024x2048_S1024x128_0_1920).toLoadRect) e5).trans (cov_s arg5.view _ _ _ (c := 15) rfl _ (by decide))
  have e9 := p_of _ _ ((cov_m arg7.view _).trans e7) s0 s1 s2 s3 s4 s5 s6 s7 s8 s9 s10 s11 s12 s13 s14 s15
  have r0 := rd_s arg6.view f6 (off := ![0, 0]) (c := 0) rfl inb_S1024x2048_S1024x128_0_0 (by decide)
  have r1 := rd_s arg6.view f6 (off := ![0, 128]) (c := 1) rfl inb_S1024x2048_S1024x128_0_128 (by decide)
  have r2 := rd_s arg6.view f6 (off := ![0, 256]) (c := 2) rfl inb_S1024x2048_S1024x128_0_256 (by decide)
  have r3 := rd_s arg6.view f6 (off := ![0, 384]) (c := 3) rfl inb_S1024x2048_S1024x128_0_384 (by decide)
  have r4 := rd_s arg6.view f6 (off := ![0, 512]) (c := 4) rfl inb_S1024x2048_S1024x128_0_512 (by decide)
  have r5 := rd_s arg6.view f6 (off := ![0, 640]) (c := 5) rfl inb_S1024x2048_S1024x128_0_640 (by decide)
  have r6 := rd_s arg6.view f6 (off := ![0, 768]) (c := 6) rfl inb_S1024x2048_S1024x128_0_768 (by decide)
  have r7 := rd_s arg6.view f6 (off := ![0, 896]) (c := 7) rfl inb_S1024x2048_S1024x128_0_896 (by decide)
  have r8 := rd_s arg6.view f6 (off := ![0, 1024]) (c := 8) rfl inb_S1024x2048_S1024x128_0_1024 (by decide)
  have r9 := rd_s arg6.view f6 (off := ![0, 1152]) (c := 9) rfl inb_S1024x2048_S1024x128_0_1152 (by decide)
  have r10 := rd_s arg6.view f6 (off := ![0, 1280]) (c := 10) rfl inb_S1024x2048_S1024x128_0_1280 (by decide)
  have r11 := rd_s arg6.view f6 (off := ![0, 1408]) (c := 11) rfl inb_S1024x2048_S1024x128_0_1408 (by decide)
  have r12 := rd_s arg6.view f6 (off := ![0, 1536]) (c := 12) rfl inb_S1024x2048_S1024x128_0_1536 (by decide)
  have r13 := rd_s arg6.view f6 (off := ![0, 1664]) (c := 13) rfl inb_S1024x2048_S1024x128_0_1664 (by decide)
  have r14 := rd_s arg6.view f6 (off := ![0, 1792]) (c := 14) rfl inb_S1024x2048_S1024x128_0_1792 (by decide)
  have r15 := rd_s arg6.view f6 (off := ![0, 1920]) (c := 15) rfl inb_S1024x2048_S1024x128_0_1920 (by decide)
  have e10 := p_of _ _ (rd_m arg8.view f8) r0 r1 r2 r3 r4 r5 r6 r7 r8 r9 r10 r11 r12 r13 r14 r15
  have p0 := (congrArg (fun L => arg10.view.readCov L (Rect.unit (s := S1024x2048) ![0, 0] S1024x256.size
    inb_S1024x2048_S1024x256_0_0).toLoadRect) e10).trans (cov_p arg10.view _ _ (j := 0) rfl _ (by decide))
  have o0 := rd_p arg9.view f9 (off := ![0, 0]) (j := 0) rfl inb_S1024x2048_S1024x256_0_0 (by decide)
  have p1 := (congrArg (fun L => arg10.view.readCov L (Rect.unit (s := S1024x2048) ![0, 256] S1024x256.size
    inb_S1024x2048_S1024x256_0_256).toLoadRect) e10).trans (cov_p arg10.view _ _ (j := 1) rfl _ (by decide))
  have o1 := rd_p arg9.view f9 (off := ![0, 256]) (j := 1) rfl inb_S1024x2048_S1024x256_0_256 (by decide)
  have p2 := (congrArg (fun L => arg10.view.readCov L (Rect.unit (s := S1024x2048) ![0, 512] S1024x256.size
    inb_S1024x2048_S1024x256_0_512).toLoadRect) e10).trans (cov_p arg10.view _ _ (j := 2) rfl _ (by decide))
  have o2 := rd_p arg9.view f9 (off := ![0, 512]) (j := 2) rfl inb_S1024x2048_S1024x256_0_512 (by decide)
  have p3 := (congrArg (fun L => arg10.view.readCov L (Rect.unit (s := S1024x2048) ![0, 768] S1024x256.size
    inb_S1024x2048_S1024x256_0_768).toLoadRect) e10).trans (cov_p arg10.view _ _ (j := 3) rfl _ (by decide))
  have o3 := rd_p arg9.view f9 (off := ![0, 768]) (j := 3) rfl inb_S1024x2048_S1024x256_0_768 (by decide)
  have p4 := (congrArg (fun L => arg10.view.readCov L (Rect.unit (s := S1024x2048) ![0, 1024] S1024x256.size
    inb_S1024x2048_S1024x256_0_1024).toLoadRect) e10).trans (cov_p arg10.view _ _ (j := 4) rfl _ (by decide))
  have o4 := rd_p arg9.view f9 (off := ![0, 1024]) (j := 4) rfl inb_S1024x2048_S1024x256_0_1024 (by decide)
  have p5 := (congrArg (fun L => arg10.view.readCov L (Rect.unit (s := S1024x2048) ![0, 1280] S1024x256.size
    inb_S1024x2048_S1024x256_0_1280).toLoadRect) e10).trans (cov_p arg10.view _ _ (j := 5) rfl _ (by decide))
  have o5 := rd_p arg9.view f9 (off := ![0, 1280]) (j := 5) rfl inb_S1024x2048_S1024x256_0_1280 (by decide)
  have p6 := (congrArg (fun L => arg10.view.readCov L (Rect.unit (s := S1024x2048) ![0, 1536] S1024x256.size
    inb_S1024x2048_S1024x256_0_1536).toLoadRect) e10).trans (cov_p arg10.view _ _ (j := 6) rfl _ (by decide))
  have o6 := rd_p arg9.view f9 (off := ![0, 1536]) (j := 6) rfl inb_S1024x2048_S1024x256_0_1536 (by decide)
  have p7 := (congrArg (fun L => arg10.view.readCov L (Rect.unit (s := S1024x2048) ![0, 1792] S1024x256.size
    inb_S1024x2048_S1024x256_0_1792).toLoadRect) e10).trans (cov_p arg10.view _ _ (j := 7) rfl _ (by decide))
  have o7 := rd_p arg9.view f9 (off := ![0, 1792]) (j := 7) rfl inb_S1024x2048_S1024x256_0_1792 (by decide)
  have eo1 := o_of _ _ _ p0 p1 p2 p3 p4 p5 p6 p7 w0 w1 w2 w3 w4 w5 w6 w7
  have eo0 := o_of _ _ _ o0 o1 o2 o3 o4 o5 o6 o7 y0 y1 y2 y3 y4 y5 y6 y7
  refine ⟨?_, ?_, ?_, ?_⟩
  · exact (congrArg (fun L => arg6.view.read (Elt F) (arg6.view.writes (Elt F) f6 L)) e6).trans (read_s _ _ _ _ _)
  · exact (read_m _ _ _).trans e8
  · exact (congrArg (fun L => arg9.view.read (Elt F) (arg9.view.writes (Elt F) f9 L)) e9).trans (read_p _ _ _ _)
  · refine (read_put arg4.view f4 (u := 2 * k.val + 1) ((closed38 k).eq.trans ?_) _ _ _).trans ?_
    · exact congrArg₂ (fun g r => ![0, g, 512 * r, 0]) (by omega) (by omega)
    · refine congrArg₂ (put (2 * k.val + 1)) eo1 ?_
      refine (read_put arg4.view f4 (u := 2 * k.val) ((closed19 k).eq.trans ?_) _ _ _).trans ?_
      · exact congrArg₂ (fun g r => ![0, g, 512 * r, 0]) (by omega) (by omega)
      · exact congrArg (fun X => put (2 * k.val) X (arg4.view.read (Elt F) f4)) eo0

end Cert.Proof.KernelIdeal

end
-- ==== Proof.Ideal.Body.lean ====
/-
  The attention kernel's whole body: the first two units' scores before the loop, seven trips, the last two units' results
  after it. The loop's invariant at trip `k` holds the scores and maxima of unit `2k + 1`, the exponentials of unit `2k`,
  and the results of the units before.
-/
module

public import proofs.«01_k».proof.Proof.Ideal.Trip
public import Idealize.ShloMosaic.Lib.Exec
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The result of unit `u` from the blocks. -/
def unitO (q : Vec F S1x8x2048x128 .bf16) (k v : Vec F S1x2x2048x128 .bf16) (u : ℕ) : FVec F S1x1x512x128 .f32 :=
  O (P (S q k u) (M q k u)) v u

/-- The result block once units `0` to `n - 1` are in place. -/
def putAll (q : Vec F S1x8x2048x128 .bf16) (k v : Vec F S1x2x2048x128 .bf16) (o : Vec F S1x4x2048x128 .f32) :
    ℕ → Vec F S1x4x2048x128 .f32
  | 0 => o
  | n + 1 => put n (unitO q k v n) (putAll q k v o n)

/-- Before trip `k`. -/
structure LoopState (k : ℕ) (q : Vec F S1x8x2048x128 .bf16) (kk v : Vec F S1x2x2048x128 .bf16)
    (o0 o : Vec F S1x4x2048x128 .f32) (s1 : Vec F S1024x2048 .f32) (m1 : Vec F S1024x128 .f32)
    (p0 : Vec F S1024x2048 .bf16) : Prop where
  score : s1 = S q kk (2 * k + 1)
  top : m1 = M q kk (2 * k + 1)
  exps : p0 = P (S q kk (2 * k)) (M q kk (2 * k))
  result : o = putAll q kk v o0 (2 * k)

/-- A trip takes the state before it to the state before the next. -/
theorem LoopState.next {k : ℕ} {q : Vec F S1x8x2048x128 .bf16} {kk v : Vec F S1x2x2048x128 .bf16}
    {o0 o o' : Vec F S1x4x2048x128 .f32} {s1 s1' : Vec F S1024x2048 .f32} {m1 m1' : Vec F S1024x128 .f32}
    {p0 p0' : Vec F S1024x2048 .bf16} (h : LoopState k q kk v o0 o s1 m1 p0)
    (t : TripPost k q kk v o s1 m1 p0 o' s1' m1' p0') : LoopState (k + 1) q kk v o0 o' s1' m1' p0' := by
  obtain ⟨rfl, rfl, rfl, rfl⟩ := h
  exact ⟨t.score, t.top, t.exps, t.result⟩

/-- The loop's invariant. -/
def inv (c : Dev nD) (i : grid0.Coords) (arg1 : Memref sig .tc .vmem S1x8x2048x128 .bf16) (harg1 : arg1.IsWhole) (arg2 : Memref sig .tc .vmem S1x2x2048x128 .bf16) (harg2 : arg2.IsWhole) (arg3 : Memref sig .tc .vmem S1x2x2048x128 .bf16) (harg3 : arg3.IsWhole) (arg4 : Memref sig .tc .vmem S1x4x2048x128 .f32) (harg4 : arg4.IsWhole) (arg5 : Memref sig .tc .vmem S1024x2048 .f32) (harg5 : arg5.IsWhole) (arg6 : Memref sig .tc .vmem S1024x2048 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x2048 .bf16) (harg9 : arg9.IsWhole) (arg10 : Memref sig .tc .vmem S1024x2048 .bf16) (harg10 : arg10.IsWhole)
    (f1 : arg1.view.ty.Contents (Elt F)) (f2 : arg2.view.ty.Contents (Elt F)) (f3 : arg3.view.ty.Contents (Elt F))
    (f4 : arg4.view.ty.Contents (Elt F)) (k : ℕ) (_ : Unit) : sProp 𝕄 :=
  iprop(∃ g4 g5 g6 g7 g8 g9 g10, (arg1.view.loc (c : Thread nD τ) ↦{fullShare} f1)
    ∗ (arg2.view.loc (c : Thread nD τ) ↦{fullShare} f2) ∗ (arg3.view.loc (c : Thread nD τ) ↦{fullShare} f3)
    ∗ (arg4.view.loc (c : Thread nD τ) ↦{fullShare} g4) ∗ (arg5.view.loc (c : Thread nD τ) ↦{fullShare} g5)
    ∗ (arg6.view.loc (c : Thread nD τ) ↦{fullShare} g6) ∗ (arg7.view.loc (c : Thread nD τ) ↦{fullShare} g7)
    ∗ (arg8.view.loc (c : Thread nD τ) ↦{fullShare} g8) ∗ (arg9.view.loc (c : Thread nD τ) ↦{fullShare} g9)
    ∗ (arg10.view.loc (c : Thread nD τ) ↦{fullShare} g10)
    ∗ ⌜LoopState k (arg1.view.read (Elt F) f1) (arg2.view.read (Elt F) f2) (arg3.view.read (Elt F) f3)
        (arg4.view.read (Elt F) f4) (arg4.view.read (Elt F) g4) (arg6.view.read (Elt F) g6) (arg8.view.read (Elt F) g8)
        (arg9.view.read (Elt F) g9)⌝)

set_option maxHeartbeats 4000000 in
/-- The body: from any contents, the result block holds every unit's result. -/
theorem body_run (c : Dev nD) (i : grid0.Coords) (arg1 : Memref sig .tc .vmem S1x8x2048x128 .bf16) (harg1 : arg1.IsWhole) (arg2 : Memref sig .tc .vmem S1x2x2048x128 .bf16) (harg2 : arg2.IsWhole) (arg3 : Memref sig .tc .vmem S1x2x2048x128 .bf16) (harg3 : arg3.IsWhole) (arg4 : Memref sig .tc .vmem S1x4x2048x128 .f32) (harg4 : arg4.IsWhole) (arg5 : Memref sig .tc .vmem S1024x2048 .f32) (harg5 : arg5.IsWhole) (arg6 : Memref sig .tc .vmem S1024x2048 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x2048 .bf16) (harg9 : arg9.IsWhole) (arg10 : Memref sig .tc .vmem S1024x2048 .bf16) (harg10 : arg10.IsWhole)
    (f1 : arg1.view.ty.Contents (Elt F)) (f2 : arg2.view.ty.Contents (Elt F)) (f3 : arg3.view.ty.Contents (Elt F))
    (f4 : arg4.view.ty.Contents (Elt F))
    (f5 : arg5.view.ty.Contents (Elt F)) (f6 : arg6.view.ty.Contents (Elt F))
    (f7 : arg7.view.ty.Contents (Elt F)) (f8 : arg8.view.ty.Contents (Elt F)) (f9 : arg9.view.ty.Contents (Elt F))
    (f10 : arg10.view.ty.Contents (Elt F)) :
    (iprop((arg1.view.loc (c : Thread nD τ) ↦{fullShare} f1) ∗ (arg2.view.loc (c : Thread nD τ) ↦{fullShare} f2)
      ∗ (arg3.view.loc (c : Thread nD τ) ↦{fullShare} f3) ∗ (arg4.view.loc (c : Thread nD τ) ↦{fullShare} f4)
      ∗ (arg5.view.loc (c : Thread nD τ) ↦{fullShare} f5) ∗ (arg6.view.loc (c : Thread nD τ) ↦{fullShare} f6)
      ∗ (arg7.view.loc (c : Thread nD τ) ↦{fullShare} f7) ∗ (arg8.view.loc (c : Thread nD τ) ↦{fullShare} f8)
      ∗ (arg9.view.loc (c : Thread nD τ) ↦{fullShare} f9) ∗ (arg10.view.loc (c : Thread nD τ) ↦{fullShare} f10)) : sProp 𝕄)
    ⊢ wp frame (wpE defs₀ 𝒱₀ (c : Thread nD τ) none) Set.univ
        (Cert.KernelIdeal.Gen.cc0_attn_skel (F := F) i arg1 harg1 arg2 harg2 arg3 harg3 arg4 harg4 arg5 harg5 arg6 harg6 arg7 harg7 arg8 harg8 arg9 harg9 arg10 harg10)
        (fun _ => iprop(∃ g4 g5 g6 g7 g8 g9 g10, (arg1.view.loc (c : Thread nD τ) ↦{fullShare} f1)
          ∗ (arg2.view.loc (c : Thread nD τ) ↦{fullShare} f2) ∗ (arg3.view.loc (c : Thread nD τ) ↦{fullShare} f3)
          ∗ (arg4.view.loc (c : Thread nD τ) ↦{fullShare} g4) ∗ (arg5.view.loc (c : Thread nD τ) ↦{fullShare} g5)
          ∗ (arg6.view.loc (c : Thread nD τ) ↦{fullShare} g6) ∗ (arg7.view.loc (c : Thread nD τ) ↦{fullShare} g7)
          ∗ (arg8.view.loc (c : Thread nD τ) ↦{fullShare} g8) ∗ (arg9.view.loc (c : Thread nD τ) ↦{fullShare} g9)
          ∗ (arg10.view.loc (c : Thread nD τ) ↦{fullShare} g10)
          ∗ ⌜arg4.view.read (Elt F) g4 = putAll (arg1.view.read (Elt F) f1) (arg2.view.read (Elt F) f2)
              (arg3.view.read (Elt F) f3) (arg4.view.read (Elt F) f4) 16⌝)) := by
  unfold Cert.KernelIdeal.Gen.cc0_attn_skel
  iintro ⟨H1, H2, H3, H4, H5, H6, H7, H8, H9, H10⟩
  sl_exec_parts
  sl_for (inv c i arg1 harg1 arg2 harg2 arg3 harg3 arg4 harg4 arg5 harg5 arg6 harg6 arg7 harg7 arg8 harg8 arg9 harg9 arg10 harg10 f1 f2 f3 f4) $$ [H1 H2 H3 H4 H5 H6 H7 H8 H9 H10]
  case region =>
    intro k a
    unfold inv
    iintro ⟨%g4, %g5, %g6, %g7, %g8, %g9, %g10, H1, H2, H3, H4, H5, H6, H7, H8, H9, H10, %hs⟩
    iapply (wp_wand_r frame _ Set.univ)
    isplitl [H1 H2 H3 H4 H5 H6 H7 H8 H9 H10]
    · iapply (trip c i arg1 harg1 arg2 harg2 arg3 harg3 arg4 harg4 arg5 harg5 arg6 harg6 arg7 harg7 arg8 harg8 arg9 harg9 arg10 harg10 _ _ _ f1 f2 f3 g4 g5 g6 g7 g8 g9 g10 k)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro %b ⟨%j4, %j5, %j6, %j7, %j8, %j9, %j10, H1, H2, H3, H4, H5, H6, H7, H8, H9, H10, %ht⟩
    iexists j4
    iexists j5
    iexists j6
    iexists j7
    iexists j8
    iexists j9
    iexists j10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    ipureintro
    exact hs.next ht
  · unfold inv
    iexists _
    iexists _
    iexists _
    iexists _
    iexists _
    iexists _
    iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    ipureintro
    have l0 := unitQ_of (arg1.view.read (Elt F) f1) 0
      (rd_q arg1.view f1 (off := ![0, 0, 0, 0]) (h := 2 * (0 % 4)) (rb := 0 / 4) rfl inb_S1x8x2048x128_S1x1x512x128_0_0_0_0 (by decide) (by decide))
      (rd_q arg1.view f1 (off := ![0, 1, 0, 0]) (h := 2 * (0 % 4) + 1) (rb := 0 / 4) rfl inb_S1x8x2048x128_S1x1x512x128_0_1_0_0 (by decide) (by decide))
    have l1 := unitQ_of (arg1.view.read (Elt F) f1) 1
      (rd_q arg1.view f1 (off := ![0, 2, 0, 0]) (h := 2 * (1 % 4)) (rb := 1 / 4) rfl inb_S1x8x2048x128_S1x1x512x128_0_2_0_0 (by decide) (by decide))
      (rd_q arg1.view f1 (off := ![0, 3, 0, 0]) (h := 2 * (1 % 4) + 1) (rb := 1 / 4) rfl inb_S1x8x2048x128_S1x1x512x128_0_3_0_0 (by decide) (by decide))
    have x0 := rd_k arg2.view f2 (off := ![0, 0, 0, 0]) (g := 0 % 4 / 2) (j := 0) rfl
      inb_S1x2x2048x128_S1x1x256x128_0_0_0_0 (by decide) (by decide)
    have x1 := rd_k arg2.view f2 (off := ![0, 0, 256, 0]) (g := 0 % 4 / 2) (j := 1) rfl
      inb_S1x2x2048x128_S1x1x256x128_0_0_256_0 (by decide) (by decide)
    have x2 := rd_k arg2.view f2 (off := ![0, 0, 512, 0]) (g := 0 % 4 / 2) (j := 2) rfl
      inb_S1x2x2048x128_S1x1x256x128_0_0_512_0 (by decide) (by decide)
    have x3 := rd_k arg2.view f2 (off := ![0, 0, 768, 0]) (g := 0 % 4 / 2) (j := 3) rfl
      inb_S1x2x2048x128_S1x1x256x128_0_0_768_0 (by decide) (by decide)
    have x4 := rd_k arg2.view f2 (off := ![0, 0, 1024, 0]) (g := 0 % 4 / 2) (j := 4) rfl
      inb_S1x2x2048x128_S1x1x256x128_0_0_1024_0 (by decide) (by decide)
    have x5 := rd_k arg2.view f2 (off := ![0, 0, 1280, 0]) (g := 0 % 4 / 2) (j := 5) rfl
      inb_S1x2x2048x128_S1x1x256x128_0_0_1280_0 (by decide) (by decide)
    have x6 := rd_k arg2.view f2 (off := ![0, 0, 1536, 0]) (g := 0 % 4 / 2) (j := 6) rfl
      inb_S1x2x2048x128_S1x1x256x128_0_0_1536_0 (by decide) (by decide)
    have x7 := rd_k arg2.view f2 (off := ![0, 0, 1792, 0]) (g := 0 % 4 / 2) (j := 7) rfl
      inb_S1x2x2048x128_S1x1x256x128_0_0_1792_0 (by decide) (by decide)
    have z0 := rd_k arg2.view f2 (off := ![0, 0, 0, 0]) (g := 1 % 4 / 2) (j := 0) rfl
      inb_S1x2x2048x128_S1x1x256x128_0_0_0_0 (by decide) (by decide)
    have z1 := rd_k arg2.view f2 (off := ![0, 0, 256, 0]) (g := 1 % 4 / 2) (j := 1) rfl
      inb_S1x2x2048x128_S1x1x256x128_0_0_256_0 (by decide) (by decide)
    have z2 := rd_k arg2.view f2 (off := ![0, 0, 512, 0]) (g := 1 % 4 / 2) (j := 2) rfl
      inb_S1x2x2048x128_S1x1x256x128_0_0_512_0 (by decide) (by decide)
    have z3 := rd_k arg2.view f2 (off := ![0, 0, 768, 0]) (g := 1 % 4 / 2) (j := 3) rfl
      inb_S1x2x2048x128_S1x1x256x128_0_0_768_0 (by decide) (by decide)
    have z4 := rd_k arg2.view f2 (off := ![0, 0, 1024, 0]) (g := 1 % 4 / 2) (j := 4) rfl
      inb_S1x2x2048x128_S1x1x256x128_0_0_1024_0 (by decide) (by decide)
    have z5 := rd_k arg2.view f2 (off := ![0, 0, 1280, 0]) (g := 1 % 4 / 2) (j := 5) rfl
      inb_S1x2x2048x128_S1x1x256x128_0_0_1280_0 (by decide) (by decide)
    have z6 := rd_k arg2.view f2 (off := ![0, 0, 1536, 0]) (g := 1 % 4 / 2) (j := 6) rfl
      inb_S1x2x2048x128_S1x1x256x128_0_0_1536_0 (by decide) (by decide)
    have z7 := rd_k arg2.view f2 (off := ![0, 0, 1792, 0]) (g := 1 % 4 / 2) (j := 7) rfl
      inb_S1x2x2048x128_S1x1x256x128_0_0_1792_0 (by decide) (by decide)
    have e5 := s_of _ (arg2.view.read (Elt F) f2) _ l0 x0 x1 x2 x3 x4 x5 x6 x7
    have e7 := m_of _ (arg2.view.read (Elt F) f2) _ l0 x0 x1 x2 x3 x4 x5 x6 x7
    have e6 := s_of _ (arg2.view.read (Elt F) f2) _ l1 z0 z1 z2 z3 z4 z5 z6 z7
    have e8 := m_of _ (arg2.view.read (Elt F) f2) _ l1 z0 z1 z2 z3 z4 z5 z6 z7
    have s0 := (congrArg (fun L => arg5.view.readCov L (Rect.unit (s := S1024x2048) ![0, 0] S1024x128.size
      inb_S1024x2048_S1024x128_0_0).toLoadRect) e5).trans (cov_s arg5.view _ _ _ (c := 0) rfl _ (by decide))
    have s1 := (congrArg (fun L => arg5.view.readCov L (Rect.unit (s := S1024x2048) ![0, 128] S1024x128.size
      inb_S1024x2048_S1024x128_0_128).toLoadRect) e5).trans (cov_s arg5.view _ _ _ (c := 1) rfl _ (by decide))
    have s2 := (congrArg (fun L => arg5.view.readCov L (Rect.unit (s := S1024x2048) ![0, 256] S1024x128.size
      inb_S1024x2048_S1024x128_0_256).toLoadRect) e5).trans (cov_s arg5.view _ _ _ (c := 2) rfl _ (by decide))
    have s3 := (congrArg (fun L => arg5.view.readCov L (Rect.unit (s := S1024x2048) ![0, 384] S1024x128.size
      inb_S1024x2048_S1024x128_0_384).toLoadRect) e5).trans (cov_s arg5.view _ _ _ (c := 3) rfl _ (by decide))
    have s4 := (congrArg (fun L => arg5.view.readCov L (Rect.unit (s := S1024x2048) ![0, 512] S1024x128.size
      inb_S1024x2048_S1024x128_0_512).toLoadRect) e5).trans (cov_s arg5.view _ _ _ (c := 4) rfl _ (by decide))
    have s5 := (congrArg (fun L => arg5.view.readCov L (Rect.unit (s := S1024x2048) ![0, 640] S1024x128.size
      inb_S1024x2048_S1024x128_0_640).toLoadRect) e5).trans (cov_s arg5.view _ _ _ (c := 5) rfl _ (by decide))
    have s6 := (congrArg (fun L => arg5.view.readCov L (Rect.unit (s := S1024x2048) ![0, 768] S1024x128.size
      inb_S1024x2048_S1024x128_0_768).toLoadRect) e5).trans (cov_s arg5.view _ _ _ (c := 6) rfl _ (by decide))
    have s7 := (congrArg (fun L => arg5.view.readCov L (Rect.unit (s := S1024x2048) ![0, 896] S1024x128.size
      inb_S1024x2048_S1024x128_0_896).toLoadRect) e5).trans (cov_s arg5.view _ _ _ (c := 7) rfl _ (by decide))
    have s8 := (congrArg (fun L => arg5.view.readCov L (Rect.unit (s := S1024x2048) ![0, 1024] S1024x128.size
      inb_S1024x2048_S1024x128_0_1024).toLoadRect) e5).trans (cov_s arg5.view _ _ _ (c := 8) rfl _ (by decide))
    have s9 := (congrArg (fun L => arg5.view.readCov L (Rect.unit (s := S1024x2048) ![0, 1152] S1024x128.size
      inb_S1024x2048_S1024x128_0_1152).toLoadRect) e5).trans (cov_s arg5.view _ _ _ (c := 9) rfl _ (by decide))
    have s10 := (congrArg (fun L => arg5.view.readCov L (Rect.unit (s := S1024x2048) ![0, 1280] S1024x128.size
      inb_S1024x2048_S1024x128_0_1280).toLoadRect) e5).trans (cov_s arg5.view _ _ _ (c := 10) rfl _ (by decide))
    have s11 := (congrArg (fun L => arg5.view.readCov L (Rect.unit (s := S1024x2048) ![0, 1408] S1024x128.size
      inb_S1024x2048_S1024x128_0_1408).toLoadRect) e5).trans (cov_s arg5.view _ _ _ (c := 11) rfl _ (by decide))
    have s12 := (congrArg (fun L => arg5.view.readCov L (Rect.unit (s := S1024x2048) ![0, 1536] S1024x128.size
      inb_S1024x2048_S1024x128_0_1536).toLoadRect) e5).trans (cov_s arg5.view _ _ _ (c := 12) rfl _ (by decide))
    have s13 := (congrArg (fun L => arg5.view.readCov L (Rect.unit (s := S1024x2048) ![0, 1664] S1024x128.size
      inb_S1024x2048_S1024x128_0_1664).toLoadRect) e5).trans (cov_s arg5.view _ _ _ (c := 13) rfl _ (by decide))
    have s14 := (congrArg (fun L => arg5.view.readCov L (Rect.unit (s := S1024x2048) ![0, 1792] S1024x128.size
      inb_S1024x2048_S1024x128_0_1792).toLoadRect) e5).trans (cov_s arg5.view _ _ _ (c := 14) rfl _ (by decide))
    have s15 := (congrArg (fun L => arg5.view.readCov L (Rect.unit (s := S1024x2048) ![0, 1920] S1024x128.size
      inb_S1024x2048_S1024x128_0_1920).toLoadRect) e5).trans (cov_s arg5.view _ _ _ (c := 15) rfl _ (by decide))
    have e9 := p_of _ _ ((cov_m arg7.view _).trans e7) s0 s1 s2 s3 s4 s5 s6 s7 s8 s9 s10 s11 s12 s13 s14 s15
    refine ⟨?_, ?_, ?_, ?_⟩
    · exact (congrArg (fun L => arg6.view.read (Elt F) (arg6.view.writes (Elt F) arg6.view.junk L)) e6).trans (read_s _ _ _ _ _)
    · exact (read_m _ _ _).trans e8
    · exact (congrArg (fun L => arg9.view.read (Elt F) (arg9.view.writes (Elt F) arg9.view.junk L)) e9).trans (read_p _ _ _ _)
    · rfl
  iintro %a HI
  unfold inv
  icases HI with ⟨%g4, %g5, %g6, %g7, %g8, %g9, %g10, H1, H2, H3, H4, H5, H6, H7, H8, H9, H10, %hs⟩
  sl_exec_parts
  sl_step
  iexists _
  iexists _
  iexists _
  iexists _
  iexists _
  iexists _
  iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  ipureintro
  have y0 := rd_k arg3.view f3 (off := ![0, 1, 0, 0]) (g := 14 % 4 / 2) (j := 0) rfl
    inb_S1x2x2048x128_S1x1x256x128_0_1_0_0 (by decide) (by decide)
  have y1 := rd_k arg3.view f3 (off := ![0, 1, 256, 0]) (g := 14 % 4 / 2) (j := 1) rfl
    inb_S1x2x2048x128_S1x1x256x128_0_1_256_0 (by decide) (by decide)
  have y2 := rd_k arg3.view f3 (off := ![0, 1, 512, 0]) (g := 14 % 4 / 2) (j := 2) rfl
    inb_S1x2x2048x128_S1x1x256x128_0_1_512_0 (by decide) (by decide)
  have y3 := rd_k arg3.view f3 (off := ![0, 1, 768, 0]) (g := 14 % 4 / 2) (j := 3) rfl
    inb_S1x2x2048x128_S1x1x256x128_0_1_768_0 (by decide) (by decide)
  have y4 := rd_k arg3.view f3 (off := ![0, 1, 1024, 0]) (g := 14 % 4 / 2) (j := 4) rfl
    inb_S1x2x2048x128_S1x1x256x128_0_1_1024_0 (by decide) (by decide)
  have y5 := rd_k arg3.view f3 (off := ![0, 1, 1280, 0]) (g := 14 % 4 / 2) (j := 5) rfl
    inb_S1x2x2048x128_S1x1x256x128_0_1_1280_0 (by decide) (by decide)
  have y6 := rd_k arg3.view f3 (off := ![0, 1, 1536, 0]) (g := 14 % 4 / 2) (j := 6) rfl
    inb_S1x2x2048x128_S1x1x256x128_0_1_1536_0 (by decide) (by decide)
  have y7 := rd_k arg3.view f3 (off := ![0, 1, 1792, 0]) (g := 14 % 4 / 2) (j := 7) rfl
    inb_S1x2x2048x128_S1x1x256x128_0_1_1792_0 (by decide) (by decide)
  have w0 := rd_k arg3.view f3 (off := ![0, 1, 0, 0]) (g := 15 % 4 / 2) (j := 0) rfl
    inb_S1x2x2048x128_S1x1x256x128_0_1_0_0 (by decide) (by decide)
  have w1 := rd_k arg3.view f3 (off := ![0, 1, 256, 0]) (g := 15 % 4 / 2) (j := 1) rfl
    inb_S1x2x2048x128_S1x1x256x128_0_1_256_0 (by decide) (by decide)
  have w2 := rd_k arg3.view f3 (off := ![0, 1, 512, 0]) (g := 15 % 4 / 2) (j := 2) rfl
    inb_S1x2x2048x128_S1x1x256x128_0_1_512_0 (by decide) (by decide)
  have w3 := rd_k arg3.view f3 (off := ![0, 1, 768, 0]) (g := 15 % 4 / 2) (j := 3) rfl
    inb_S1x2x2048x128_S1x1x256x128_0_1_768_0 (by decide) (by decide)
  have w4 := rd_k arg3.view f3 (off := ![0, 1, 1024, 0]) (g := 15 % 4 / 2) (j := 4) rfl
    inb_S1x2x2048x128_S1x1x256x128_0_1_1024_0 (by decide) (by decide)
  have w5 := rd_k arg3.view f3 (off := ![0, 1, 1280, 0]) (g := 15 % 4 / 2) (j := 5) rfl
    inb_S1x2x2048x128_S1x1x256x128_0_1_1280_0 (by decide) (by decide)
  have w6 := rd_k arg3.view f3 (off := ![0, 1, 1536, 0]) (g := 15 % 4 / 2) (j := 6) rfl
    inb_S1x2x2048x128_S1x1x256x128_0_1_1536_0 (by decide) (by decide)
  have w7 := rd_k arg3.view f3 (off := ![0, 1, 1792, 0]) (g := 15 % 4 / 2) (j := 7) rfl
    inb_S1x2x2048x128_S1x1x256x128_0_1_1792_0 (by decide) (by decide)
  have r0 := rd_s arg6.view g6 (off := ![0, 0]) (c := 0) rfl inb_S1024x2048_S1024x128_0_0 (by decide)
  have r1 := rd_s arg6.view g6 (off := ![0, 128]) (c := 1) rfl inb_S1024x2048_S1024x128_0_128 (by decide)
  have r2 := rd_s arg6.view g6 (off := ![0, 256]) (c := 2) rfl inb_S1024x2048_S1024x128_0_256 (by decide)
  have r3 := rd_s arg6.view g6 (off := ![0, 384]) (c := 3) rfl inb_S1024x2048_S1024x128_0_384 (by decide)
  have r4 := rd_s arg6.view g6 (off := ![0, 512]) (c := 4) rfl inb_S1024x2048_S1024x128_0_512 (by decide)
  have r5 := rd_s arg6.view g6 (off := ![0, 640]) (c := 5) rfl inb_S1024x2048_S1024x128_0_640 (by decide)
  have r6 := rd_s arg6.view g6 (off := ![0, 768]) (c := 6) rfl inb_S1024x2048_S1024x128_0_768 (by decide)
  have r7 := rd_s arg6.view g6 (off := ![0, 896]) (c := 7) rfl inb_S1024x2048_S1024x128_0_896 (by decide)
  have r8 := rd_s arg6.view g6 (off := ![0, 1024]) (c := 8) rfl inb_S1024x2048_S1024x128_0_1024 (by decide)
  have r9 := rd_s arg6.view g6 (off := ![0, 1152]) (c := 9) rfl inb_S1024x2048_S1024x128_0_1152 (by decide)
  have r10 := rd_s arg6.view g6 (off := ![0, 1280]) (c := 10) rfl inb_S1024x2048_S1024x128_0_1280 (by decide)
  have r11 := rd_s arg6.view g6 (off := ![0, 1408]) (c := 11) rfl inb_S1024x2048_S1024x128_0_1408 (by decide)
  have r12 := rd_s arg6.view g6 (off := ![0, 1536]) (c := 12) rfl inb_S1024x2048_S1024x128_0_1536 (by decide)
  have r13 := rd_s arg6.view g6 (off := ![0, 1664]) (c := 13) rfl inb_S1024x2048_S1024x128_0_1664 (by decide)
  have r14 := rd_s arg6.view g6 (off := ![0, 1792]) (c := 14) rfl inb_S1024x2048_S1024x128_0_1792 (by decide)
  have r15 := rd_s arg6.view g6 (off := ![0, 1920]) (c := 15) rfl inb_S1024x2048_S1024x128_0_1920 (by decide)
  have e10 := p_of _ _ (rd_m arg8.view g8) r0 r1 r2 r3 r4 r5 r6 r7 r8 r9 r10 r11 r12 r13 r14 r15
  have p0 := (congrArg (fun L => arg10.view.readCov L (Rect.unit (s := S1024x2048) ![0, 0] S1024x256.size
    inb_S1024x2048_S1024x256_0_0).toLoadRect) e10).trans (cov_p arg10.view _ _ (j := 0) rfl _ (by decide))
  have o0 := rd_p arg9.view g9 (off := ![0, 0]) (j := 0) rfl inb_S1024x2048_S1024x256_0_0 (by decide)
  have p1 := (congrArg (fun L => arg10.view.readCov L (Rect.unit (s := S1024x2048) ![0, 256] S1024x256.size
    inb_S1024x2048_S1024x256_0_256).toLoadRect) e10).trans (cov_p arg10.view _ _ (j := 1) rfl _ (by decide))
  have o1 := rd_p arg9.view g9 (off := ![0, 256]) (j := 1) rfl inb_S1024x2048_S1024x256_0_256 (by decide)
  have p2 := (congrArg (fun L => arg10.view.readCov L (Rect.unit (s := S1024x2048) ![0, 512] S1024x256.size
    inb_S1024x2048_S1024x256_0_512).toLoadRect) e10).trans (cov_p arg10.view _ _ (j := 2) rfl _ (by decide))
  have o2 := rd_p arg9.view g9 (off := ![0, 512]) (j := 2) rfl inb_S1024x2048_S1024x256_0_512 (by decide)
  have p3 := (congrArg (fun L => arg10.view.readCov L (Rect.unit (s := S1024x2048) ![0, 768] S1024x256.size
    inb_S1024x2048_S1024x256_0_768).toLoadRect) e10).trans (cov_p arg10.view _ _ (j := 3) rfl _ (by decide))
  have o3 := rd_p arg9.view g9 (off := ![0, 768]) (j := 3) rfl inb_S1024x2048_S1024x256_0_768 (by decide)
  have p4 := (congrArg (fun L => arg10.view.readCov L (Rect.unit (s := S1024x2048) ![0, 1024] S1024x256.size
    inb_S1024x2048_S1024x256_0_1024).toLoadRect) e10).trans (cov_p arg10.view _ _ (j := 4) rfl _ (by decide))
  have o4 := rd_p arg9.view g9 (off := ![0, 1024]) (j := 4) rfl inb_S1024x2048_S1024x256_0_1024 (by decide)
  have p5 := (congrArg (fun L => arg10.view.readCov L (Rect.unit (s := S1024x2048) ![0, 1280] S1024x256.size
    inb_S1024x2048_S1024x256_0_1280).toLoadRect) e10).trans (cov_p arg10.view _ _ (j := 5) rfl _ (by decide))
  have o5 := rd_p arg9.view g9 (off := ![0, 1280]) (j := 5) rfl inb_S1024x2048_S1024x256_0_1280 (by decide)
  have p6 := (congrArg (fun L => arg10.view.readCov L (Rect.unit (s := S1024x2048) ![0, 1536] S1024x256.size
    inb_S1024x2048_S1024x256_0_1536).toLoadRect) e10).trans (cov_p arg10.view _ _ (j := 6) rfl _ (by decide))
  have o6 := rd_p arg9.view g9 (off := ![0, 1536]) (j := 6) rfl inb_S1024x2048_S1024x256_0_1536 (by decide)
  have p7 := (congrArg (fun L => arg10.view.readCov L (Rect.unit (s := S1024x2048) ![0, 1792] S1024x256.size
    inb_S1024x2048_S1024x256_0_1792).toLoadRect) e10).trans (cov_p arg10.view _ _ (j := 7) rfl _ (by decide))
  have o7 := rd_p arg9.view g9 (off := ![0, 1792]) (j := 7) rfl inb_S1024x2048_S1024x256_0_1792 (by decide)
  have eo1 := o_of _ _ _ p0 p1 p2 p3 p4 p5 p6 p7 w0 w1 w2 w3 w4 w5 w6 w7
  have eo0 := o_of _ _ _ o0 o1 o2 o3 o4 o5 o6 o7 y0 y1 y2 y3 y4 y5 y6 y7
  have ht : Scf.trips k0_t1_loop.lb k0_t1_loop.ub k0_t1_loop.st = 7 := trips_eq
  rw [ht] at hs
  obtain ⟨hs1, hs2, hs3, hs4⟩ := hs
  rw [hs1, hs2] at eo1
  rw [hs3] at eo0
  refine (read_put arg4.view g4 (u := 15) rfl _ _ _).trans ?_
  refine congrArg₂ (put 15) eo1 ?_
  refine (read_put arg4.view g4 (u := 14) rfl _ _ _).trans ?_
  exact congrArg₂ (put 14) eo0 hs4

end Cert.Proof.KernelIdeal

end
-- ==== Proof.Literals.lean ====
/-
  The float literals of the kernel and of the reference, as the extended reals they denote.
-/
module

public import Idealize.ShloMosaic.Lib.IdealHost

@[expose] public section

namespace Cert.Proof

open Idealize.ShloMosaic

/-- The identity of the maximum. -/
theorem lit_neg_inf : Ideal.ofBits .f32 0xFF800000#32 = (⊥ : EReal) := by
  simp [Ideal.ofBits, Ideal.ieee]

/-- The bound that the entries of the queries and keys stay under. -/
theorem lit_inf : Ideal.ofBits .f32 0x7F800000#32 = (⊤ : EReal) := by
  simp [Ideal.ofBits, Ideal.ieee]

/-- One over the square root of the 64 channels of a head. -/
theorem lit_eighth : Ideal.ofBits .f32 0x3E000000#32 = ((0.125 : ℝ) : EReal) := by
  simp [Ideal.ofBits, Ideal.ieee, -EReal.coe_mul]; norm_num

/-- The base of the kernel's powers. -/
theorem lit_two : Ideal.ofBits .f32 0x40000000#32 = ((2 : ℝ) : EReal) := by
  simp [Ideal.ofBits, Ideal.ieee, -EReal.coe_mul]; norm_num

end Cert.Proof
-- ==== Proof.Ideal.Units.lean ====
/-
  What one unit of the attention kernel computes over the extended reals, element by element: its scores are sums over
  the 128 lanes, its row maximum is the maximum over all 2048 keys, its exponentials are powers of two, and its result is
  a sum over all 2048 keys divided by another. The tiles of keys, and the two halves of a tile, are gone from these
  formulas.
-/
module

public import proofs.«01_k».proof.Proof.Ideal.Body
public import proofs.«01_k».proof.Proof.Literals
public import Idealize.ShloMosaic.Lib.Pointwise

@[expose] public section

noncomputable section

namespace Cert.Proof.KernelIdeal

open Cert.KernelIdeal Cert.KernelIdeal.Gen
open Idealize.ShloMosaic

/-- Lane `d` of stacked query row `i` of unit `u`. -/
def qAt (q : Vec Ideal S1x8x2048x128 .bf16) (u : ℕ) (i : Fin 1024) (d : Fin 128) : EReal :=
  q (ix4 (0 : Fin 1) (⟨(2 * (u % 4) + i.val / 512) % 8, Nat.mod_lt _ (by decide)⟩ : Fin 8)
    (⟨(512 * (u / 4) + i.val % 512) % 2048, Nat.mod_lt _ (by decide)⟩ : Fin 2048) d)

/-- Lane `d` of row `t` of group `g` of the keys or of the values. -/
def kAt (k : Vec Ideal S1x2x2048x128 .bf16) (g : ℕ) (t : Fin 2048) (d : Fin 128) : EReal :=
  k (ix4 (0 : Fin 1) (⟨g % 2, Nat.mod_lt _ (by decide)⟩ : Fin 2) t d)

/-- The score of stacked query row `i` of unit `u` against key `t`. -/
def score (q : Vec Ideal S1x8x2048x128 .bf16) (k : Vec Ideal S1x2x2048x128 .bf16) (u : ℕ) (i : Fin 1024) (t : Fin 2048) :
    EReal :=
  ∑ d : Fin 128, qAt q u i d * kAt k (u % 4 / 2) t d

/-- A stacked row is a row of the even head or of the odd one. -/
theorem unitQ_apply (q : Vec Ideal S1x8x2048x128 .bf16) (u : ℕ) (i : Fin 1024) (d : Fin 128) :
    unitQ q u (ix2 i d) = qAt q u i d := by
  pointwise [unitQ, stackQ, qTile, qAt]
  simp only [← ix4_eq_valueIdx]
  split
  · next h =>
    congr 2 <;> apply Fin.ext <;> simp only
    · rw [Nat.div_eq_of_lt h, Nat.add_zero]
    · rw [Nat.mod_eq_of_lt h]
  · next h =>
    congr 2 <;> apply Fin.ext <;> simp only <;> have := i.isLt
    · rw [show i.val / 512 = 1 by omega]
    · rw [show i.val % 512 = i.val - 512 by omega]

/-- A tile's scores are sums over the lanes. -/
theorem scoreTile_apply (l : FVec Ideal S1024x128 .bf16) (kt : Vec Ideal S1x1x256x128 .bf16) (i : Fin 1024) (c : Fin 256) :
    scoreTile l kt (ix2 i c) = ∑ d : Fin 128, l (ix2 i d) * kt (ix4 0 0 c d) := by
  pointwise [scoreTile]

/-- The scores of unit `u` against tile `j` of the keys. -/
theorem scoreTile_unit (q : Vec Ideal S1x8x2048x128 .bf16) (k : Vec Ideal S1x2x2048x128 .bf16) (u j : ℕ) (hj : j < 8)
    (i : Fin 1024) (c : Fin 256) :
    scoreTile (unitQ q u) (kTile k (u % 4 / 2) j) (ix2 i c) = score q k u i ⟨256 * j + c.val, by omega⟩ := by
  rw [scoreTile_apply]
  refine Finset.sum_congr rfl fun d _ => ?_
  rw [unitQ_apply]
  congr 1
  simp only [kTile, kAt, ← ix4_eq_valueIdx]
  have e : (256 * j + c.val) % 2048 = 256 * j + c.val := Nat.mod_eq_of_lt (by omega)
  congr 2
  exact Fin.ext e

/-- The stored scores. -/
theorem S_apply (q : Vec Ideal S1x8x2048x128 .bf16) (k : Vec Ideal S1x2x2048x128 .bf16) (u : ℕ) (i : Fin 1024)
    (t : Fin 2048) : S q k u (ix2 i t) = score q k u i t := by
  have ht := t.isLt
  have h : S q k u (ix2 i t) = scoreTile (unitQ q u) (kTile k (u % 4 / 2) (t.val / 256))
      (ix2 i (⟨t.val % 256, Nat.mod_lt _ (by decide)⟩ : Fin 256)) := by
    pointwise [S, scoreOut, ← ix2_eq_valueIdx]
  rw [h, scoreTile_unit q k u _ (by omega)]
  congr 1
  exact Fin.ext (Nat.div_add_mod _ _)

/-- The maximum of each row of 128 entries. -/
theorem rowMax_apply (v : FVec Ideal S1024x128 .f32) (i : Fin 1024) (c : Fin 128) :
    rowMax v (ix2 i c) = (Finset.univ : Finset (Fin 128)).fold max ⊥ fun n => v (ix2 i n) := by
  pointwise [rowMax]
  rw [lit_neg_inf]

/-- The left and the right columns of a tile. -/
theorem colsL_apply (t : FVec Ideal S1024x256 .f32) (i : Fin 1024) (c : Fin 128) :
    colsL t (ix2 i c) = t (ix2 i ⟨c.val, by omega⟩) := by
  pointwise [colsL]

theorem colsR_apply (t : FVec Ideal S1024x256 .f32) (i : Fin 1024) (c : Fin 128) :
    colsR t (ix2 i c) = t (ix2 i ⟨128 + c.val, by omega⟩) := by
  pointwise [colsR]

/-- The running maximum, read at an index. -/
theorem runMax_zero (l : FVec Ideal S1024x128 .bf16) (k : Vec Ideal S1x2x2048x128 .bf16) (g : ℕ) (x : S1024x128.Idx) :
    runMax l k g 0 x = max (colsL (scoreTile l (kTile k g 0)) x : EReal) (colsR (scoreTile l (kTile k g 0)) x) := rfl

theorem runMax_succ (l : FVec Ideal S1024x128 .bf16) (k : Vec Ideal S1x2x2048x128 .bf16) (g j : ℕ) (x : S1024x128.Idx) :
    runMax l k g (j + 1) x = max (max (runMax l k g j x : EReal) (colsL (scoreTile l (kTile k g (j + 1))) x))
      (colsR (scoreTile l (kTile k g (j + 1))) x) := rfl

/-- Of the scores of tile `j`, those at column `c` mod 128 are two. -/
theorem tile_le (f : Fin 2048 → EReal) (c : Fin 128) (b : EReal) (j : ℕ) (hj : j < 8) :
    (∀ t : Fin 2048, 256 * j ≤ t.val → t.val < 256 * (j + 1) → t.val % 128 = c.val → f t ≤ b)
      ↔ (f ⟨256 * j + c.val, by omega⟩ ≤ b ∧ f ⟨256 * j + (128 + c.val), by omega⟩ ≤ b) := by
  constructor
  · intro h
    exact ⟨h ⟨_, by omega⟩ (by simp) (by simp; omega) (by simp; omega),
      h ⟨_, by omega⟩ (by simp) (by simp; omega) (by simp; omega)⟩
  · rintro ⟨h1, h2⟩ t ht1 ht2 ht3
    rcases (show t.val = 256 * j + c.val ∨ t.val = 256 * j + (128 + c.val) by omega) with e | e
    · rwa [show t = ⟨256 * j + c.val, by omega⟩ from Fin.ext e]
    · rwa [show t = ⟨256 * j + (128 + c.val), by omega⟩ from Fin.ext e]

/-- The running maximum is below a bound exactly when all scores so far, at these columns mod 128, are. -/
theorem runMax_le (q : Vec Ideal S1x8x2048x128 .bf16) (k : Vec Ideal S1x2x2048x128 .bf16) (u : ℕ) (i : Fin 1024)
    (c : Fin 128) (b : EReal) (j : ℕ) (hj : j < 8) :
    runMax (unitQ q u) k (u % 4 / 2) j (ix2 i c) ≤ b
      ↔ ∀ t : Fin 2048, t.val < 256 * (j + 1) → t.val % 128 = c.val → score q k u i t ≤ b := by
  induction j with
  | zero =>
    rw [runMax_zero, max_le_iff, colsL_apply, colsR_apply, scoreTile_unit q k u 0 hj, scoreTile_unit q k u 0 hj,
      ← tile_le (score q k u i) c b 0 hj]
    simp
  | succ j ih =>
    rw [runMax_succ, max_le_iff, max_le_iff, ih (by omega), colsL_apply, colsR_apply, scoreTile_unit q k u _ hj,
      scoreTile_unit q k u _ hj, and_assoc, ← tile_le (score q k u i) c b _ hj]
    constructor
    · rintro ⟨h1, h2⟩ t ht1 ht2
      by_cases h : t.val < 256 * (j + 1)
      · exact h1 t h ht2
      · exact h2 t (by omega) ht1 ht2
    · intro h
      exact ⟨fun t ht1 ht2 => h t (by omega) ht2, fun t _ ht1 ht2 => h t ht1 ht2⟩

/-- The row maximum is the maximum over all keys, in every lane. -/
theorem M_apply (q : Vec Ideal S1x8x2048x128 .bf16) (k : Vec Ideal S1x2x2048x128 .bf16) (u : ℕ) (i : Fin 1024)
    (c : Fin 128) :
    M q k u (ix2 i c) = (Finset.univ : Finset (Fin 2048)).fold max ⊥ (score q k u i) := by
  refine eq_of_forall_ge_iff fun b => ?_
  rw [M, rowMax_apply, Finset.fold_max_le, Finset.fold_max_le]
  constructor
  · rintro ⟨_, h⟩
    exact ⟨bot_le, fun t _ => (runMax_le q k u i ⟨t.val % 128, Nat.mod_lt _ (by decide)⟩ b 7 (by decide)).1
      (h _ (Finset.mem_univ _)) t (by omega) rfl⟩
  · rintro ⟨_, h⟩
    exact ⟨bot_le, fun n _ => (runMax_le q k u i n b 7 (by decide)).2 fun t _ _ => h t (Finset.mem_univ _)⟩

/-- The exponential of key `t` in row `i`. -/
def weight (q : Vec Ideal S1x8x2048x128 .bf16) (k : Vec Ideal S1x2x2048x128 .bf16) (u : ℕ) (i : Fin 1024) (t : Fin 2048) :
    EReal :=
  Ideal.exp2 (score q k u i t - (Finset.univ : Finset (Fin 2048)).fold max ⊥ (score q k u i))

/-- The stored exponentials. -/
theorem P_apply (q : Vec Ideal S1x8x2048x128 .bf16) (k : Vec Ideal S1x2x2048x128 .bf16) (u : ℕ) (i : Fin 1024)
    (t : Fin 2048) : P (S q k u) (M q k u) (ix2 i t) = weight q k u i t := by
  have ht := t.isLt
  have h : P (S q k u) (M q k u) (ix2 i t) = Ideal.exp2 (S q k u (ix2 i ⟨(128 * (t.val / 128) + t.val % 128) % 2048,
      Nat.mod_lt _ (by decide)⟩) - M q k u (ix2 i ⟨t.val % 128, Nat.mod_lt _ (by decide)⟩)) := by
    pointwise [P, expCols, sCols, ← ix2_eq_valueIdx]
    rfl
  rw [h, S_apply, M_apply, weight]
  have e : (128 * (t.val / 128) + t.val % 128) % 2048 = t.val := by omega
  congr 3
  exact Fin.ext e

/-- One tile of values with ones beside it. -/
theorem valuesOnes_apply (vt : Vec Ideal S1x1x256x128 .bf16) (n : Fin 256) (c : Fin 256) :
    valuesOnes vt (ix2 n c) = if h : c.val < 128 then vt (ix4 0 0 n ⟨c.val, h⟩) else 1 := by
  pointwise [valuesOnes]

/-- The products of one tile are sums over its keys. -/
theorem pvTile_apply (pt : Vec Ideal S1024x256 .bf16) (vt : Vec Ideal S1x1x256x128 .bf16) (i : Fin 1024) (c : Fin 256) :
    pvTile pt vt (ix2 i c) = ∑ n : Fin 256, pt (ix2 i n) * valuesOnes vt (ix2 n c) := by
  pointwise [pvTile]

/-- What column `c` of a product takes from key `t`: its value's lane `c`, or one. -/
def factor (v : Vec Ideal S1x2x2048x128 .bf16) (g : ℕ) (c : Fin 256) (t : Fin 2048) : EReal :=
  if h : c.val < 128 then kAt v g t ⟨c.val, h⟩ else 1

/-- The products of tile `j`. -/
theorem pvTile_unit (p : Vec Ideal S1024x2048 .bf16) (v : Vec Ideal S1x2x2048x128 .bf16) (g j : ℕ) (hj : j < 8)
    (i : Fin 1024) (c : Fin 256) :
    pvTile (pCols p j) (kTile v g j) (ix2 i c)
      = ∑ n : Fin 256, p (ix2 i ⟨j * 256 + n.val, by omega⟩) * factor v g c ⟨j * 256 + n.val, by omega⟩ := by
  rw [pvTile_apply]
  refine Finset.sum_congr rfl fun n _ => ?_
  have e : (256 * j + n.val) % 2048 = j * 256 + n.val := by omega
  rw [valuesOnes_apply, factor]
  simp only [pCols, kTile, kAt, ← ix2_eq_valueIdx, ← ix4_eq_valueIdx]
  congr 1
  · congr 2
    exact Fin.ext e
  · split
    · congr 2
      exact Fin.ext e
    · rfl

/-- The accumulated products after tile `j`. -/
theorem acc_apply (p : Vec Ideal S1024x2048 .bf16) (v : Vec Ideal S1x2x2048x128 .bf16) (g j : ℕ) (i : Fin 1024)
    (c : Fin 256) :
    acc p v g j (ix2 i c) = ∑ j' ∈ Finset.range (j + 1), pvTile (pCols p j') (kTile v g j') (ix2 i c) := by
  induction j with
  | zero => simp [acc]
  | succ j ih =>
    rw [Finset.sum_range_succ, ← ih]
    rfl

/-- All the products: a sum over all keys. -/
theorem acc_all (p : Vec Ideal S1024x2048 .bf16) (v : Vec Ideal S1x2x2048x128 .bf16) (g : ℕ) (i : Fin 1024) (c : Fin 256) :
    acc p v g 7 (ix2 i c) = ∑ t : Fin 2048, p (ix2 i t) * factor v g c t := by
  rw [acc_apply, Finset.sum_range, Fin.sum_univ_tiles 8 256 rfl]
  exact Finset.sum_congr rfl fun j _ => pvTile_unit p v g j.val j.isLt i c

/-- The finished rows: the even head's in the left 64 lanes, the odd head's in the right. -/
theorem finish_apply (a : FVec Ideal S1024x256 .f32) (r : Fin 512) (j : Fin 128) :
    finish a (ix4 0 0 r j) = a (ix2 (⟨512 * (j.val / 64) + r.val, by omega⟩ : Fin 1024) (⟨j.val, by omega⟩ : Fin 256))
      * Ideal.div 1 (a (ix2 (⟨512 * (j.val / 64) + r.val, by omega⟩ : Fin 1024) (⟨128 + j.val, by omega⟩ : Fin 256))) := by
  pointwise [finish, colsL, colsR]
  have hj := j.isLt
  have hlt : ∀ j : Fin 128, IntOp.cmpi CmpIPredicate.slt (BitVec.ofNat 32 j.val) 64#32
      = if j.val < 64 then 1#1 else 0#1 := by decide
  rw [hlt]
  by_cases h : j.val < 64
  · have e : 512 * (j.val / 64) + r.val = r.val := by omega
    simp only [if_pos h, e]
    rfl
  · have e : 512 * (j.val / 64) + r.val = 512 + r.val := by omega
    simp only [if_neg h, e]
    rfl

/-- A unit's result. -/
theorem unitO_apply (q : Vec Ideal S1x8x2048x128 .bf16) (k v : Vec Ideal S1x2x2048x128 .bf16) (u : ℕ) (r : Fin 512)
    (j : Fin 128) (i : Fin 1024) (hi : i.val = 512 * (j.val / 64) + r.val) :
    unitO q k v u (ix4 0 0 r j)
      = (∑ t : Fin 2048, weight q k u i t * kAt v (u % 4 / 2) t j) * Ideal.div 1 (∑ t : Fin 2048, weight q k u i t * 1) := by
  have e : (⟨512 * (j.val / 64) + r.val, by omega⟩ : Fin 1024) = i := Fin.ext hi.symm
  rw [unitO, O, finish_apply, acc_all, acc_all, e]
  simp only [P_apply]
  congr 1
  · refine Finset.sum_congr rfl fun t _ => ?_
    rw [factor, dif_pos (show j.val < 128 from j.isLt)]
  · congr 1
    refine Finset.sum_congr rfl fun t _ => ?_
    rw [factor, dif_neg (by simp)]

end Cert.Proof.KernelIdeal

end
-- ==== Proof.Ideal.Block.lean ====
/-
  The sixteen units of a block cover its result: each of the four pairs of heads and each of the four blocks of 512
  query rows is one unit's, so that what stood in the result block before is gone.
-/
module

public import proofs.«01_k».proof.Proof.Ideal.Body

@[expose] public section

noncomputable section

namespace Cert.Proof.KernelIdeal

open Cert.KernelIdeal Cert.KernelIdeal.Gen
open Idealize.ShloMosaic Idealize.ShloMosaic.ValueIdx

variable {F : FTy → Type} [FloatOps F]

/-- The unit that writes position `y` of the result block. -/
def unitAt (y : S1x4x2048x128.Idx) : ℕ := 4 * ((y 2).val / 512) + (y 1).val

/-- The result block as a function of the operand blocks. -/
def blockOut (q : Vec F S1x8x2048x128 .bf16) (k v : Vec F S1x2x2048x128 .bf16) : Vec F S1x4x2048x128 .f32 := fun y =>
  unitO q k v (unitAt y)
    (ix4 (0 : Fin 1) (0 : Fin 1) (⟨(y 2).val % 512, Nat.mod_lt _ (by decide)⟩ : Fin 512) (y 3 : Fin 128))

/-- After `n` units the positions of the units before `n` hold their results. -/
theorem putAll_at (q : Vec F S1x8x2048x128 .bf16) (k v : Vec F S1x2x2048x128 .bf16) (o : Vec F S1x4x2048x128 .f32) (n : ℕ)
    (hn : n ≤ 16) (y : S1x4x2048x128.Idx) (h : unitAt y < n) : putAll q k v o n y = blockOut q k v y := by
  have h1 : (y 1).val < 4 := (y 1).isLt
  have h2 : (y 2).val < 2048 := (y 2).isLt
  induction n with
  | zero => omega
  | succ n ih =>
    show put n (unitO q k v n) (putAll q k v o n) y = _
    unfold put
    by_cases hu : unitAt y = n
    · rw [if_pos (by unfold unitAt at hu; omega)]
      subst hu; rfl
    · rw [if_neg (by unfold unitAt at hu; omega)]
      exact ih (by omega) (by omega)

theorem putAll_16 (q : Vec F S1x8x2048x128 .bf16) (k v : Vec F S1x2x2048x128 .bf16) (o : Vec F S1x4x2048x128 .f32) :
    putAll q k v o 16 = blockOut q k v := by
  funext y
  have h1 : (y 1).val < 4 := (y 1).isLt
  have h2 : (y 2).val < 2048 := (y 2).isLt
  exact putAll_at q k v o 16 le_rfl y (by unfold unitAt; omega)

end Cert.Proof.KernelIdeal

end
-- ==== Proof.Ideal.Launch.lean ====
/-
  The launch of the attention kernel: at every grid point the body leaves the result block `blockOut` of the operand
  blocks and hands its scratch buffers back; hence every run ends, with the arrays as the pipeline computes them from
  those blocks, the arguments untouched and every counter at zero.
-/
module

public import proofs.«01_k».proof.Proof.Ideal.Block
public import proofs.«01_k».proof.Proof.Gen.KernelIdeal.Frame
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on memrefs held whole: the operands stay, the result is `blockOut` of them whatever it held, and the
    scratch buffers come back at some contents. -/
theorem body_owns (c : Dev nD) (i : grid0.Coords) (arg1 : Memref sig .tc .vmem S1x8x2048x128 .bf16) (harg1 : arg1.IsWhole) (arg2 : Memref sig .tc .vmem S1x2x2048x128 .bf16) (harg2 : arg2.IsWhole) (arg3 : Memref sig .tc .vmem S1x2x2048x128 .bf16) (harg3 : arg3.IsWhole) (arg4 : Memref sig .tc .vmem S1x4x2048x128 .f32) (harg4 : arg4.IsWhole)
    (q : Vec F S1x8x2048x128 .bf16) (k v : Vec F S1x2x2048x128 .bf16) (o : Vec F S1x4x2048x128 .f32) :
    (iprop(owns (c : Thread nD τ) arg1 fullShare q ∗ owns (c : Thread nD τ) arg2 fullShare k
      ∗ owns (c : Thread nD τ) arg3 fullShare v ∗ owns (c : Thread nD τ) arg4 fullShare o
      ∗ Pipeline.scopedRest spec0 c) : sProp 𝕄)
    ⊢ wp frame (wpE defs₀ 𝒱₀ (c : Thread nD τ) none) Set.univ
        (cc0_attn (F := F) i arg1 harg1 arg2 harg2 arg3 harg3 arg4 harg4
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _))
        (fun _ => iprop(owns (c : Thread nD τ) arg1 fullShare q ∗ owns (c : Thread nD τ) arg2 fullShare k
          ∗ owns (c : Thread nD τ) arg3 fullShare v ∗ owns (c : Thread nD τ) arg4 fullShare (blockOut q k v)
          ∗ Pipeline.scopedRest spec0 c)) := by
  rw [scopedRest0_eq, Gen.cc0_attn_eq_skeleton]
  unfold owns
  rw [harg1.set_eq_univ, harg2.set_eq_univ, harg3.set_eq_univ, harg4.set_eq_univ]
  iintro ⟨⟨%f1, %h1, H1⟩, ⟨%f2, %h2, H2⟩, ⟨%f3, %h3, H3⟩, ⟨%f4, %h4, H4⟩, ⟨%f5, H5⟩, ⟨%f6, H6⟩, ⟨%f7, H7⟩, ⟨%f8, H8⟩, ⟨%f9, H9⟩, ⟨%f10, H10⟩⟩
  iapply (wp_wand_r frame _ Set.univ)
  isplitl [H1 H2 H3 H4 H5 H6 H7 H8 H9 H10]
  · iapply (body_run c i arg1 harg1 arg2 harg2 arg3 harg3 arg4 harg4
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      f1 f2 f3 f4 f5 f6 f7 f8 f9 f10)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %a ⟨%g4, %g5, %g6, %g7, %g8, %g9, %g10, H1, H2, H3, H4, H5, H6, H7, H8, H9, H10, %hs⟩
    isplitl [H1]; · iexists f1; isplitr; · ipureintro; exact h1
                    iexact H1
    isplitl [H2]; · iexists f2; isplitr; · ipureintro; exact h2
                    iexact H2
    isplitl [H3]; · iexists f3; isplitr; · ipureintro; exact h3
                    iexact H3
    isplitl [H4]
    · iexists g4; isplitr
      · ipureintro
        rw [hs, putAll_16, h1, h2, h3]
      · iexact H4
    isplitl [H5]; · iexists g5; iexact H5
    isplitl [H6]; · iexists g6; iexact H6
    isplitl [H7]; · iexists g7; iexact H7
    isplitl [H8]; · iexists g8; iexact H8
    isplitl [H9]; · iexists g9; iexact H9
    iexists g10; iexact H10

/-- The proof data: the arrays as the region finds them, the operand blocks left in place, the result block computed from
    them. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := ΦA spec0 c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body does at every grid point what the proof data say. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = ΦA spec0 c from rfl]
  unfold ΦA
  iintro ⟨⟨Hs, Hr⟩, Ho, ⟨%d0, H0⟩, ⟨%d1, H1⟩, ⟨%d2, H2⟩, ⟨%d3, H3⟩⟩
  iapply (wp_wand_r frame _ Set.univ)
  isplitl [H0 H1 H2 H3 Hs]
  · iapply (body_owns c _ _ _ _ _ _ _ _ _ (iblk m c 0 t) (iblk m c 1 t) (iblk m c 2 t) ((dats m 0 c).before 3 t d3))
    isplitl [H0]; · iexact H0
    isplitl [H1]; · iexact H1
    isplitl [H2]; · iexact H2
    isplitl [H3]; · iexact H3
    iexact Hs
  · iintro %a ⟨H0, H1, H2, H3, Hs⟩
    isplitl [Hs Hr]
    · isplitl [Hs]; · iexact Hs
      iexact Hr
    isplitl [Ho]; · iexact Ho
    isplitl [H0]; · iexact H0
    isplitl [H1]; · iexact H1
    isplitl [H2]; · iexact H2
    iexact H3

set_option backward.isDefEq.respectTransparency.types false in
/-- Every run of the kernel from counters at zero ends, with the arrays as the pipeline computes them from the proof data
    and the counters at zero. -/
theorem run_main : θ_run defs (onTc (τ := τ) (main (F := F))) (s₀ m ρ)
    (fun r => Pipeline.FramePost cfgs (dats m) 0 (Gen.V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := Gen.V m) (hmain := hmain m 𝒱₀) (hA := fun _ _ => rfl) (hΦ := fun _ _ => rfl)

/-- Every run ends with the arguments as they were and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.Proof.KernelIdeal

end
-- ==== Proof.Ideal.Prefix.lean ====
/-
  What @main makes of the queries, the keys and the values before it launches the kernel. The queries of a pair of heads
  are scaled and laid out twice over 128 lanes, once with the odd head's half at zero and once with the even head's. The
  keys of a group are laid out over 128 lanes twice side by side, and so are the values.
-/
module

public import proofs.«01_k».proof.Proof.Ideal.Launch
public import Idealize.ShloMosaic.Lib.Pointwise
public import Idealize.ShloMosaic.Lib.StableHlo.Run

@[expose] public section

noncomputable section

namespace Cert.Proof.KernelIdeal

open Cert.KernelIdeal Cert.KernelIdeal.Gen
open Idealize.ShloMosaic Idealize.ShloMosaic.TcCoe Idealize.ShloMosaic.StableHlo

variable {F : FTy → Type} [FloatOps F]

/-- Which of the 128 lanes are an even head's. -/
def evenLanes : IVec S1x1x1x128 1 :=
  cmpi .slt (iotaInDim S1x1x1x128 32 3) (broadcastInDim S1x1x1x128 ![] bcast_S_S1x1x1x128 (constantI S_ 32 64#32))

/-- The queries by pairs of heads, times the scale. -/
def scaledQ (q : FVec F S16x2048x512 .f32) : FVec F S16x4x2048x128 .f32 :=
  mulf (transpose S16x4x2048x128 [0, 2, 1, 3] (shapeCast S16x2048x4x128 q shapeCasts_S16x2048x512_S16x2048x4x128)
      transposes_S16x2048x4x128_S16x4x2048x128_0_2_1_3)
    (broadcastInDim S16x4x2048x128 ![] bcast_S_S16x4x2048x128
      (Host.divf (constant S_ .f32 0x3E000000#32) (Host.log (constant S_ .f32 0x40000000#32))))

/-- Zeros in the shape of the queries. -/
def zerosQ : FVec F S16x4x2048x128 .f32 :=
  broadcastInDim S16x4x2048x128 ![] bcast_S_S16x4x2048x128 (constant S_ .f32 0x00000000#32)

/-- `evenLanes` in the shape of the queries. -/
def evenQ : IVec S16x4x2048x128 1 :=
  broadcastInDim S16x4x2048x128 ![0, 1, 2, 3] bcast_S1x1x1x128_S16x4x2048x128_0_1_2_3 evenLanes

/-- The queries as the kernel takes them. -/
def packQ (q : FVec F S16x2048x512 .f32) : FVec F S16x8x2048x128 .bf16 :=
  truncf .bf16 (shapeCast S16x8x2048x128 (concatenate S16x4x2x2048x128 2
    [⟨S16x4x1x2048x128, broadcastInDim S16x4x1x2048x128 ![0, 1, 3, 4] bcast_S16x4x2048x128_S16x4x1x2048x128_0_1_3_4
        (select evenQ (scaledQ q) zerosQ)⟩,
      ⟨S16x4x1x2048x128, broadcastInDim S16x4x1x2048x128 ![0, 1, 3, 4] bcast_S16x4x2048x128_S16x4x1x2048x128_0_1_3_4
        (select evenQ zerosQ (scaledQ q))⟩]
    concatenates_S16x4x1x2048x128_S16x4x1x2048x128_S16x4x2x2048x128_d2)
    shapeCasts_S16x4x2x2048x128_S16x8x2048x128) bitsLt_bf16_f32

/-- The two groups' halves of the lanes exchanged. -/
def rolled (x : FVec F S16x2048x128 .f32) : FVec F S16x2048x128 .f32 :=
  concatenate S16x2048x128 2
    [⟨S16x2048x64, extractStridedSlice S16x2048x64 ![0, 0, 64] x slices_S16x2048x128_S16x2048x64_0_0_64⟩,
      ⟨S16x2048x64, extractStridedSlice S16x2048x64 ![0, 0, 0] x slices_S16x2048x128_S16x2048x64_0_0_0⟩]
    concatenates_S16x2048x64_S16x2048x64_S16x2048x128_d2

/-- `evenLanes` in the shape of the keys. -/
def evenK : IVec S16x2048x128 1 :=
  broadcastInDim S16x2048x128 ![0, 1, 2] bcast_S1x1x128_S16x2048x128_0_1_2
    (shapeCast S1x1x128 evenLanes shapeCasts_S1x1x1x128_S1x1x128)

/-- The keys, or the values, as the kernel takes them. -/
def packK (x : FVec F S16x2048x128 .f32) : FVec F S16x2x2048x128 .bf16 :=
  truncf .bf16 (concatenate S16x2x2048x128 1
    [⟨S16x1x2048x128, broadcastInDim S16x1x2048x128 ![0, 2, 3] bcast_S16x2048x128_S16x1x2048x128_0_2_3
        (select evenK x (rolled x))⟩,
      ⟨S16x1x2048x128, broadcastInDim S16x1x2048x128 ![0, 2, 3] bcast_S16x2048x128_S16x1x2048x128_0_2_3
        (select evenK (rolled x) x)⟩]
    concatenates_S16x1x2048x128_S16x1x2048x128_S16x2x2048x128_d1) bitsLt_bf16_f32

variable (m : (ℓ : Loc nD τ sig) → Buf (Elt F) ℓ)

set_option maxHeartbeats 4000000 in
/-- The kernel's first operand when it is launched. -/
theorem V_q (c : Dev nD) : Gen.V m c main_v15 = packQ (F := F) (m ((c : Thread nD τ).loc main_arg0)) := by
  unfold Gen.V
  simp only [List.flatten_cons, List.flatten_nil, List.append_nil, List.cons_append, List.nil_append]
  after_results <;> rfl

set_option maxHeartbeats 4000000 in
/-- The kernel's second operand. -/
theorem V_k (c : Dev nD) : Gen.V m c main_v23 = packK (F := F) (m ((c : Thread nD τ).loc main_arg1)) := by
  unfold Gen.V
  simp only [List.flatten_cons, List.flatten_nil, List.append_nil, List.cons_append, List.nil_append]
  after_results <;> rfl

set_option maxHeartbeats 4000000 in
/-- The kernel's third operand. -/
theorem V_v (c : Dev nD) : Gen.V m c main_v30 = packK (F := F) (m ((c : Thread nD τ).loc main_arg2)) := by
  unfold Gen.V
  simp only [List.flatten_cons, List.flatten_nil, List.append_nil, List.cons_append, List.nil_append]
  after_results <;> rfl

end Cert.Proof.KernelIdeal

end
-- ==== Proof.Ideal.Host.lean ====
/-
  The kernel's operands, element by element over the extended reals, from the queries, the keys and the values.
-/
module

public import proofs.«01_k».proof.Proof.Ideal.Prefix
public import proofs.«01_k».proof.Proof.Literals

@[expose] public section

noncomputable section

namespace Cert.Proof.KernelIdeal

open Cert.KernelIdeal Cert.KernelIdeal.Gen
open Idealize.ShloMosaic

/-- The lanes of an even head are the first 64. -/
theorem lane_lt : ∀ l : Fin 128, IntOp.cmpi CmpIPredicate.slt (BitVec.ofNat 32 l.val) 64#32
    = if l.val < 64 then 1#1 else 0#1 := by decide

theorem evenLanes_apply (l : Fin 128) : evenLanes (ix4 0 0 0 l) = if l.val < 64 then 1#1 else 0#1 := by
  rw [← lane_lt]
  pointwise [evenLanes]

/-- The factor of the queries: one over the square root of 64, in powers of two. -/
theorem scale_eq : Ideal.div (Ideal.ofBits .f32 0x3E000000#32) (Ideal.log (Ideal.ofBits .f32 0x40000000#32))
    = ((0.125 / Real.log 2 : ℝ) : EReal) := by
  have h2 : Real.log 2 ≠ 0 := (Real.log_pos (by norm_num)).ne'
  rw [lit_eighth, lit_two, Ideal.log_coe, if_neg (by norm_num), Ideal.div_coe h2, ← EReal.coe_mul]
  congr 1
  ring

theorem scaledQ_apply (q : FVec Ideal S16x2048x512 .f32) (b : Fin 16) (p : Fin 4) (s : Fin 2048) (l : Fin 128) :
    scaledQ q (ix4 b p s l) = q (ix3 b s ⟨128 * p.val + l.val, by omega⟩) * ((0.125 / Real.log 2 : ℝ) : EReal) := by
  rw [← scale_eq]
  pointwise [scaledQ]
  simp only [Nat.mul_comm p.val 128]

theorem packQ_apply (q : FVec Ideal S16x2048x512 .f32) (b : Fin 16) (h : Fin 8) (s : Fin 2048) (l : Fin 128) :
    packQ q (ix4 b h s l) = if l.val / 64 = h.val % 2 then
      q (ix3 b s ⟨128 * (h.val / 2) + l.val, by omega⟩) * ((0.125 / Real.log 2 : ℝ) : EReal) else 0 := by
  pointwise [packQ, evenQ, zerosQ]
  simp only [evenLanes_apply, scaledQ_apply]
  have hl := l.isLt
  by_cases h0 : h.val % 2 < 1 <;> by_cases h1 : l.val < 64
  · rw [dif_pos h0, if_pos h1]; exact (if_pos (show l.val / 64 = h.val % 2 by omega)).symm
  · rw [dif_pos h0, if_neg h1]; exact (if_neg (show ¬ l.val / 64 = h.val % 2 by omega)).symm
  · rw [dif_neg h0, if_pos h1]; exact (if_neg (show ¬ l.val / 64 = h.val % 2 by omega)).symm
  · rw [dif_neg h0, if_neg h1]; exact (if_pos (show l.val / 64 = h.val % 2 by omega)).symm

theorem packK_apply (x : FVec Ideal S16x2048x128 .f32) (b : Fin 16) (g : Fin 2) (t : Fin 2048) (l : Fin 128) :
    packK x (ix4 b g t l) = x (ix3 b t ⟨64 * g.val + l.val % 64, by omega⟩) := by
  pointwise [packK, evenK, rolled]
  rw [evenLanes_apply]
  have hl := l.isLt
  have hg := g.isLt
  have at_ : ∀ (a : ℕ) (h : a < 128), a = 64 * g.val + l.val % 64 →
      x (ix3 b t ⟨a, h⟩) = x (ix3 b t ⟨64 * g.val + l.val % 64, by omega⟩) := fun a h e => by subst e; rfl
  by_cases h0 : g.val < 1 <;> by_cases h1 : l.val < 64
  · rw [dif_pos h0, if_pos h1]; exact at_ _ l.isLt (by omega)
  · rw [dif_pos h0, if_neg h1, dif_neg h1]; exact at_ _ (by omega) (by omega)
  · rw [dif_neg h0, if_pos h1, dif_pos h1]; exact at_ _ (by omega) (by omega)
  · rw [dif_neg h0, if_neg h1]; exact at_ _ l.isLt (by omega)

end Cert.Proof.KernelIdeal

end
-- ==== Proof.Ideal.Array.lean ====
/-
  The kernel's result array: the grid's point `b` writes batch `b` of it, and all sixteen together the whole, each
  batch the block computed from the same batch of the three operands.
-/
module

public import proofs.«01_k».proof.Proof.Ideal.Launch
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Pipeline

variable {F : FTy → Type} [FloatOps F]

/-- Batch `b` of the queries. -/
def qBlock (q : Vec F S16x8x2048x128 .bf16) (b : Fin 16) : Vec F S1x8x2048x128 .bf16 := fun y =>
  q (ix4 b (y 1 : Fin 8) (y 2 : Fin 2048) (y 3 : Fin 128))

/-- Batch `b` of the keys or of the values. -/
def kBlock (k : Vec F S16x2x2048x128 .bf16) (b : Fin 16) : Vec F S1x2x2048x128 .bf16 := fun y =>
  k (ix4 b (y 1 : Fin 2) (y 2 : Fin 2048) (y 3 : Fin 128))

/-- The result array from the three operands. -/
def attnOut (q : Vec F S16x8x2048x128 .bf16) (k v : Vec F S16x2x2048x128 .bf16) : Vec F S16x4x2048x128 .f32 := fun y =>
  blockOut (qBlock q (y 0 : Fin 16)) (kBlock k (y 0 : Fin 16)) (kBlock v (y 0 : Fin 16))
    (ix4 (0 : Fin 1) (y 1 : Fin 4) (y 2 : Fin 2048) (y 3 : Fin 128))

variable (m : (ℓ : Loc nD τ sig) → Buf (Elt F) ℓ) (ρ : Dev nD → PrngReg)

/-- The batch of grid point `t`. -/
theorem index_eq : (∀ t : Fin cfg0.N, (cfg0.win 0).index t = ![(grid0.coords t 0).val, 0, 0, 0])
    ∧ (∀ t : Fin cfg0.N, (cfg0.win 1).index t = ![(grid0.coords t 0).val, 0, 0, 0])
    ∧ (∀ t : Fin cfg0.N, (cfg0.win 2).index t = ![(grid0.coords t 0).val, 0, 0, 0])
    ∧ (∀ t : Fin cfg0.N, (cfg0.win 3).index t = ![(grid0.coords t 0).val, 0, 0, 0]) := by
  refine ⟨by decide +kernel, by decide +kernel, by decide +kernel, by decide +kernel⟩

/-- The batch of a grid point, as an index. -/
def batchOf (t : Fin cfg0.N) : Fin 16 := ⟨(grid0.coords t 0).val, (grid0.coords t 0).isLt⟩

/-- What a grid point finds in its first block. -/
theorem iblk_q (c : Dev nD) (t : Fin cfg0.N) : iblk m c 0 t = qBlock (F := F) (Gen.V m c main_v15) (batchOf t) := by
  funext y
  show Gen.V m c main_v15 (((cfg0.win 0).blk t).view.emb y) = Gen.V m c main_v15 _
  congr 1
  funext a
  apply Fin.ext
  match a with
  | ⟨0, _⟩ => blk_simp [index_eq.1 t]; simp [batchOf, ix4]
  | ⟨1, _⟩ => blk_simp [index_eq.1 t]; simp [batchOf, ix4]
  | ⟨2, _⟩ => blk_simp [index_eq.1 t]; simp [batchOf, ix4]
  | ⟨3, _⟩ => blk_simp [index_eq.1 t]; simp [batchOf, ix4]

/-- What a grid point finds in its second block. -/
theorem iblk_k (c : Dev nD) (t : Fin cfg0.N) : iblk m c 1 t = kBlock (F := F) (Gen.V m c main_v23) (batchOf t) := by
  funext y
  show Gen.V m c main_v23 (((cfg0.win 1).blk t).view.emb y) = Gen.V m c main_v23 _
  congr 1
  funext a
  apply Fin.ext
  match a with
  | ⟨0, _⟩ => blk_simp [index_eq.2.1 t]; simp [batchOf, ix4]
  | ⟨1, _⟩ => blk_simp [index_eq.2.1 t]; simp [batchOf, ix4]
  | ⟨2, _⟩ => blk_simp [index_eq.2.1 t]; simp [batchOf, ix4]
  | ⟨3, _⟩ => blk_simp [index_eq.2.1 t]; simp [batchOf, ix4]

/-- What a grid point finds in its third block. -/
theorem iblk_v (c : Dev nD) (t : Fin cfg0.N) : iblk m c 2 t = kBlock (F := F) (Gen.V m c main_v30) (batchOf t) := by
  funext y
  show Gen.V m c main_v30 (((cfg0.win 2).blk t).view.emb y) = Gen.V m c main_v30 _
  congr 1
  funext a
  apply Fin.ext
  match a with
  | ⟨0, _⟩ => blk_simp [index_eq.2.2.1 t]; simp [batchOf, ix4]
  | ⟨1, _⟩ => blk_simp [index_eq.2.2.1 t]; simp [batchOf, ix4]
  | ⟨2, _⟩ => blk_simp [index_eq.2.2.1 t]; simp [batchOf, ix4]
  | ⟨3, _⟩ => blk_simp [index_eq.2.2.1 t]; simp [batchOf, ix4]

/-- Where a grid point's result block lies in the array. -/
theorem emb_out (t : Fin cfg0.N) (y : S1x4x2048x128.Idx) :
    (((cfg0.win 3).blk t).view.emb y : S16x4x2048x128.Idx) = ix4 (batchOf t) (y 1 : Fin 4) (y 2 : Fin 2048) (y 3 : Fin 128) := by
  funext a
  apply Fin.ext
  match a with
  | ⟨0, _⟩ => blk_simp [index_eq.2.2.2 t]; simp [batchOf, ix4]
  | ⟨1, _⟩ => blk_simp [index_eq.2.2.2 t]; simp [batchOf, ix4]
  | ⟨2, _⟩ => blk_simp [index_eq.2.2.2 t]; simp [batchOf, ix4]
  | ⟨3, _⟩ => blk_simp [index_eq.2.2.2 t]; simp [batchOf, ix4]

/-- The array after all sixteen points. -/
theorem arr_eq (c : Dev nD) : (dats m 0 c).arrAt 3 (cfgs 0).N
    = attnOut (F := F) (Gen.V m c main_v15) (Gen.V m c main_v23) (Gen.V m c main_v30) := by
  refine (dats m 0 c).arrAt_eq_of_covers 3 _ (by decide +kernel) fun t hf y => ?_
  blk_simp
  rw [after0_3, iblk_q, iblk_k, iblk_v]
  refine Eq.trans ?_ (congrArg (attnOut (F := F) (Gen.V m c main_v15) (Gen.V m c main_v23) (Gen.V m c main_v30))
    (emb_out t y).symm)
  refine congrArg (blockOut _ _ _) ?_
  funext a
  match a with
  | ⟨0, _⟩ => exact Subsingleton.elim (α := Fin 1) _ _
  | ⟨1, _⟩ => rfl
  | ⟨2, _⟩ => rfl
  | ⟨3, _⟩ => rfl

/-- Every run of the kernel ends with the result array computed from the operands, the arguments as they were. -/
theorem run_value : θ_run defs (onTc (τ := τ) (main (F := F))) (s₀ m ρ) (fun r => ∀ c : Dev nD,
    r.2.mem ((c.tc : Thread nD τ).loc main_v31)
        = attnOut (F := F) (Gen.V m c main_v15) (Gen.V m c main_v23) (Gen.V m c main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h1 := run_main (F := F) m ρ
  have h2 := frame (F := F) m ρ
  refine (θ_run defs _ _).mono (fun r h => fun c => ⟨((h.1.1 c).1 3).trans (arr_eq m c), h.2.1 c⟩) ((θ_run_and h1 h2))

end Cert.Proof.KernelIdeal

end
-- ==== Proof.Reference.Value.lean ====
/-
  What the reference computes, element by element over the extended reals: the scores of a query against the keys of its
  group, their softmax, and the values weighted by it.
-/
module

public import proofs.«01_k».proof.Proof.Gen.ReferenceIdeal.Read
public import proofs.«01_k».proof.Proof.Literals
public import Idealize.ShloMosaic.Lib.Pointwise

@[expose] public section

noncomputable section

namespace Cert.Proof.ReferenceIdeal

open Cert.ReferenceIdeal Cert.ReferenceIdeal.Gen Cert.ReferenceIdeal.Read
open Idealize.ShloMosaic

variable (q : FVec Ideal S16x2048x512 .f32) (k v : FVec Ideal S16x2048x128 .f32)

/-- The score of query `s` of head `4 * g + i` of batch `b` against key `t` of group `g`. -/
def refScore (b : Fin 16) (g : Fin 2) (i : Fin 4) (s t : Fin 2048) : EReal :=
  (∑ d : Fin 64, k (ix3 b t ⟨64 * g.val + d.val, by omega⟩) * q (ix3 b s ⟨256 * g.val + 64 * i.val + d.val, by omega⟩))
    * ((0.125 : ℝ) : EReal)

/-- The scores of the reference. -/
theorem scores_apply (b : Fin 16) (g : Fin 2) (i : Fin 4) (s t : Fin 2048) :
    val_main_v6 (F := Ideal) q k (ix5 b g i s t) = refScore q k b g i s t := by
  rw [refScore, ← lit_eighth]
  pointwise [val_main_v6, val_main_v5, val_main_v4, val_main_v3, val_main_cst, val_main_v0, val_main_v1]
  simp only [Nat.mul_comm g.val, Nat.mul_comm i.val]

/-- A maximum over the keys: the greatest entry of a row, starting at the initial value. -/
theorem reduce_max_apply (x : FVec Ideal S16x2x4x2048x2048 .f32) (init : FVec Ideal S_ .f32) (b : Fin 16) (g : Fin 2)
    (i : Fin 4) (s : Fin 2048) :
    Host.reduce FloatOps.maximumf x init reducesTo_S16x2x4x2048x2048_S16x2x4x2048_d4 h_S_ (ix4 b g i s)
      = (Finset.univ : Finset (Fin 2048)).fold max (init (ix0)) fun t => x (ix5 b g i s t) := by
  have hr : Shape.Reduces S16x2x4x2048x2048 [4] S16x2x4x2048 := by decide
  rw [Host.reduce_eq_fold_single _ _ _ _ hr]
  have e : ∀ t : Fin 2048, hr.lift (ix4 b g i s) t = ix5 b g i s t := fun t => by
    funext a
    apply Fin.ext
    match a with
    | ⟨0, _⟩ => rfl
    | ⟨1, _⟩ => rfl
    | ⟨2, _⟩ => rfl
    | ⟨3, _⟩ => rfl
    | ⟨4, _⟩ => rfl
  rw [show x ∘ hr.lift (ix4 b g i s) = fun t => x (ix5 b g i s t) from funext fun t => congrArg x (e t)]
  rw [show (Shape.Idx.first h_S_ : S_.Idx) = ix0 from funext fun a => a.elim0]
  rfl

/-- The maximum of a row of scores. -/
theorem max_apply (b : Fin 16) (g : Fin 2) (i : Fin 4) (s : Fin 2048) :
    val_main_v9 (F := Ideal) q k (ix4 b g i s)
      = max ⊥ ((Finset.univ : Finset (Fin 2048)).fold max ⊥ fun t => val_main_v6 (F := Ideal) q k (ix5 b g i s t)) := by
  rw [val_main_v9_apply, val_main_v8_apply, val_main_v7, reduce_max_apply, val_main_cst_1_apply, val_main_cst_0_apply, Ideal.ofBits_def, lit_neg_inf]
  rfl

/-- The softmax of a row of scores, at key `t`. -/
def refWeight (b : Fin 16) (g : Fin 2) (i : Fin 4) (s t : Fin 2048) : EReal :=
  Ideal.div (Ideal.exp (refScore q k b g i s t
      - max ⊥ ((Finset.univ : Finset (Fin 2048)).fold max ⊥ (refScore q k b g i s))))
    (∑ u : Fin 2048, Ideal.exp (refScore q k b g i s u
      - max ⊥ ((Finset.univ : Finset (Fin 2048)).fold max ⊥ (refScore q k b g i s))))

/-- The weights of the reference. -/
theorem weight_apply (b : Fin 16) (g : Fin 2) (i : Fin 4) (s t : Fin 2048) :
    val_main_v17 (F := Ideal) q k (ix5 b g i s t) = refWeight q k b g i s t := by
  pointwise [val_main_v17, val_main_v16, val_main_v15, val_main_v14, val_main_cst_2, val_main_v13, val_main_v12, val_main_v11, val_main_v10]
  simp only [max_apply, scores_apply]
  rfl

/-- The result of the reference. -/
theorem out_apply (b : Fin 16) (p : Fin 4) (s : Fin 2048) (j : Fin 128) :
    val_main_v22 (F := Ideal) q k v (ix4 b p s j)
      = ∑ t : Fin 2048, v (ix3 b t ⟨64 * (p.val / 2) + j.val % 64, by omega⟩)
          * refWeight q k b ⟨p.val / 2, by omega⟩ ⟨2 * (p.val % 2) + j.val / 64, by omega⟩ s t := by
  pointwise [val_main_v22, val_main_v21, val_main_v20, val_main_v19, val_main_v18, val_main_v2]
  simp only [weight_apply, Nat.mul_comm (p.val / 2), Nat.mul_comm (p.val % 2)]

end Cert.Proof.ReferenceIdeal

end
-- ==== Proof.Equation.lean ====
/-
  The kernel's result and the reference's are the same over the extended reals, element by element, wherever the queries
  and the keys are real numbers. The scores of the kernel are those of the reference divided by `log 2`: the lanes of the
  other head contribute zero. The rest is the arithmetic of one row.
-/
module

public import proofs.«01_k».proof.Proof.Ideal.Softmax
public import proofs.«01_k».proof.Proof.Ideal.Units
public import proofs.«01_k».proof.Proof.Ideal.Host
public import proofs.«01_k».proof.Proof.Ideal.Array
public import proofs.«01_k».proof.Proof.Reference.Value

@[expose] public section

noncomputable section

namespace Cert.Proof

open Idealize.ShloMosaic
open Cert.Proof.KernelIdeal Cert.Proof.ReferenceIdeal
open Cert.KernelIdeal (S16x2048x512 S16x2048x128 S16x4x2048x128)

variable (q : FVec Ideal S16x2048x512 .f32) (k v : FVec Ideal S16x2048x128 .f32)

/-- A lane of a stacked query row, from the queries. -/
theorem qAt_eq (b : Fin 16) (p : Fin 4) (s : Fin 2048) (h : ℕ) (hh : h < 2) (i : Fin 1024) (hi : i.val = 512 * h + s.val % 512)
    (d : Fin 128) :
    qAt (qBlock (packQ q) b) (4 * (s.val / 512) + p.val) i d
      = if d.val / 64 = h then q (ix3 b s ⟨128 * p.val + d.val, by omega⟩) * ((0.125 / Real.log 2 : ℝ) : EReal) else 0 := by
  have hs := s.isLt
  have hp := p.isLt
  have e1 : (⟨(2 * ((4 * (s.val / 512) + p.val) % 4) + i.val / 512) % 8, Nat.mod_lt _ (by decide)⟩ : Fin 8)
      = ⟨2 * p.val + h, by omega⟩ := Fin.ext (by simp only; omega)
  have e2 : (⟨(512 * ((4 * (s.val / 512) + p.val) / 4) + i.val % 512) % 2048, Nat.mod_lt _ (by decide)⟩ : Fin 2048) = s :=
    Fin.ext (by simp only; omega)
  rw [qAt, e1, e2]
  show packQ q (ix4 b (⟨2 * p.val + h, by omega⟩ : Fin 8) s d) = _
  rw [packQ_apply]
  have e3 : (2 * p.val + h) % 2 = h := by omega
  have e4 : (⟨128 * ((2 * p.val + h) / 2) + d.val, by omega⟩ : Fin 512) = ⟨128 * p.val + d.val, by omega⟩ :=
    Fin.ext (by simp only; omega)
  simp only [e3, e4]

/-- A lane of a key or of a value, from the keys or the values. -/
theorem kAt_eq (b : Fin 16) (p : Fin 4) (s t : Fin 2048) (d : Fin 128) :
    kAt (kBlock (packK k) b) ((4 * (s.val / 512) + p.val) % 4 / 2) t d
      = k (ix3 b t ⟨64 * (p.val / 2) + d.val % 64, by omega⟩) := by
  have hp := p.isLt
  have e1 : (⟨(4 * (s.val / 512) + p.val) % 4 / 2 % 2, Nat.mod_lt _ (by decide)⟩ : Fin 2) = ⟨p.val / 2, by omega⟩ :=
    Fin.ext (by simp only; omega)
  rw [kAt, e1]
  show packK k (ix4 b (⟨p.val / 2, by omega⟩ : Fin 2) t d) = _
  rw [packK_apply]

/-- The score of real queries and keys, as a real number. -/
def realScore (qr : S16x2048x512.Idx → ℝ) (kr : S16x2048x128.Idx → ℝ) (b : Fin 16) (p : Fin 4) (h : ℕ) (hh : h < 2)
    (s t : Fin 2048) : ℝ :=
  (∑ d : Fin 64, kr (ix3 b t ⟨64 * (p.val / 2) + d.val, by omega⟩) * qr (ix3 b s ⟨128 * p.val + (64 * h + d.val), by omega⟩))
    * 0.125

variable {q k}

/-- A sum over 128 lanes of which one half is zero. -/
theorem sum_half (f : Fin 128 → ℝ) (h : ℕ) (hh : h < 2) :
    (∑ d : Fin 128, if d.val / 64 = h then f d else 0) = ∑ d : Fin 64, f ⟨64 * h + d.val, by omega⟩ := by
  rw [← Finset.sum_filter]
  refine Finset.sum_bij' (fun d _ => (⟨d.val % 64, Nat.mod_lt _ (by decide)⟩ : Fin 64))
    (fun d _ => (⟨64 * h + d.val, by omega⟩ : Fin 128)) ?_ ?_ ?_ ?_ ?_
  · intro d _
    exact Finset.mem_univ _
  · intro d _
    exact Finset.mem_filter.mpr ⟨Finset.mem_univ _, by simp only; omega⟩
  · intro d hd
    have := (Finset.mem_filter.mp hd).2
    exact Fin.ext (by simp only; omega)
  · intro d _
    exact Fin.ext (by simp only; omega)
  · intro d hd
    have := (Finset.mem_filter.mp hd).2
    exact congrArg f (Fin.ext (by simp only; omega))

/-- The kernel's scores. -/
theorem score_real (qr : S16x2048x512.Idx → ℝ) (kr : S16x2048x128.Idx → ℝ) (hq : ∀ y, q y = ((qr y : ℝ) : EReal))
    (hk : ∀ y, k y = ((kr y : ℝ) : EReal)) (b : Fin 16) (p : Fin 4) (s t : Fin 2048) (h : ℕ) (hh : h < 2) (i : Fin 1024)
    (hi : i.val = 512 * h + s.val % 512) :
    score (qBlock (packQ q) b) (kBlock (packK k) b) (4 * (s.val / 512) + p.val) i t
      = ((realScore qr kr b p h hh s t / Real.log 2 : ℝ) : EReal) := by
  have e : ∀ d : Fin 128, qAt (qBlock (packQ q) b) (4 * (s.val / 512) + p.val) i d
        * kAt (kBlock (packK k) b) ((4 * (s.val / 512) + p.val) % 4 / 2) t d
      = (((if d.val / 64 = h then qr (ix3 b s ⟨128 * p.val + d.val, by omega⟩) * (0.125 / Real.log 2) else 0)
          * kr (ix3 b t ⟨64 * (p.val / 2) + d.val % 64, by omega⟩) : ℝ) : EReal) := fun d => by
    rw [qAt_eq q b p s h hh i hi, kAt_eq, hk, hq]
    split
    · rw [← EReal.coe_mul, ← EReal.coe_mul]
    · rw [zero_mul, zero_mul, EReal.coe_zero]
  rw [score, Finset.sum_congr rfl fun d _ => e d, ← coe_sum]
  congr 1
  have e' : ∀ d : Fin 128,
      (if d.val / 64 = h then qr (ix3 b s ⟨128 * p.val + d.val, by omega⟩) * (0.125 / Real.log 2) else 0)
          * kr (ix3 b t ⟨64 * (p.val / 2) + d.val % 64, by omega⟩)
        = if d.val / 64 = h then qr (ix3 b s ⟨128 * p.val + d.val, by omega⟩) * (0.125 / Real.log 2)
          * kr (ix3 b t ⟨64 * (p.val / 2) + d.val % 64, by omega⟩) else 0 := fun d => by
    split
    · rfl
    · exact zero_mul _
  rw [Finset.sum_congr rfl fun d _ => e' d, sum_half _ h hh, realScore, Finset.sum_mul, Finset.sum_div]
  refine Finset.sum_congr rfl fun d _ => ?_
  have ed : (⟨64 * (p.val / 2) + (64 * h + d.val) % 64, by omega⟩ : Fin 128) = ⟨64 * (p.val / 2) + d.val, by omega⟩ :=
    Fin.ext (by simp only; omega)
  simp only [ed]
  ring

/-- The reference's scores. -/
theorem refScore_real (qr : S16x2048x512.Idx → ℝ) (kr : S16x2048x128.Idx → ℝ) (hq : ∀ y, q y = ((qr y : ℝ) : EReal))
    (hk : ∀ y, k y = ((kr y : ℝ) : EReal)) (b : Fin 16) (p : Fin 4) (s t : Fin 2048) (h : ℕ) (hh : h < 2) :
    refScore q k b ⟨p.val / 2, by omega⟩ ⟨2 * (p.val % 2) + h, by omega⟩ s t
      = ((realScore qr kr b p h hh s t : ℝ) : EReal) := by
  have e : ∀ d : Fin 64, (⟨256 * (p.val / 2) + 64 * (2 * (p.val % 2) + h) + d.val, by omega⟩ : Fin 512)
      = ⟨128 * p.val + (64 * h + d.val), by omega⟩ := fun d => Fin.ext (by simp only; omega)
  rw [refScore, realScore, EReal.coe_mul, coe_sum]
  congr 1
  refine Finset.sum_congr rfl fun d _ => ?_
  rw [EReal.coe_mul, ← hk, ← hq]
  simp only [e]

/-- The kernel's result is the reference's, where queries and keys are real. -/
theorem attnOut_eq (qr : S16x2048x512.Idx → ℝ) (kr : S16x2048x128.Idx → ℝ) (hq : ∀ y, q y = ((qr y : ℝ) : EReal))
    (hk : ∀ y, k y = ((kr y : ℝ) : EReal)) :
    attnOut (packQ q) (packK k) (packK v) = Cert.ReferenceIdeal.Read.val_main_v22 q k v := by
  funext y
  obtain ⟨b, p, s, j, rfl⟩ : ∃ b p s j, y = ix4 b p s j := ⟨y 0, y 1, y 2, y 3, by funext l; fin_cases l <;> rfl⟩
  have hj : j.val / 64 < 2 := by omega
  have hi : 512 * (j.val / 64) + s.val % 512 < 1024 := by omega
  rw [out_apply]
  show unitO (qBlock (packQ q) b) (kBlock (packK k) b) (kBlock (packK v) b) (4 * (s.val / 512) + p.val)
    (ValueIdx.ix4 0 0 (⟨s.val % 512, by omega⟩ : Fin 512) j) = _
  rw [← ix4_eq_valueIdx, unitO_apply _ _ _ _ _ j ⟨512 * (j.val / 64) + s.val % 512, hi⟩ rfl]
  refine (softmax_row (n := 2048) (by decide) (fun t => realScore qr kr b p (j.val / 64) hj s t)
    (score (qBlock (packQ q) b) (kBlock (packK k) b) (4 * (s.val / 512) + p.val) ⟨_, hi⟩)
    (refScore q k b ⟨p.val / 2, by omega⟩ ⟨2 * (p.val % 2) + j.val / 64, by omega⟩ s) _
    (fun t => score_real qr kr hq hk b p s t _ hj _ rfl) (fun t => refScore_real qr kr hq hk b p s t _ hj)).trans ?_
  refine Finset.sum_congr rfl fun t _ => ?_
  rw [kAt_eq]
  rfl

end Cert.Proof

end
-- ==== Proof.Finite.lean ====
/-
  What the precondition says: every query and every key is a real number.
-/
module

public import proofs.«01_k».proof.Pre_finite_qk
public import proofs.«01_k».proof.Proof.Gen.Pre_finite_qk
public import proofs.«01_k».proof.Proof.Literals
public import Idealize.ShloMosaic.Lib.ReduceAll
public import Idealize.ShloMosaic.PureOps.Ideal.Laws

@[expose] public section

noncomputable section

namespace Cert.Proof

open Idealize.ShloMosaic
open Cert.Pre_finite_qk

/-- A value whose magnitude is below infinity is a real number. -/
theorem real_of_abs_lt (x : Ideal .f32)
    (h : FloatOps.cmpf .olt (FloatOps.absf x) (Ideal.ofBits .f32 0x7F800000#32) = 1#1) :
    ∃ r : ℝ, x = ((r : ℝ) : EReal) := by
  rw [lit_inf, Ideal.cmpf_def, Ideal.absf_def] at h
  induction x using EReal.rec with
  | coe r => exact ⟨r, rfl⟩
  | bot => simp [Ideal.cmp] at h
  | top => simp [Ideal.cmp] at h

/-- A scalar has one index. -/
instance : Subsingleton S_.Idx := ⟨fun _ _ => funext fun a => a.elim0⟩

/-- The precondition, read. -/
theorem finite_qk (q : FVec Ideal S16x2048x512 .f32) (k v : FVec Ideal S16x2048x128 .f32)
    (h : Cert.Pre_finite_qk.fn (F := Ideal) q k v = fun _ => 1#1) :
    (∀ y, ∃ x : ℝ, q y = (x : EReal)) ∧ ∀ y, ∃ x : ℝ, k y = (x : EReal) := by
  have h0 := congrFun h (fun a => a.elim0)
  obtain ⟨h1, h2⟩ := IntOp.andi_eq_one.1 h0
  exact ⟨fun y => real_of_abs_lt _ (Host.reduce_andi_all _ _ _ _ _ h1 y),
    fun y => real_of_abs_lt _ (Host.reduce_andi_all _ _ _ _ _ h2 y)⟩

end Cert.Proof

end
-- ==== Proof.Frame.Same.lean ====
/-
  The kernel and its ideal form are one program at two interpretations of the floats: no operation was rewritten. So what
  is proved of the ideal form for any interpretation of the floats holds of the kernel.
-/
module

public import proofs.«01_k».proof.Proof.Ideal.Launch
public import proofs.«01_k».proof.Proof.Gen.Kernel

@[expose] public section

set_option maxRecDepth 16384

noncomputable section

namespace Cert.Proof.Kernel

open Cert.Kernel
open Idealize.ShloMosaic Idealize.ShloMosaic.TcCoe
open Idealize.SL.Sem

variable {F : FTy → Type} [FloatOps F]

/-- The kernels' body tables agree: one label, whose body is the same text. -/
theorem bodies_same : @Cert.Kernel.defs₀ F _ _ = @Cert.KernelIdeal.defs₀ F _ _ := by
  funext p l a
  match p, l, a with
  | .tc, ⟨0, _⟩, (t, s) => with_unfolding_all rfl
  | .scScalar _, l, a => with_unfolding_all rfl
  | .scVector _ _, l, a => with_unfolding_all rfl

/-- So do the tables with the pipeline's own labels, -/
theorem defs_same : @Cert.Kernel.defs F _ _ = @Cert.KernelIdeal.defs F _ _ :=
  congrArg (Pipeline.defs Cert.KernelIdeal.pcfgs) bodies_same

/-- and the main programs. -/
theorem main_same : @Cert.Kernel.main F _ _ = @Cert.KernelIdeal.main F _ _ := by with_unfolding_all rfl

/-- Every run of the kernel ends with the arguments as they were and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same, main_same]
  exact Cert.Proof.KernelIdeal.frame (F := F) m ρ

end Cert.Proof.Kernel

end
-- ==== Proof.Ffn.Offsets.lean ====
/-
  Where the feed-forward kernel loads and stores, in closed form: the word of a chosen token, the token's row in the
  block, the row of the buffer that it is copied to, and the buffer's half that a grid point reads.
-/
module

public import proofs.«01_k».proof.Proof.Gen.Kernel2Ideal.Skeleton
public import Idealize.ShloMosaic.Lib.Affine

@[expose] public section

noncomputable section

namespace Cert.Proof.Kernel2Ideal

open Cert.Kernel2Ideal Cert.Kernel2Ideal.Gen
open Idealize.ShloMosaic

theorem t1_lt (k : Fin k0_t1_loop.trips) : k.val < 256 := Nat.lt_of_lt_of_le k.isLt k0_t1_abs.2.1
theorem t2_lt (k : Fin k0_t2_loop.trips) : k.val < 256 := Nat.lt_of_lt_of_le k.isLt k0_t2_abs.2.1

theorem t1_trips : Scf.trips k0_t1_loop.lb k0_t1_loop.ub k0_t1_loop.st = 256 := by decide +kernel
theorem t2_trips : Scf.trips k0_t2_loop.lb k0_t2_loop.ub k0_t2_loop.st = 256 := by decide +kernel

/-- The first loop's counter. -/
theorem iv1 (k : Fin k0_t1_loop.trips) : Affine.IsInt (Scf.iv 0#32 1#32 k.val) (k.val : Int) := by
  have := t1_lt k
  exact Affine.iv (Affine.ofNat 0 (by omega) : Affine.IsInt 0#32 0) (Affine.ofNat 1 (by omega) : Affine.IsInt 1#32 1) k.val (by omega)

/-- The second loop's counter. -/
theorem iv2 (k : Fin k0_t2_loop.trips) : Affine.IsInt (Scf.iv 0#32 1#32 k.val) (k.val : Int) := by
  have := t2_lt k
  exact Affine.iv (Affine.ofNat 0 (by omega) : Affine.IsInt 0#32 0) (Affine.ofNat 1 (by omega) : Affine.IsInt 1#32 1) k.val (by omega)

/-- A word known as an integer, as a natural number. -/
theorem toNat_of {x : BitVec 32} {e : Int} {n : ℕ} (hx : Affine.IsInt x e) (h : e = n) : x.toNat = n :=
  congrFun (Affine.vec_cons (f := ![]) (g := ![]) hx h rfl) 0

/-- The half of the buffer that a grid point fills. -/
theorem slot_eq : ∀ i : grid0.Coords,
    (Scalar.indexCast (Scalar.select (Scalar.andi (Scalar.xori (Scalar.cmpi .slt (Scalar.remsi (BitVec.ofNat 32 (i 0).val)
      (Scalar.select (Scalar.cmpi .eq 2#32 0#32) 1#32 2#32)) 0#32) (Scalar.cmpi .slt
      (Scalar.select (Scalar.cmpi .eq 2#32 0#32) 1#32 2#32) 0#32)) (Scalar.cmpi .ne (Scalar.remsi (BitVec.ofNat 32 (i 0).val)
      (Scalar.select (Scalar.cmpi .eq 2#32 0#32) 1#32 2#32)) 0#32)) (Scalar.addi (Scalar.remsi (BitVec.ofNat 32 (i 0).val)
      (Scalar.select (Scalar.cmpi .eq 2#32 0#32) 1#32 2#32)) (Scalar.select (Scalar.cmpi .eq 2#32 0#32) 1#32 2#32))
      (Scalar.remsi (BitVec.ofNat 32 (i 0).val) (Scalar.select (Scalar.cmpi .eq 2#32 0#32) 1#32 2#32)))).toNat = (i 0).val % 2 := by
  decide +kernel

theorem off1_eq : ∀ i : grid0.Coords, k0_off1 i = ![((i 0).val + 1) % 2, 0, 0] := by decide +kernel

theorem off4_eq (i : grid0.Coords) (k : Fin k0_t1_loop.trips) : k0_off4 i k = ![(i 0).val % 2, k.val, 0] := by
  have hk := t1_lt k
  have h : (Scalar.indexCast (Scalar.addi 0#32 (Scf.iv 0#32 1#32 k.val))).toNat = k.val := by
    have h0 : Affine.IsInt 0#32 (0) := Affine.ofNat _ (by omega)
    have h1 : Affine.IsInt _ (k.val : Int) := Affine.addi h0 (iv1 k) (by omega)
    exact toNat_of (Affine.indexCast h1) (by omega)
  exact congrArg₂ (fun a b => ![a, b, 0]) (slot_eq i) h

theorem off7_eq (i : grid0.Coords) (k : Fin k0_t2_loop.trips) : k0_off7 i k = ![(i 0).val % 2, 256 + k.val, 0] := by
  have hk := t2_lt k
  have h : (Scalar.indexCast (Scalar.addi 256#32 (Scf.iv 0#32 1#32 k.val))).toNat = 256 + k.val := by
    have h0 : Affine.IsInt 256#32 (256) := Affine.ofNat _ (by omega)
    have h1 : Affine.IsInt _ ((256 : Int) + k.val) := Affine.addi h0 (iv2 k) (by omega)
    exact toNat_of (Affine.indexCast h1) (by omega)
  exact congrArg₂ (fun a b => ![a, b, 0]) (slot_eq i) h

theorem off3_eq (v : BitVec 32) : k0_off3 v = ![0, v.toNat, 0] := rfl
theorem off6_eq (v : BitVec 32) : k0_off6 v = ![1, v.toNat, 0] := rfl

/-- The row of a chosen token lies in the block. -/
theorem chk1_of {v : BitVec 32} (h : v.toNat < 2048) : k0_chk1 v := by
  intro a
  rw [off3_eq]
  fin_cases a
  · show 0 + 1 ≤ 2; omega
  · show v.toNat + 1 ≤ 2048; omega
  · show 0 + 512 ≤ 512; omega

theorem chk2_of {v : BitVec 32} (h : v.toNat < 2048) : k0_chk2 v := by
  intro a
  rw [off6_eq]
  fin_cases a
  · show 1 + 1 ≤ 2; omega
  · show v.toNat + 1 ≤ 2048; omega
  · show 0 + 512 ≤ 512; omega

end Cert.Proof.Kernel2Ideal

end
-- ==== Proof.Ffn.Rows.lean ====
/-
  The buffer of chosen tokens: `tok` is the row that a counter names, `gath` the buffer once the rows below a count are
  copied, and a stored row takes one count to the next. Then what the kernel's loads read and its whole-block stores
  leave.
-/
module

public import proofs.«01_k».proof.Proof.Ffn.Offsets
public import Idealize.ShloMosaic.Lib.Pipeline.FrameBody
public import Idealize.ShloMosaic.Lib.WritesUnit
public import Idealize.ShloMosaic.Lib.Pipeline.Value
public import Idealize.ShloMosaic.Lib.ValueIdxCore

@[expose] public section

noncomputable section

namespace Cert.Proof.Kernel2Ideal

open Cert.Kernel2Ideal Cert.Kernel2Ideal.Gen
open Idealize.ShloMosaic

variable {F : FTy → Type} [FloatOps F]

/-- The word of a chosen token: of the first batch element for rows below 256, of the second from there on. -/
def chosenAt (W : Vec F S1x2x256 .i32) (r : Fin 512) : BitVec 32 :=
  W (ValueIdx.ix3 (0 : Fin 1) (⟨r.val / 256, by omega⟩ : Fin 2) (⟨r.val % 256, by omega⟩ : Fin 256))

/-- The packed channels of the token that row `r` is copied from. -/
def tok (W : Vec F S1x2x256 .i32) (H : Vec F S2x2048x512 .i32) (r : Fin 512) (d : Fin 512) : BitVec 32 :=
  H (ValueIdx.ix3 (⟨r.val / 256, by omega⟩ : Fin 2) (⟨(chosenAt W r).toNat % 2048, by omega⟩ : Fin 2048) d)

/-- The buffer once half `s` holds the tokens of the rows below `n`. -/
def gath (W : Vec F S1x2x256 .i32) (H : Vec F S2x2048x512 .i32) (s n : ℕ) (old : Vec F S2x512x512 .i32) :
    Vec F S2x512x512 .i32 :=
  fun y => if (y 0).val = s ∧ (y 1).val < n then tok W H (y 1 : Fin 512) (y 2 : Fin 512) else old y

theorem gath_zero (W : Vec F S1x2x256 .i32) (H : Vec F S2x2048x512 .i32) (s : ℕ) (old : Vec F S2x512x512 .i32) :
    gath W H s 0 old = old := by
  funext y
  exact if_neg fun h => Nat.not_lt_zero _ h.2

/-- Half `s` of the full buffer. -/
theorem gath_full (W : Vec F S1x2x256 .i32) (H : Vec F S2x2048x512 .i32) {s : ℕ} (old : Vec F S2x512x512 .i32)
    (y : S2x512x512.Idx) (h : (y 0).val = s) : gath W H s 512 old y = tok W H (y 1 : Fin 512) (y 2 : Fin 512) :=
  if_pos ⟨h, (y 1).isLt⟩

/-- One stored row. -/
theorem read_row (v : View sig .tc .vmem S2x512x512 .i32) (f : v.ty.Contents (Elt F)) (W : Vec F S1x2x256 .i32)
    (H : Vec F S2x2048x512 .i32) {off : Fin 3 → ℕ} {s n : ℕ} (hn : n < 512) (e : off = ![s, n, 0])
    (inb : ∀ a, off a + S1x1x512.size a ≤ S2x512x512.size a) (X : IVec S1x1x512 32)
    (hX : ∀ x : S1x1x512.Idx, X x = tok W H ⟨n, hn⟩ (x 2 : Fin 512)) (old : Vec F S2x512x512 .i32)
    (ho : v.read (Elt F) f = gath W H s n old) :
    v.read (Elt F) (v.writes (Elt F) f
        [(⟨Rect.unit (s := S2x512x512) off S1x1x512.size inb, X⟩ : View.Piece (Elt F) S2x512x512 .i32)])
      = gath W H s (n + 1) old := by
  funext y
  have h0 : (y 0).val < 2 := (y 0).isLt
  have h1 : (y 1).val < 512 := (y 1).isLt
  have h2 : (y 2).val < 512 := (y 2).isLt
  have keep : ¬((y 0).val = s ∧ (y 1).val = n) → gath W H s n old y = gath W H s (n + 1) old y := by
    intro h
    unfold gath
    by_cases hs : (y 0).val = s ∧ (y 1).val < n
    · rw [if_pos hs, if_pos ⟨hs.1, by omega⟩]
    · rw [if_neg hs, if_neg (by omega)]
  by_cases ha : (y 0).val = s
  · by_cases hb : (y 1).val = n
    · refine (View.read_writes_cons_unit_of_mem v f inb X [] y
        (ValueIdx.ix3 (0 : Fin 1) (0 : Fin 1) (y 2 : Fin 512)) e fun a => ?_).trans ?_
      · fin_cases a
        · show (y 0).val = s + 0; omega
        · show (y 1).val = n + 0; omega
        · show (y 2).val = 0 + (y 2).val; omega
      · refine (hX _).trans ?_
        unfold gath
        rw [if_pos ⟨ha, by omega⟩]
        exact congrArg (fun r => tok W H r (y 2 : Fin 512)) (show (⟨n, hn⟩ : Fin 512) = y 1 from Fin.ext hb.symm)
    · refine (View.read_writes_cons_unit_of_not_mem v f inb X [] y e 1 ?_).trans
        ((congrFun ho y).trans (keep fun h => hb h.2))
      show (y 1).val < n ∨ n + 1 ≤ (y 1).val
      omega
  · refine (View.read_writes_cons_unit_of_not_mem v f inb X [] y e 0 ?_).trans
      ((congrFun ho y).trans (keep fun h => ha h.1))
    show (y 0).val < s ∨ s + 1 ≤ (y 0).val
    omega

/-- The word that a trip loads. -/
theorem word_of (v : View sig .tc .smem S1x2x256 .i32) (f : v.ty.Contents (Elt F)) {off : Fin 3 → ℕ} {b k : ℕ}
    (hb : b < 2) (hk : k < 256) (e : off = ![0, b, k]) (inb : ∀ a, off a + S1x1x1.size a ≤ S1x2x256.size a)
    (x : S1x1x1.Idx) :
    v.readAt (Elt F) (Rect.unit (s := S1x2x256) off S1x1x1.size inb).toLoadRect f x
      = chosenAt (v.read (Elt F) f) ⟨256 * b + k, by omega⟩ := by
  subst e
  refine congrArg (v.read (Elt F) f) (funext fun a => Fin.ext ?_)
  have h0 : (x 0).val < 1 := (x 0).isLt
  have h1 : (x 1).val < 1 := (x 1).isLt
  have h2 : (x 2).val < 1 := (x 2).isLt
  fin_cases a
  · show 0 + 1 * (x 0).val = 0; omega
  · show b + 1 * (x 1).val = (256 * b + k) / 256; omega
  · show k + 1 * (x 2).val = (256 * b + k) % 256; omega

/-- The row that a trip loads, given its word. -/
theorem row_of (v : View sig .tc .vmem S2x2048x512 .i32) (f : v.ty.Contents (Elt F)) (W : Vec F S1x2x256 .i32)
    {off : Fin 3 → ℕ} {b k n : ℕ} {w : BitVec 32} (hb : b < 2) (hk : k < 256) (hn : n < 512) (hnk : n = 256 * b + k)
    (hw : w = chosenAt W ⟨256 * b + k, by omega⟩)
    (hlt : w.toNat < 2048) (e : off = ![b, w.toNat, 0]) (inb : ∀ a, off a + S1x1x512.size a ≤ S2x2048x512.size a)
    (x : S1x1x512.Idx) :
    v.readAt (Elt F) (Rect.unit (s := S2x2048x512) off S1x1x512.size inb).toLoadRect f x
      = tok W (v.read (Elt F) f) ⟨n, hn⟩ (x 2 : Fin 512) := by
  subst hnk
  subst hw
  subst e
  refine congrArg (v.read (Elt F) f) (funext fun a => Fin.ext ?_)
  have h0 : (x 0).val < 1 := (x 0).isLt
  have h1 : (x 1).val < 1 := (x 1).isLt
  fin_cases a
  · show b + 1 * (x 0).val = (256 * b + k) / 256; omega
  · show (chosenAt W ⟨256 * b + k, by omega⟩).toNat + 1 * (x 1).val
      = (chosenAt W ⟨256 * b + k, by omega⟩).toNat % 2048
    omega
  · show 0 + 1 * (x 2).val = (x 2).val; omega

theorem pay1_eq (x : Vec F S1x1x512 .i32) : k0_pay1 x = x := by
  unfold k0_pay1
  exact shapeCast_shapeCast (α := BitVec 32) x _ _
theorem pay2_eq (x : Vec F S1x1x512 .i32) : k0_pay2 x = x := by
  unfold k0_pay2
  exact shapeCast_shapeCast (α := BitVec 32) x _ _

/-! ## Whole blocks -/

/-- A load of a whole block. -/
theorem rd_whole {s : Shape} {e : EltTy} {sp : Space} (v : View sig .tc sp s e) (f : v.ty.Contents (Elt F)) {off : Fin s.rank → ℕ}
    (h : ∀ a, off a = 0) (inb : ∀ a, off a + s.size a ≤ s.size a) :
    v.readAt (Elt F) (Rect.unit (s := s) off s.size inb).toLoadRect f = v.read (Elt F) f := by
  funext y
  refine congrArg (v.read (Elt F) f) (funext fun a => Fin.ext ?_)
  show off a + 1 * (y a).val = (y a).val
  rw [h a]; omega

/-- A store of a whole block. -/
theorem read_whole {s : Shape} {e : EltTy} {sp : Space} (v : View sig .tc sp s e) (f : v.ty.Contents (Elt F)) {off : Fin s.rank → ℕ}
    (h : ∀ a, off a = 0) (inb : ∀ a, off a + s.size a ≤ s.size a) (w : s.Idx → Elt F e) :
    v.read (Elt F) (v.writes (Elt F) f [(⟨Rect.unit (s := s) off s.size inb, w⟩ : View.Piece (Elt F) s e)]) = w := by
  funext y
  have hy : (Rect.unit (s := s) off s.size inb).emb y = y := funext fun a => Fin.ext (by
    show off a + 1 * (y a).val = (y a).val
    rw [h a]; omega)
  have := View.read_writes_cons_emb v f (Rect.unit (s := s) off s.size inb) w [] y
  rwa [hy] at this

theorem zero3 : ∀ a : Fin 3, (![0, 0, 0] : Fin 3 → ℕ) a = 0 := by decide
theorem zero2 : ∀ a : Fin 2, (![0, 0] : Fin 2 → ℕ) a = 0 := by decide

end Cert.Proof.Kernel2Ideal

end
-- ==== Proof.Ffn.Trip.lean ====
/-
  One trip of each of the feed-forward kernel's copying loops: the row that the trip names is copied, the rest stays.
-/
module

public import proofs.«01_k».proof.Proof.Ffn.Rows
public import Idealize.ShloMosaic.Lib.Exec
public import Idealize.ShloMosaic.Lib.Tactic

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

local notation "𝕄" => MT nD τ sig Unit (Elt F) ℕ (UR sig nD τ) ℕ

set_option maxHeartbeats 1000000 in
/-- One trip of the first loop copies one row. -/
theorem trip1 (c : Dev nD) (i : grid0.Coords) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x512x512 .i32) (harg10 : arg10.IsWhole)
    (f1 : arg1.view.ty.Contents (Elt F)) (f2 : arg2.view.ty.Contents (Elt F)) (f10 : arg10.view.ty.Contents (Elt F))
    (hW : ∀ r, (chosenAt (arg1.view.read (Elt F) f1) r).toNat < 2048) (old : Vec F S2x512x512 .i32)
    (k : Fin k0_t1_loop.trips)
    (ho : arg10.view.read (Elt F) f10
      = gath (arg1.view.read (Elt F) f1) (arg2.view.read (Elt F) f2) ((i 0).val % 2) k.val old) :
    (iprop((arg1.view.loc (c : Thread nD τ) ↦{fullShare} f1) ∗ (arg2.view.loc (c : Thread nD τ) ↦{fullShare} f2)
      ∗ (arg10.view.loc (c : Thread nD τ) ↦{fullShare} f10)) : sProp 𝕄)
    ⊢ wp frame (wpE defs₀ 𝒱₀ (c : Thread nD τ) none) Set.univ
        (k0_t1_body (F := F) i arg1 harg1 arg2 harg2 arg3 harg3 arg4 harg4 arg5 harg5 arg6 harg6 arg7 harg7 arg8 harg8 arg9 harg9 arg10 harg10 k ())
        (fun _ => iprop(∃ g10, (arg1.view.loc (c : Thread nD τ) ↦{fullShare} f1)
          ∗ (arg2.view.loc (c : Thread nD τ) ↦{fullShare} f2) ∗ (arg10.view.loc (c : Thread nD τ) ↦{fullShare} g10)
          ∗ ⌜arg10.view.read (Elt F) g10 = gath (arg1.view.read (Elt F) f1) (arg2.view.read (Elt F) f2)
              ((i 0).val % 2) (k.val + 1) old⌝)) := by
  have hk := t1_lt k
  have w := word_of arg1.view f1 (b := 0) (k := k.val) (by omega) hk (k0_off2_eq k) (k0_off2_inb k)
    (Shape.Idx.first (numel1_S1x1x1.symm ▸ Nat.one_pos))
  have hlt := (congrArg BitVec.toNat w).trans_lt (hW _)
  have hc := chk1_of hlt
  unfold k0_t1_body
  iintro ⟨H1, H2, H10⟩
  sl_exec_parts
  sl_step
  iexists _
  isplitl [H1]; · iexact H1
  isplitl [H2]; · iexact H2
  isplitl [H10]; · iexact H10
  ipureintro
  refine read_row arg10.view f10 _ _ (by omega) (off4_eq i k) _ _ (fun x => ?_) old ho
  rw [pay1_eq]
  exact row_of arg2.view f2 _ (b := 0) (k := k.val) (by omega) hk _ (by omega) w hlt (off3_eq _) _ x

set_option maxHeartbeats 1000000 in
/-- One trip of the second loop copies one row. -/
theorem trip2 (c : Dev nD) (i : grid0.Coords) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x512x512 .i32) (harg10 : arg10.IsWhole)
    (f1 : arg1.view.ty.Contents (Elt F)) (f2 : arg2.view.ty.Contents (Elt F)) (f10 : arg10.view.ty.Contents (Elt F))
    (hW : ∀ r, (chosenAt (arg1.view.read (Elt F) f1) r).toNat < 2048) (old : Vec F S2x512x512 .i32)
    (k : Fin k0_t2_loop.trips)
    (ho : arg10.view.read (Elt F) f10
      = gath (arg1.view.read (Elt F) f1) (arg2.view.read (Elt F) f2) ((i 0).val % 2) (256 + k.val) old) :
    (iprop((arg1.view.loc (c : Thread nD τ) ↦{fullShare} f1) ∗ (arg2.view.loc (c : Thread nD τ) ↦{fullShare} f2)
      ∗ (arg10.view.loc (c : Thread nD τ) ↦{fullShare} f10)) : sProp 𝕄)
    ⊢ wp frame (wpE defs₀ 𝒱₀ (c : Thread nD τ) none) Set.univ
        (k0_t2_body (F := F) i arg1 harg1 arg2 harg2 arg3 harg3 arg4 harg4 arg5 harg5 arg6 harg6 arg7 harg7 arg8 harg8 arg9 harg9 arg10 harg10 k ())
        (fun _ => iprop(∃ g10, (arg1.view.loc (c : Thread nD τ) ↦{fullShare} f1)
          ∗ (arg2.view.loc (c : Thread nD τ) ↦{fullShare} f2) ∗ (arg10.view.loc (c : Thread nD τ) ↦{fullShare} g10)
          ∗ ⌜arg10.view.read (Elt F) g10 = gath (arg1.view.read (Elt F) f1) (arg2.view.read (Elt F) f2)
              ((i 0).val % 2) ((256 + k.val) + 1) old⌝)) := by
  have hk := t2_lt k
  have w := word_of arg1.view f1 (b := 1) (k := k.val) (by omega) hk (k0_off5_eq k) (k0_off5_inb k)
    (Shape.Idx.first (numel1_S1x1x1.symm ▸ Nat.one_pos))
  have hlt := (congrArg BitVec.toNat w).trans_lt (hW _)
  have hc := chk2_of hlt
  unfold k0_t2_body
  iintro ⟨H1, H2, H10⟩
  sl_exec_parts
  sl_step
  iexists _
  isplitl [H1]; · iexact H1
  isplitl [H2]; · iexact H2
  isplitl [H10]; · iexact H10
  ipureintro
  refine read_row arg10.view f10 _ _ (by omega) (off7_eq i k) _ _ (fun x => ?_) old ho
  rw [pay2_eq]
  exact row_of arg2.view f2 _ (b := 1) (k := k.val) (by omega) hk _ (by omega) w hlt (off6_eq _) _ x

end Cert.Proof.Kernel2Ideal

end
-- ==== Proof.Ffn.Copies.lean ====
/-
  The copying loops, one after the other: from any contents, half `t % 2` of the buffer holds the chosen tokens.
-/
module

public import proofs.«01_k».proof.Proof.Ffn.Trip
public import Idealize.ShloMosaic.Lib.Exec
public import Idealize.ShloMosaic.Lib.Tactic

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Either loop's invariant: the rows below `b + k` are copied. -/
def inv (c : Dev nD) (i : grid0.Coords) (arg1 : Memref sig .tc .smem S1x2x256 .i32)
    (arg2 : Memref sig .tc .vmem S2x2048x512 .i32) (arg10 : Memref sig .tc .vmem S2x512x512 .i32)
    (f1 : arg1.view.ty.Contents (Elt F)) (f2 : arg2.view.ty.Contents (Elt F)) (old : Vec F S2x512x512 .i32) (b : ℕ)
    (k : ℕ) (_ : Unit) : sProp 𝕄 :=
  iprop(∃ g10, (arg1.view.loc (c : Thread nD τ) ↦{fullShare} f1)
    ∗ (arg2.view.loc (c : Thread nD τ) ↦{fullShare} f2) ∗ (arg10.view.loc (c : Thread nD τ) ↦{fullShare} g10)
    ∗ ⌜arg10.view.read (Elt F) g10 = gath (arg1.view.read (Elt F) f1) (arg2.view.read (Elt F) f2)
        ((i 0).val % 2) (b + k) old⌝)

set_option maxHeartbeats 1000000 in
theorem copies (c : Dev nD) (i : grid0.Coords) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x512x512 .i32) (harg10 : arg10.IsWhole)
    (f1 : arg1.view.ty.Contents (Elt F)) (f2 : arg2.view.ty.Contents (Elt F)) (f10 : arg10.view.ty.Contents (Elt F))
    (hW : ∀ r, (chosenAt (arg1.view.read (Elt F) f1) r).toNat < 2048) (old : Vec F S2x512x512 .i32)
    (ho : arg10.view.read (Elt F) f10 = old) :
    (iprop((arg1.view.loc (c : Thread nD τ) ↦{fullShare} f1) ∗ (arg2.view.loc (c : Thread nD τ) ↦{fullShare} f2)
      ∗ (arg10.view.loc (c : Thread nD τ) ↦{fullShare} f10)) : sProp 𝕄)
    ⊢ wp frame (wpE defs₀ 𝒱₀ (c : Thread nD τ) none) Set.univ
        (do
          Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10)
          Scf.Loop.for k0_t2_loop k0_t2_ok ⟨⟩ (k0_t2_body (F := F) i arg1 harg1 arg2 harg2 arg3 harg3 arg4 harg4 arg5 harg5 arg6 harg6 arg7 harg7 arg8 harg8 arg9 harg9 arg10 harg10)
          pure PUnit.unit)
        (fun _ => iprop(∃ g10, (arg1.view.loc (c : Thread nD τ) ↦{fullShare} f1)
          ∗ (arg2.view.loc (c : Thread nD τ) ↦{fullShare} f2) ∗ (arg10.view.loc (c : Thread nD τ) ↦{fullShare} g10)
          ∗ ⌜arg10.view.read (Elt F) g10 = gath (arg1.view.read (Elt F) f1) (arg2.view.read (Elt F) f2)
              ((i 0).val % 2) 512 old⌝)) := by
  iintro ⟨H1, H2, H10⟩
  sl_exec_parts
  sl_for (inv c i arg1 arg2 arg10 f1 f2 old 0) $$ [H1 H2 H10]
  case region =>
    intro k a
    unfold inv
    iintro ⟨%g10, H1, H2, H10, %hs⟩
    iapply (wp_wand_r frame _ Set.univ)
    isplitl [H1 H2 H10]
    · iapply (trip1 c i arg1 harg1 arg2 harg2 arg3 harg3 arg4 harg4 arg5 harg5 arg6 harg6 arg7 harg7 arg8 harg8 arg9 harg9 arg10 harg10 f1 f2 g10 hW old k (by simpa using hs))
      isplitl [H1]; · iexact H1
      isplitl [H2]; · iexact H2
      iexact H10
    iintro %b ⟨%j10, H1, H2, H10, %ht⟩
    iexists j10
    isplitl [H1]; · iexact H1
    isplitl [H2]; · iexact H2
    isplitl [H10]; · iexact H10
    ipureintro
    simpa [Nat.add_assoc] using ht
  · unfold inv
    iexists _
    isplitl [H1]; · iexact H1
    isplitl [H2]; · iexact H2
    isplitl [H10]; · iexact H10
    ipureintro
    exact ho.trans (gath_zero _ _ _ _).symm
  iintro %a HI
  unfold inv
  icases HI with ⟨%g10, H1, H2, H10, %hs⟩
  rw [t1_trips] at hs
  sl_exec_parts
  sl_for (inv c i arg1 arg2 arg10 f1 f2 old 256) $$ [H1 H2 H10]
  case region =>
    intro k a
    unfold inv
    iintro ⟨%g10, H1, H2, H10, %hs⟩
    iapply (wp_wand_r frame _ Set.univ)
    isplitl [H1 H2 H10]
    · iapply (trip2 c i arg1 harg1 arg2 harg2 arg3 harg3 arg4 harg4 arg5 harg5 arg6 harg6 arg7 harg7 arg8 harg8 arg9 harg9 arg10 harg10 f1 f2 g10 hW old k hs)
      isplitl [H1]; · iexact H1
      isplitl [H2]; · iexact H2
      iexact H10
    iintro %b ⟨%j10, H1, H2, H10, %ht⟩
    iexists j10
    isplitl [H1]; · iexact H1
    isplitl [H2]; · iexact H2
    isplitl [H10]; · iexact H10
    ipureintro
    simpa [Nat.add_assoc] using ht
  · unfold inv
    iexists _
    isplitl [H1]; · iexact H1
    isplitl [H2]; · iexact H2
    isplitl [H10]; · iexact H10
    ipureintro
    exact hs
  iintro %a HI
  unfold inv
  icases HI with ⟨%j10, H1, H2, H10, %ht⟩
  rw [t2_trips] at ht
  sl_exec_parts
  sl_step
  iexists _
  isplitl [H1]; · iexact H1
  isplitl [H2]; · iexact H2
  isplitl [H10]; · iexact H10
  ipureintro
  exact ht

end Cert.Proof.Kernel2Ideal

end
-- ==== Proof.Ffn.Body.lean ====
/-
  The feed-forward kernel's whole body at a grid point: the weights are cast where an expert's first item is at hand, the
  result block is computed from the half of the buffer that the point before filled, and the other half is filled.
-/
module

public import proofs.«01_k».proof.Proof.Ffn.Copies
public import Idealize.ShloMosaic.Lib.Exec
public import Idealize.ShloMosaic.Lib.Tactic

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Half `s` of the buffer. -/
def half (X : Vec F S2x512x512 .i32) (s : ℕ) : Vec F S1x512x512 .i32 :=
  fun y => X (ValueIdx.ix3 (⟨s % 2, by omega⟩ : Fin 2) (y 1 : Fin 512) (y 2 : Fin 512))

/-- The weights' first 512 rows. -/
def lo (X : Vec F S1024x1024 .bf16) : Vec F S512x1024 .bf16 :=
  fun y => X (ValueIdx.ix2 (⟨(y 0).val, lt_of_lt_of_le (y 0).isLt (by decide)⟩ : Fin 1024) (y 1 : Fin 1024))

/-- The weights' other 512 rows. -/
def hi (X : Vec F S1024x1024 .bf16) : Vec F S512x1024 .bf16 :=
  fun y => X (ValueIdx.ix2 (⟨512 + (y 0).val, Nat.add_lt_add_left (y 0).isLt 512⟩ : Fin 1024) (y 1 : Fin 1024))

/-- The result block from a half of the buffer and the weights. -/
def block (x : Vec F S1x512x512 .i32) (w7 w8 w9 : Vec F S1024x1024 .bf16) : FVec F S1x512x1024 .f32 :=
  k0_pay9 (k0_pay7 x) (k0_pay8 x) (lo w7) (hi w7) (lo w8) (hi w8) w9

/-- The buffer that a grid point finds: zeros at the first. -/
def start (t : ℕ) (X : Vec F S2x512x512 .i32) : Vec F S2x512x512 .i32 := if t = 0 then k0_pay3 else X

/-- The weights that a grid point computes with: cast at an expert's first item, kept otherwise. -/
def weights (t : ℕ) (new old : Vec F S1024x1024 .bf16) : Vec F S1024x1024 .bf16 := if (t - 1) % 8 = 0 then new else old

theorem start_pos {t : ℕ} (h : t = 0) (X : Vec F S2x512x512 .i32) : start t X = k0_pay3 := if_pos h

theorem weights_pos {t : ℕ} (h : (t - 1) % 8 = 0) (new old : Vec F S1024x1024 .bf16) : weights t new old = new := if_pos h

theorem half_of (v : View sig .tc .vmem S2x512x512 .i32) (f : v.ty.Contents (Elt F)) {off : Fin 3 → ℕ} {s : ℕ}
    (e : off = ![s % 2, 0, 0]) (inb : ∀ a, off a + S1x512x512.size a ≤ S2x512x512.size a) :
    v.readAt (Elt F) (Rect.unit (s := S2x512x512) off S1x512x512.size inb).toLoadRect f = half (v.read (Elt F) f) s := by
  subst e
  funext y
  refine congrArg (v.read (Elt F) f) (funext fun a => Fin.ext ?_)
  have h0 : (y 0).val < 1 := (y 0).isLt
  fin_cases a
  · show s % 2 + 1 * (y 0).val = s % 2; omega
  · show 0 + 1 * (y 1).val = (y 1).val; omega
  · show 0 + 1 * (y 2).val = (y 2).val; omega

theorem lo_of (v : View sig .tc .vmem S1024x1024 .bf16) (f : v.ty.Contents (Elt F)) :
    v.readAt (Elt F) (Rect.unit (s := S1024x1024) ![0, 0] S512x1024.size inb_S1024x1024_S512x1024_0_0).toLoadRect f
      = lo (v.read (Elt F) f) := by
  funext y
  refine congrArg (v.read (Elt F) f) (funext fun a => Fin.ext ?_)
  fin_cases a
  · show 0 + 1 * (y 0).val = (y 0).val; omega
  · show 0 + 1 * (y 1).val = (y 1).val; omega

theorem hi_of (v : View sig .tc .vmem S1024x1024 .bf16) (f : v.ty.Contents (Elt F)) :
    v.readAt (Elt F) (Rect.unit (s := S1024x1024) ![512, 0] S512x1024.size inb_S1024x1024_S512x1024_512_0).toLoadRect f
      = hi (v.read (Elt F) f) := by
  funext y
  refine congrArg (v.read (Elt F) f) (funext fun a => Fin.ext ?_)
  fin_cases a
  · show 512 + 1 * (y 0).val = 512 + (y 0).val; omega
  · show 0 + 1 * (y 1).val = (y 1).val; omega

theorem block_of {x x' : Vec F S1x512x512 .i32} {a b c d a' b' c' d' : Vec F S512x1024 .bf16}
    {e e' : Vec F S1024x1024 .bf16} (hx : x = x') (ha : a = a') (hb : b = b') (hc : c = c') (hd : d = d') (he : e = e') :
    k0_pay9 (k0_pay7 x) (k0_pay8 x) a b c d e = k0_pay9 (k0_pay7 x') (k0_pay8 x') a' b' c' d' e' := by
  subst hx; subst ha; subst hb; subst hc; subst hd; subst he; rfl

theorem cond1 : ∀ i : grid0.Coords,
    (Scalar.cmpi .ne (Scalar.extui (Scalar.cmpi .eq (BitVec.ofNat 32 (i 0).val) 0#32) : BitVec 32) 0#32 = 1#1)
      ↔ (i 0).val = 0 := by decide +kernel

/-- The item's number among its expert's eight. -/
def item (i : grid0.Coords) : BitVec 32 :=
  Scalar.remsi (Scalar.maxsi (Scalar.subi (BitVec.ofNat 32 (i 0).val) 1#32) 0#32)
    (Scalar.select (Scalar.cmpi .eq 8#32 0#32) 1#32 8#32)

theorem cond2 : ∀ i : grid0.Coords,
    (Scalar.cmpi .ne (Scalar.extui (Scalar.cmpi .eq (Scalar.select (Scalar.andi (Scalar.xori (Scalar.cmpi .slt (item i) 0#32)
      (Scalar.cmpi .slt (Scalar.select (Scalar.cmpi .eq 8#32 0#32) 1#32 8#32) 0#32)) (Scalar.cmpi .ne (item i) 0#32))
      (Scalar.addi (item i) (Scalar.select (Scalar.cmpi .eq 8#32 0#32) 1#32 8#32)) (item i)) 0#32) : BitVec 32) 0#32 = 1#1)
      ↔ ((i 0).val - 1) % 8 = 0 := by decide +kernel

instance closedOff1 (i : grid0.Coords) : ClosedOff (k0_off1 i) := ⟨![((i 0).val + 1) % 2, 0, 0], off1_eq i⟩

set_option maxHeartbeats 500000 in
/-- The copying loops with everything else at rest. -/
theorem rest_run (c : Dev nD) (i : grid0.Coords) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x512x512 .i32) (harg10 : arg10.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (hW : ∀ r, (chosenAt (arg1.view.read (Elt F) f1) r).toNat < 2048) :
    (iprop((arg1.view.loc (c : Thread nD τ) ↦{fullShare} f1)
      ∗ (arg2.view.loc (c : Thread nD τ) ↦{fullShare} f2)
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)) : sProp 𝕄)
    ⊢ wp frame (wpE defs₀ 𝒱₀ (c : Thread nD τ) none) Set.univ
        (do
          Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10)
          Scf.Loop.for k0_t2_loop k0_t2_ok ⟨⟩ (k0_t2_body (F := F) i arg1 harg1 arg2 harg2 arg3 harg3 arg4 harg4 arg5 harg5 arg6 harg6 arg7 harg7 arg8 harg8 arg9 harg9 arg10 harg10)
          pure PUnit.unit)
        (fun _ => iprop(∃ g6 g7 g8 g9 g10, (arg1.view.loc (c : Thread nD τ) ↦{fullShare} f1)
          ∗ (arg2.view.loc (c : Thread nD τ) ↦{fullShare} f2)
          ∗ (arg3.view.loc (c : Thread nD τ) ↦{fullShare} f3)
          ∗ (arg4.view.loc (c : Thread nD τ) ↦{fullShare} f4)
          ∗ (arg5.view.loc (c : Thread nD τ) ↦{fullShare} f5)
          ∗ (arg6.view.loc (c : Thread nD τ) ↦{fullShare} g6)
          ∗ (arg7.view.loc (c : Thread nD τ) ↦{fullShare} g7)
          ∗ (arg8.view.loc (c : Thread nD τ) ↦{fullShare} g8)
          ∗ (arg9.view.loc (c : Thread nD τ) ↦{fullShare} g9)
          ∗ (arg10.view.loc (c : Thread nD τ) ↦{fullShare} g10)
          ∗ ⌜arg6.view.read (Elt F) g6 = arg6.view.read (Elt F) f6 ∧ arg7.view.read (Elt F) g7 = arg7.view.read (Elt F) f7
              ∧ arg8.view.read (Elt F) g8 = arg8.view.read (Elt F) f8 ∧ arg9.view.read (Elt F) g9 = arg9.view.read (Elt F) f9
              ∧ arg10.view.read (Elt F) g10 = gath (arg1.view.read (Elt F) f1) (arg2.view.read (Elt F) f2) ((i 0).val % 2) 512 (arg10.view.read (Elt F) f10)⌝)) := by
  iintro ⟨H1, H2, H3, H4, H5, H6, H7, H8, H9, H10⟩
  iapply (wp_wand_r frame _ Set.univ)
  isplitl [H1 H2 H10]
  · iapply (copies c i arg1 harg1 arg2 harg2 arg3 harg3 arg4 harg4 arg5 harg5 arg6 harg6 arg7 harg7 arg8 harg8 arg9 harg9 arg10 harg10 f1 f2 f10 hW _ rfl)
    isplitl [H1]; · iexact H1
    isplitl [H2]; · iexact H2
    iexact H10
  iintro %u ⟨%g10, H1, H2, H10, %ht⟩
  iexists f6
  iexists f7
  iexists f8
  iexists f9
  iexists g10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  ipureintro
  exact ⟨rfl, rfl, rfl, rfl, ht⟩

set_option maxHeartbeats 500000 in
/-- The first grid point: the buffer is cleared and the weights are cast. -/
theorem body_first (c : Dev nD) (i : grid0.Coords) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x512x512 .i32) (harg10 : arg10.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (hW : ∀ r, (chosenAt (arg1.view.read (Elt F) f1) r).toNat < 2048) (h1 : (i 0).val = 0) :
    (iprop((arg1.view.loc (c : Thread nD τ) ↦{fullShare} f1)
      ∗ (arg2.view.loc (c : Thread nD τ) ↦{fullShare} f2)
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)) : sProp 𝕄)
    ⊢ wp frame (wpE defs₀ 𝒱₀ (c : Thread nD τ) none) Set.univ
        (cc0_ffn_skel (F := F) i arg1 harg1 arg2 harg2 arg3 harg3 arg4 harg4 arg5 harg5 arg6 harg6 arg7 harg7 arg8 harg8 arg9 harg9 arg10 harg10)
        (fun _ => iprop(∃ g6 g7 g8 g9 g10, (arg1.view.loc (c : Thread nD τ) ↦{fullShare} f1)
          ∗ (arg2.view.loc (c : Thread nD τ) ↦{fullShare} f2)
          ∗ (arg3.view.loc (c : Thread nD τ) ↦{fullShare} f3)
          ∗ (arg4.view.loc (c : Thread nD τ) ↦{fullShare} f4)
          ∗ (arg5.view.loc (c : Thread nD τ) ↦{fullShare} f5)
          ∗ (arg6.view.loc (c : Thread nD τ) ↦{fullShare} g6)
          ∗ (arg7.view.loc (c : Thread nD τ) ↦{fullShare} g7)
          ∗ (arg8.view.loc (c : Thread nD τ) ↦{fullShare} g8)
          ∗ (arg9.view.loc (c : Thread nD τ) ↦{fullShare} g9)
          ∗ (arg10.view.loc (c : Thread nD τ) ↦{fullShare} g10)
          ∗ ⌜arg6.view.read (Elt F) g6 = block (half (start (i 0).val (arg10.view.read (Elt F) f10)) ((i 0).val + 1))
                (weights (i 0).val (k0_pay4 (arg3.view.read (Elt F) f3)) (arg7.view.read (Elt F) f7)) (weights (i 0).val (k0_pay5 (arg4.view.read (Elt F) f4)) (arg8.view.read (Elt F) f8))
                (weights (i 0).val (k0_pay6 (arg5.view.read (Elt F) f5)) (arg9.view.read (Elt F) f9))
              ∧ arg7.view.read (Elt F) g7 = weights (i 0).val (k0_pay4 (arg3.view.read (Elt F) f3)) (arg7.view.read (Elt F) f7)
              ∧ arg8.view.read (Elt F) g8 = weights (i 0).val (k0_pay5 (arg4.view.read (Elt F) f4)) (arg8.view.read (Elt F) f8)
              ∧ arg9.view.read (Elt F) g9 = weights (i 0).val (k0_pay6 (arg5.view.read (Elt F) f5)) (arg9.view.read (Elt F) f9)
              ∧ arg10.view.read (Elt F) g10 = gath (arg1.view.read (Elt F) f1) (arg2.view.read (Elt F) f2) ((i 0).val % 2) 512
                  (start (i 0).val (arg10.view.read (Elt F) f10))⌝)) := by
  have h2 : ((i 0).val - 1) % 8 = 0 := by rw [h1]
  have r3 := rd_whole arg3.view f3 zero3 inb_S1x1024x1024_S1x1024x1024_0_0_0
  have r4 := rd_whole arg4.view f4 zero3 inb_S1x1024x1024_S1x1024x1024_0_0_0
  have r5 := rd_whole arg5.view f5 zero3 inb_S1x1024x1024_S1x1024x1024_0_0_0
  have k1 := (cond1 i).2 h1
  have k2 := (cond2 i).2 h2
  unfold item at k2
  have e7 := (read_whole arg7.view arg7.view.junk zero2 inb_S1024x1024_S1024x1024_0_0 (k0_pay4 (arg3.view.read (Elt F) f3))).trans
    (weights_pos h2 _ (arg7.view.read (Elt F) f7)).symm
  have e8 := (read_whole arg8.view arg8.view.junk zero2 inb_S1024x1024_S1024x1024_0_0 (k0_pay5 (arg4.view.read (Elt F) f4))).trans
    (weights_pos h2 _ (arg8.view.read (Elt F) f8)).symm
  have e9 := (read_whole arg9.view arg9.view.junk zero2 inb_S1024x1024_S1024x1024_0_0 (k0_pay6 (arg5.view.read (Elt F) f5))).trans
    (weights_pos h2 _ (arg9.view.read (Elt F) f9)).symm
  have e10 := (read_whole arg10.view arg10.view.junk zero3 inb_S2x512x512_S2x512x512_0_0_0 k0_pay3).trans
    (start_pos h1 (arg10.view.read (Elt F) f10)).symm
  unfold cc0_ffn_skel
  iintro ⟨H1, H2, H3, H4, H5, H6, H7, H8, H9, H10⟩
  sl_exec_parts
  iapply (wp_wand_r frame _ Set.univ)
  isplitl [H1 H2 H3 H4 H5 H6 H7 H8 H9 H10]
  · iapply (rest_run c i arg1 harg1 arg2 harg2 arg3 harg3 arg4 harg4 arg5 harg5 arg6 harg6 arg7 harg7 arg8 harg8 arg9 harg9 arg10 harg10 f1 f2 f3 f4 f5 _ _ _ _ _ hW)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %u ⟨%g6, %g7, %g8, %g9, %g10, H1, H2, H3, H4, H5, H6, H7, H8, H9, H10, %hs⟩
  iexists g6
  iexists g7
  iexists g8
  iexists g9
  iexists g10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  ipureintro
  obtain ⟨s6, s7, s8, s9, s10⟩ := hs
  refine ⟨s6.trans ?_, s7.trans e7, s8.trans e8, s9.trans e9, s10.trans (congrArg (gath _ _ _ 512) e10)⟩
  clear s6 s7 s8 s9 s10
  refine (read_whole arg6.view _ zero3 _ _).trans ?_
  delta body_first.sl.r body_first.sl.r_1
  delta body_first.sl.v40 body_first.sl.v42 body_first.sl.v45 body_first.sl.v47 body_first.sl.v58
  exact block_of
    ((half_of arg10.view _ (off1_eq i) _).trans (congrArg (half · _) e10))
    ((lo_of arg7.view _).trans (congrArg lo e7)) ((hi_of arg7.view _).trans (congrArg hi e7))
    ((lo_of arg8.view _).trans (congrArg lo e8)) ((hi_of arg8.view _).trans (congrArg hi e8))
    ((rd_whole arg9.view _ zero2 _).trans e9)

set_option maxHeartbeats 500000 in
/-- An expert's first item: the weights are cast. -/
theorem body_fresh (c : Dev nD) (i : grid0.Coords) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x512x512 .i32) (harg10 : arg10.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (hW : ∀ r, (chosenAt (arg1.view.read (Elt F) f1) r).toNat < 2048) (h1 : (i 0).val ≠ 0)
    (h2 : ((i 0).val - 1) % 8 = 0) :
    (iprop((arg1.view.loc (c : Thread nD τ) ↦{fullShare} f1)
      ∗ (arg2.view.loc (c : Thread nD τ) ↦{fullShare} f2)
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)) : sProp 𝕄)
    ⊢ wp frame (wpE defs₀ 𝒱₀ (c : Thread nD τ) none) Set.univ
        (cc0_ffn_skel (F := F) i arg1 harg1 arg2 harg2 arg3 harg3 arg4 harg4 arg5 harg5 arg6 harg6 arg7 harg7 arg8 harg8 arg9 harg9 arg10 harg10)
        (fun _ => iprop(∃ g6 g7 g8 g9 g10, (arg1.view.loc (c : Thread nD τ) ↦{fullShare} f1)
          ∗ (arg2.view.loc (c : Thread nD τ) ↦{fullShare} f2)
          ∗ (arg3.view.loc (c : Thread nD τ) ↦{fullShare} f3)
          ∗ (arg4.view.loc (c : Thread nD τ) ↦{fullShare} f4)
          ∗ (arg5.view.loc (c : Thread nD τ) ↦{fullShare} f5)
          ∗ (arg6.view.loc (c : Thread nD τ) ↦{fullShare} g6)
          ∗ (arg7.view.loc (c : Thread nD τ) ↦{fullShare} g7)
          ∗ (arg8.view.loc (c : Thread nD τ) ↦{fullShare} g8)
          ∗ (arg9.view.loc (c : Thread nD τ) ↦{fullShare} g9)
          ∗ (arg10.view.loc (c : Thread nD τ) ↦{fullShare} g10)
          ∗ ⌜arg6.view.read (Elt F) g6 = block (half (start (i 0).val (arg10.view.read (Elt F) f10)) ((i 0).val + 1))
                (weights (i 0).val (k0_pay4 (arg3.view.read (Elt F) f3)) (arg7.view.read (Elt F) f7)) (weights (i 0).val (k0_pay5 (arg4.view.read (Elt F) f4)) (arg8.view.read (Elt F) f8))
                (weights (i 0).val (k0_pay6 (arg5.view.read (Elt F) f5)) (arg9.view.read (Elt F) f9))
              ∧ arg7.view.read (Elt F) g7 = weights (i 0).val (k0_pay4 (arg3.view.read (Elt F) f3)) (arg7.view.read (Elt F) f7)
              ∧ arg8.view.read (Elt F) g8 = weights (i 0).val (k0_pay5 (arg4.view.read (Elt F) f4)) (arg8.view.read (Elt F) f8)
              ∧ arg9.view.read (Elt F) g9 = weights (i 0).val (k0_pay6 (arg5.view.read (Elt F) f5)) (arg9.view.read (Elt F) f9)
              ∧ arg10.view.read (Elt F) g10 = gath (arg1.view.read (Elt F) f1) (arg2.view.read (Elt F) f2) ((i 0).val % 2) 512
                  (start (i 0).val (arg10.view.read (Elt F) f10))⌝)) := by
  have r3 := rd_whole arg3.view f3 zero3 inb_S1x1024x1024_S1x1024x1024_0_0_0
  have r4 := rd_whole arg4.view f4 zero3 inb_S1x1024x1024_S1x1024x1024_0_0_0
  have r5 := rd_whole arg5.view f5 zero3 inb_S1x1024x1024_S1x1024x1024_0_0_0
  have k1 := mt (cond1 i).1 h1
  have k2 := (cond2 i).2 h2
  unfold item at k2
  have e7 := (read_whole arg7.view arg7.view.junk zero2 inb_S1024x1024_S1024x1024_0_0 (k0_pay4 (arg3.view.read (Elt F) f3))).trans
    (weights_pos h2 _ (arg7.view.read (Elt F) f7)).symm
  have e8 := (read_whole arg8.view arg8.view.junk zero2 inb_S1024x1024_S1024x1024_0_0 (k0_pay5 (arg4.view.read (Elt F) f4))).trans
    (weights_pos h2 _ (arg8.view.read (Elt F) f8)).symm
  have e9 := (read_whole arg9.view arg9.view.junk zero2 inb_S1024x1024_S1024x1024_0_0 (k0_pay6 (arg5.view.read (Elt F) f5))).trans
    (weights_pos h2 _ (arg9.view.read (Elt F) f9)).symm
  have e10 : arg10.view.read (Elt F) f10 = start (i 0).val (arg10.view.read (Elt F) f10) := (if_neg h1).symm
  unfold cc0_ffn_skel
  iintro ⟨H1, H2, H3, H4, H5, H6, H7, H8, H9, H10⟩
  sl_exec_parts
  iapply (wp_wand_r frame _ Set.univ)
  isplitl [H1 H2 H3 H4 H5 H6 H7 H8 H9 H10]
  · iapply (rest_run c i arg1 harg1 arg2 harg2 arg3 harg3 arg4 harg4 arg5 harg5 arg6 harg6 arg7 harg7 arg8 harg8 arg9 harg9 arg10 harg10 f1 f2 f3 f4 f5 _ _ _ _ f10 hW)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %u ⟨%g6, %g7, %g8, %g9, %g10, H1, H2, H3, H4, H5, H6, H7, H8, H9, H10, %hs⟩
  iexists g6
  iexists g7
  iexists g8
  iexists g9
  iexists g10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  ipureintro
  obtain ⟨s6, s7, s8, s9, s10⟩ := hs
  refine ⟨s6.trans ?_, s7.trans e7, s8.trans e8, s9.trans e9, s10.trans (congrArg (gath _ _ _ 512) e10)⟩
  clear s6 s7 s8 s9 s10
  refine (read_whole arg6.view _ zero3 _ _).trans ?_
  delta body_fresh.sl.r body_fresh.sl.r_1
  delta body_fresh.sl.v40 body_fresh.sl.v42 body_fresh.sl.v45 body_fresh.sl.v47 body_fresh.sl.v58
  exact block_of
    ((half_of arg10.view _ (off1_eq i) _).trans (congrArg (half · _) e10))
    ((lo_of arg7.view _).trans (congrArg lo e7)) ((hi_of arg7.view _).trans (congrArg hi e7))
    ((lo_of arg8.view _).trans (congrArg lo e8)) ((hi_of arg8.view _).trans (congrArg hi e8))
    ((rd_whole arg9.view _ zero2 _).trans e9)

set_option maxHeartbeats 500000 in
/-- Any other item: the weights are those of the point before. -/
theorem body_kept (c : Dev nD) (i : grid0.Coords) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x512x512 .i32) (harg10 : arg10.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (hW : ∀ r, (chosenAt (arg1.view.read (Elt F) f1) r).toNat < 2048) (h2 : ¬((i 0).val - 1) % 8 = 0) :
    (iprop((arg1.view.loc (c : Thread nD τ) ↦{fullShare} f1)
      ∗ (arg2.view.loc (c : Thread nD τ) ↦{fullShare} f2)
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)) : sProp 𝕄)
    ⊢ wp frame (wpE defs₀ 𝒱₀ (c : Thread nD τ) none) Set.univ
        (cc0_ffn_skel (F := F) i arg1 harg1 arg2 harg2 arg3 harg3 arg4 harg4 arg5 harg5 arg6 harg6 arg7 harg7 arg8 harg8 arg9 harg9 arg10 harg10)
        (fun _ => iprop(∃ g6 g7 g8 g9 g10, (arg1.view.loc (c : Thread nD τ) ↦{fullShare} f1)
          ∗ (arg2.view.loc (c : Thread nD τ) ↦{fullShare} f2)
          ∗ (arg3.view.loc (c : Thread nD τ) ↦{fullShare} f3)
          ∗ (arg4.view.loc (c : Thread nD τ) ↦{fullShare} f4)
          ∗ (arg5.view.loc (c : Thread nD τ) ↦{fullShare} f5)
          ∗ (arg6.view.loc (c : Thread nD τ) ↦{fullShare} g6)
          ∗ (arg7.view.loc (c : Thread nD τ) ↦{fullShare} g7)
          ∗ (arg8.view.loc (c : Thread nD τ) ↦{fullShare} g8)
          ∗ (arg9.view.loc (c : Thread nD τ) ↦{fullShare} g9)
          ∗ (arg10.view.loc (c : Thread nD τ) ↦{fullShare} g10)
          ∗ ⌜arg6.view.read (Elt F) g6 = block (half (start (i 0).val (arg10.view.read (Elt F) f10)) ((i 0).val + 1))
                (weights (i 0).val (k0_pay4 (arg3.view.read (Elt F) f3)) (arg7.view.read (Elt F) f7)) (weights (i 0).val (k0_pay5 (arg4.view.read (Elt F) f4)) (arg8.view.read (Elt F) f8))
                (weights (i 0).val (k0_pay6 (arg5.view.read (Elt F) f5)) (arg9.view.read (Elt F) f9))
              ∧ arg7.view.read (Elt F) g7 = weights (i 0).val (k0_pay4 (arg3.view.read (Elt F) f3)) (arg7.view.read (Elt F) f7)
              ∧ arg8.view.read (Elt F) g8 = weights (i 0).val (k0_pay5 (arg4.view.read (Elt F) f4)) (arg8.view.read (Elt F) f8)
              ∧ arg9.view.read (Elt F) g9 = weights (i 0).val (k0_pay6 (arg5.view.read (Elt F) f5)) (arg9.view.read (Elt F) f9)
              ∧ arg10.view.read (Elt F) g10 = gath (arg1.view.read (Elt F) f1) (arg2.view.read (Elt F) f2) ((i 0).val % 2) 512
                  (start (i 0).val (arg10.view.read (Elt F) f10))⌝)) := by
  have h1 : (i 0).val ≠ 0 := fun h => h2 (by rw [h])
  have r3 := rd_whole arg3.view f3 zero3 inb_S1x1024x1024_S1x1024x1024_0_0_0
  have r4 := rd_whole arg4.view f4 zero3 inb_S1x1024x1024_S1x1024x1024_0_0_0
  have r5 := rd_whole arg5.view f5 zero3 inb_S1x1024x1024_S1x1024x1024_0_0_0
  have k1 := mt (cond1 i).1 h1
  have k2 := mt (cond2 i).1 h2
  unfold item at k2
  have e7 : arg7.view.read (Elt F) f7 = weights (i 0).val (k0_pay4 (arg3.view.read (Elt F) f3)) (arg7.view.read (Elt F) f7) := (if_neg h2).symm
  have e8 : arg8.view.read (Elt F) f8 = weights (i 0).val (k0_pay5 (arg4.view.read (Elt F) f4)) (arg8.view.read (Elt F) f8) := (if_neg h2).symm
  have e9 : arg9.view.read (Elt F) f9 = weights (i 0).val (k0_pay6 (arg5.view.read (Elt F) f5)) (arg9.view.read (Elt F) f9) := (if_neg h2).symm
  have e10 : arg10.view.read (Elt F) f10 = start (i 0).val (arg10.view.read (Elt F) f10) := (if_neg h1).symm
  unfold cc0_ffn_skel
  iintro ⟨H1, H2, H3, H4, H5, H6, H7, H8, H9, H10⟩
  sl_exec_parts
  iapply (wp_wand_r frame _ Set.univ)
  isplitl [H1 H2 H3 H4 H5 H6 H7 H8 H9 H10]
  · iapply (rest_run c i arg1 harg1 arg2 harg2 arg3 harg3 arg4 harg4 arg5 harg5 arg6 harg6 arg7 harg7 arg8 harg8 arg9 harg9 arg10 harg10 f1 f2 f3 f4 f5 _ f7 f8 f9 f10 hW)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %u ⟨%g6, %g7, %g8, %g9, %g10, H1, H2, H3, H4, H5, H6, H7, H8, H9, H10, %hs⟩
  iexists g6
  iexists g7
  iexists g8
  iexists g9
  iexists g10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  ipureintro
  obtain ⟨s6, s7, s8, s9, s10⟩ := hs
  refine ⟨s6.trans ?_, s7.trans e7, s8.trans e8, s9.trans e9, s10.trans (congrArg (gath _ _ _ 512) e10)⟩
  clear s6 s7 s8 s9 s10
  refine (read_whole arg6.view _ zero3 _ _).trans ?_
  delta body_kept.sl.r body_kept.sl.r_1
  exact block_of
    ((half_of arg10.view _ (off1_eq i) _).trans (congrArg (half · _) e10))
    ((lo_of arg7.view _).trans (congrArg lo e7)) ((hi_of arg7.view _).trans (congrArg hi e7))
    ((lo_of arg8.view _).trans (congrArg lo e8)) ((hi_of arg8.view _).trans (congrArg hi e8))
    ((rd_whole arg9.view _ zero2 _).trans e9)

/-- The body: from any contents, the result block is computed and the buffer's half `t % 2` filled. -/
theorem body_run (c : Dev nD) (i : grid0.Coords) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x512x512 .i32) (harg10 : arg10.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (hW : ∀ r, (chosenAt (arg1.view.read (Elt F) f1) r).toNat < 2048) :
    (iprop((arg1.view.loc (c : Thread nD τ) ↦{fullShare} f1)
      ∗ (arg2.view.loc (c : Thread nD τ) ↦{fullShare} f2)
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)) : sProp 𝕄)
    ⊢ wp frame (wpE defs₀ 𝒱₀ (c : Thread nD τ) none) Set.univ
        (cc0_ffn_skel (F := F) i arg1 harg1 arg2 harg2 arg3 harg3 arg4 harg4 arg5 harg5 arg6 harg6 arg7 harg7 arg8 harg8 arg9 harg9 arg10 harg10)
        (fun _ => iprop(∃ g6 g7 g8 g9 g10, (arg1.view.loc (c : Thread nD τ) ↦{fullShare} f1)
          ∗ (arg2.view.loc (c : Thread nD τ) ↦{fullShare} f2)
          ∗ (arg3.view.loc (c : Thread nD τ) ↦{fullShare} f3)
          ∗ (arg4.view.loc (c : Thread nD τ) ↦{fullShare} f4)
          ∗ (arg5.view.loc (c : Thread nD τ) ↦{fullShare} f5)
          ∗ (arg6.view.loc (c : Thread nD τ) ↦{fullShare} g6)
          ∗ (arg7.view.loc (c : Thread nD τ) ↦{fullShare} g7)
          ∗ (arg8.view.loc (c : Thread nD τ) ↦{fullShare} g8)
          ∗ (arg9.view.loc (c : Thread nD τ) ↦{fullShare} g9)
          ∗ (arg10.view.loc (c : Thread nD τ) ↦{fullShare} g10)
          ∗ ⌜arg6.view.read (Elt F) g6 = block (half (start (i 0).val (arg10.view.read (Elt F) f10)) ((i 0).val + 1))
                (weights (i 0).val (k0_pay4 (arg3.view.read (Elt F) f3)) (arg7.view.read (Elt F) f7)) (weights (i 0).val (k0_pay5 (arg4.view.read (Elt F) f4)) (arg8.view.read (Elt F) f8))
                (weights (i 0).val (k0_pay6 (arg5.view.read (Elt F) f5)) (arg9.view.read (Elt F) f9))
              ∧ arg7.view.read (Elt F) g7 = weights (i 0).val (k0_pay4 (arg3.view.read (Elt F) f3)) (arg7.view.read (Elt F) f7)
              ∧ arg8.view.read (Elt F) g8 = weights (i 0).val (k0_pay5 (arg4.view.read (Elt F) f4)) (arg8.view.read (Elt F) f8)
              ∧ arg9.view.read (Elt F) g9 = weights (i 0).val (k0_pay6 (arg5.view.read (Elt F) f5)) (arg9.view.read (Elt F) f9)
              ∧ arg10.view.read (Elt F) g10 = gath (arg1.view.read (Elt F) f1) (arg2.view.read (Elt F) f2) ((i 0).val % 2) 512
                  (start (i 0).val (arg10.view.read (Elt F) f10))⌝)) := by
  by_cases h2 : ((i 0).val - 1) % 8 = 0
  · by_cases h1 : (i 0).val = 0
    · exact body_first c i arg1 harg1 arg2 harg2 arg3 harg3 arg4 harg4 arg5 harg5 arg6 harg6 arg7 harg7 arg8 harg8 arg9 harg9 arg10 harg10 f1 f2 f3 f4 f5 f6 f7 f8 f9 f10 hW h1
    · exact body_fresh c i arg1 harg1 arg2 harg2 arg3 harg3 arg4 harg4 arg5 harg5 arg6 harg6 arg7 harg7 arg8 harg8 arg9 harg9 arg10 harg10 f1 f2 f3 f4 f5 f6 f7 f8 f9 f10 hW h1 h2
  · exact body_kept c i arg1 harg1 arg2 harg2 arg3 harg3 arg4 harg4 arg5 harg5 arg6 harg6 arg7 harg7 arg8 harg8 arg9 harg9 arg10 harg10 f1 f2 f3 f4 f5 f6 f7 f8 f9 f10 hW h2

end Cert.Proof.Kernel2Ideal

end
-- ==== Proof.Ffn.Blocks.lean ====
/-
  The blocks that a grid point finds, from the arrays; what it computes from them; and what it keeps for the next point:
  an expert's weights and the tokens of the next item.
-/
module

public import proofs.«01_k».proof.Proof.Ffn.Body
public import proofs.«01_k».proof.Proof.Gen.Kernel2Ideal.Frame
public import Idealize.ShloMosaic.Lib.Pipeline.FrameBody
public import Idealize.ShloMosaic.Lib.Pipeline.ValueKit

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Pipeline

variable {F : FTy → Type} [FloatOps F]

/-- The chosen tokens of item `n`. -/
def idxBlock (I : Vec F S128x2x256 .i32) (n : ℕ) : Vec F S1x2x256 .i32 := fun y =>
  I (ValueIdx.ix3 (⟨min n 127, by omega⟩ : Fin 128) (y 1 : Fin 2) (y 2 : Fin 256))

/-- The packed tokens of item `n`'s two batch elements. -/
def hBlock (h : Vec F S16x2048x512 .i32) (n : ℕ) : Vec F S2x2048x512 .i32 := fun y =>
  h (ValueIdx.ix3 (⟨2 * (n % 8) + (y 0).val, by have h0 : (y 0).val < 2 := (y 0).isLt; omega⟩ : Fin 16)
    (y 1 : Fin 2048) (y 2 : Fin 512))

/-- The weights of expert `e`. -/
def wBlock (w : Vec F S16x1024x1024 .f32) (e : ℕ) : Vec F S1x1024x1024 .f32 := fun y =>
  w (ValueIdx.ix3 (⟨e % 16, by omega⟩ : Fin 16) (y 1 : Fin 1024) (y 2 : Fin 1024))

/-- The half of the buffer that grid point `t` reads. -/
def input (I : Vec F S128x2x256 .i32) (h : Vec F S16x2048x512 .i32) (t : ℕ) : Vec F S1x512x512 .i32 :=
  if t = 0 then half k0_pay3 1
  else fun y => tok (idxBlock I (t - 1)) (hBlock h (t - 1)) (y 1 : Fin 512) (y 2 : Fin 512)

/-- The result block of grid point `t`. -/
def yBlock (I : Vec F S128x2x256 .i32) (h : Vec F S16x2048x512 .i32) (wg wu wd : Vec F S16x1024x1024 .f32) (t : ℕ) :
    FVec F S1x512x1024 .f32 :=
  block (input I h t) (k0_pay4 (wBlock wg ((t - 1) / 8))) (k0_pay5 (wBlock wu ((t - 1) / 8)))
    (k0_pay6 (wBlock wd ((t - 1) / 8)))

/-- What the scratch buffers hold before grid point `t`. -/
def Good (I : Vec F S128x2x256 .i32) (h : Vec F S16x2048x512 .i32) (wg wu wd : Vec F S16x1024x1024 .f32) (t : ℕ)
    (x7 x8 x9 : Vec F S1024x1024 .bf16) (x10 : Vec F S2x512x512 .i32) : Prop :=
  ∀ p, p + 1 = t → x7 = k0_pay4 (wBlock wg ((p - 1) / 8)) ∧ x8 = k0_pay5 (wBlock wu ((p - 1) / 8))
    ∧ x9 = k0_pay6 (wBlock wd ((p - 1) / 8))
    ∧ ∀ y : S2x512x512.Idx, (y 0).val = p % 2 → x10 y = tok (idxBlock I p) (hBlock h p) (y 1 : Fin 512) (y 2 : Fin 512)

theorem kept_expert {t p : ℕ} (h : ¬(t - 1) % 8 = 0) (hp : p + 1 = t) : (p - 1) / 8 = (t - 1) / 8 := by omega

section
variable {I : Vec F S128x2x256 .i32} {h : Vec F S16x2048x512 .i32} {wg wu wd : Vec F S16x1024x1024 .f32} {t : ℕ}
  {x7 x8 x9 : Vec F S1024x1024 .bf16} {x10 : Vec F S2x512x512 .i32}

/-- Weights that are not cast anew are the expert's already. -/
theorem weights_keep {new old : Vec F S1024x1024 .bf16} (g : ¬(t - 1) % 8 = 0 → old = new) : weights t new old = new := by
  unfold weights
  by_cases ht : (t - 1) % 8 = 0
  · rw [if_pos ht]
  · rw [if_neg ht]; exact g ht

theorem Good.w7 (g : Good I h wg wu wd t x7 x8 x9 x10) :
    weights t (k0_pay4 (wBlock wg ((t - 1) / 8))) x7 = k0_pay4 (wBlock wg ((t - 1) / 8)) :=
  weights_keep fun ht => by
    have e := (g (t - 1) (by omega)).1
    rwa [kept_expert ht (by omega)] at e

theorem Good.w8 (g : Good I h wg wu wd t x7 x8 x9 x10) :
    weights t (k0_pay5 (wBlock wu ((t - 1) / 8))) x8 = k0_pay5 (wBlock wu ((t - 1) / 8)) :=
  weights_keep fun ht => by
    have e := (g (t - 1) (by omega)).2.1
    rwa [kept_expert ht (by omega)] at e

theorem Good.w9 (g : Good I h wg wu wd t x7 x8 x9 x10) :
    weights t (k0_pay6 (wBlock wd ((t - 1) / 8))) x9 = k0_pay6 (wBlock wd ((t - 1) / 8)) :=
  weights_keep fun ht => by
    have e := (g (t - 1) (by omega)).2.2.1
    rwa [kept_expert ht (by omega)] at e

/-- The half that is read holds the tokens of the point before. -/
theorem Good.x (g : Good I h wg wu wd t x7 x8 x9 x10) : half (start t x10) (t + 1) = input I h t := by
  unfold input start
  by_cases ht : t = 0
  · rw [if_pos ht, if_pos ht, ht]
  · rw [if_neg ht, if_neg ht]
    funext y
    have e := (g (t - 1) (by omega)).2.2.2
    exact e _ (show (t + 1) % 2 = (t - 1) % 2 by omega)

theorem Good.next (x : Vec F S2x512x512 .i32) : Good I h wg wu wd (t + 1) (k0_pay4 (wBlock wg ((t - 1) / 8)))
    (k0_pay5 (wBlock wu ((t - 1) / 8))) (k0_pay6 (wBlock wd ((t - 1) / 8)))
    (gath (idxBlock I t) (hBlock h t) (t % 2) 512 x) := by
  intro p hp
  obtain rfl : p = t := by omega
  exact ⟨rfl, rfl, rfl, fun y hy => gath_full _ _ _ y hy⟩

theorem Good.zero : Good I h wg wu wd 0 x7 x8 x9 x10 := fun p hp => absurd hp (by omega)

end

variable (m : (ℓ : Loc nD τ sig) → Buf (Elt F) ℓ)

theorem coord_eq : ∀ t : Fin cfg0.N, (grid0.coords t 0).val = t.val := by decide +kernel

theorem index0 : ∀ t : Fin cfg0.N, (cfg0.win 0).index t = ![min t.val 127, 0, 0] := by decide +kernel
theorem index1 : ∀ t : Fin cfg0.N, (cfg0.win 1).index t = ![t.val % 8, 0, 0] := by decide +kernel
theorem index2 : ∀ t : Fin cfg0.N, (cfg0.win 2).index t = ![(t.val - 1) / 8, 0, 0] := by decide +kernel
theorem index3 : ∀ t : Fin cfg0.N, (cfg0.win 3).index t = ![(t.val - 1) / 8, 0, 0] := by decide +kernel
theorem index4 : ∀ t : Fin cfg0.N, (cfg0.win 4).index t = ![(t.val - 1) / 8, 0, 0] := by decide +kernel
theorem index5 : ∀ t : Fin cfg0.N, (cfg0.win 5).index t = ![(t.val - 1) / 8, (t.val - 1) % 8, 0] := by decide +kernel

theorem t_lt (t : Fin cfg0.N) : t.val < 129 := lt_of_lt_of_le t.isLt (by decide +kernel)

theorem iblk0 (c : Dev nD) (t : Fin cfg0.N) : iblk m c 0 t = idxBlock (F := F) (Gen.V m c main_v1) t.val := by
  funext y
  show Gen.V m c main_v1 (((cfg0.win 0).blk t).view.emb y) = Gen.V m c main_v1 _
  congr 1
  funext a
  apply Fin.ext
  have h0 : (y 0).val < 1 := (y 0).isLt
  match a with
  | ⟨0, _⟩ => blk_simp [index0 t]
  | ⟨1, _⟩ => blk_simp [index0 t]; simp [ValueIdx.ix3]
  | ⟨2, _⟩ => blk_simp [index0 t]; simp [ValueIdx.ix3]

theorem iblk1 (c : Dev nD) (t : Fin cfg0.N) : iblk m c 1 t = hBlock (F := F) (Gen.V m c main_arg1) t.val := by
  funext y
  show Gen.V m c main_arg1 (((cfg0.win 1).blk t).view.emb y) = Gen.V m c main_arg1 _
  congr 1
  funext a
  apply Fin.ext
  match a with
  | ⟨0, _⟩ => blk_simp [index1 t]; simp [ValueIdx.ix3]; try omega
  | ⟨1, _⟩ => blk_simp [index1 t]; simp [ValueIdx.ix3]
  | ⟨2, _⟩ => blk_simp [index1 t]; simp [ValueIdx.ix3]

theorem iblk2 (c : Dev nD) (t : Fin cfg0.N) : iblk m c 2 t = wBlock (F := F) (Gen.V m c main_arg2) ((t.val - 1) / 8) := by
  funext y
  show Gen.V m c main_arg2 (((cfg0.win 2).blk t).view.emb y) = Gen.V m c main_arg2 _
  congr 1
  funext a
  apply Fin.ext
  have ht := t_lt t
  match a with
  | ⟨0, _⟩ => blk_simp [index2 t]; simp [ValueIdx.ix3]; try omega
  | ⟨1, _⟩ => blk_simp [index2 t]; simp [ValueIdx.ix3]
  | ⟨2, _⟩ => blk_simp [index2 t]; simp [ValueIdx.ix3]

theorem iblk3 (c : Dev nD) (t : Fin cfg0.N) : iblk m c 3 t = wBlock (F := F) (Gen.V m c main_arg3) ((t.val - 1) / 8) := by
  funext y
  show Gen.V m c main_arg3 (((cfg0.win 3).blk t).view.emb y) = Gen.V m c main_arg3 _
  congr 1
  funext a
  apply Fin.ext
  have ht := t_lt t
  match a with
  | ⟨0, _⟩ => blk_simp [index3 t]; simp [ValueIdx.ix3]; try omega
  | ⟨1, _⟩ => blk_simp [index3 t]; simp [ValueIdx.ix3]
  | ⟨2, _⟩ => blk_simp [index3 t]; simp [ValueIdx.ix3]

theorem iblk4 (c : Dev nD) (t : Fin cfg0.N) : iblk m c 4 t = wBlock (F := F) (Gen.V m c main_arg4) ((t.val - 1) / 8) := by
  funext y
  show Gen.V m c main_arg4 (((cfg0.win 4).blk t).view.emb y) = Gen.V m c main_arg4 _
  congr 1
  funext a
  apply Fin.ext
  have ht := t_lt t
  match a with
  | ⟨0, _⟩ => blk_simp [index4 t]; simp [ValueIdx.ix3]; try omega
  | ⟨1, _⟩ => blk_simp [index4 t]; simp [ValueIdx.ix3]
  | ⟨2, _⟩ => blk_simp [index4 t]; simp [ValueIdx.ix3]

end Cert.Proof.Kernel2Ideal

end
-- ==== Proof.Ffn.Launch.lean ====
/-
  The launch of the feed-forward kernel: what its scratch buffers hold from one grid point to the next, the body's
  result block at every grid point, and hence that every run ends with the arrays as the pipeline computes them from
  those blocks, the arguments untouched and every counter at zero.
-/
module

public import proofs.«01_k».proof.Proof.Ffn.Blocks
public import Idealize.ShloMosaic.Lib.Claim

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

section
variable (I : Vec F S128x2x256 .i32) (h : Vec F S16x2048x512 .i32) (wg wu wd : Vec F S16x1024x1024 .f32)

/-- The scratch buffers before grid point `t`: an expert's weights and the tokens of the next item. -/
def Held (c : Dev nD) (t : ℕ) : sProp 𝕄 :=
  iprop(∃ f7 : (Memref.whole cc0_scratch0).view.ty.Contents (Elt F), ∃ f8 : (Memref.whole cc0_scratch1).view.ty.Contents (Elt F), ∃ f9 : (Memref.whole cc0_scratch2).view.ty.Contents (Elt F), ∃ f10 : (Memref.whole cc0_scratch3).view.ty.Contents (Elt F),
    ((Memref.whole cc0_scratch0).view.loc (c : Thread nD τ) ↦{fullShare} f7)
    ∗ ((Memref.whole cc0_scratch1).view.loc (c : Thread nD τ) ↦{fullShare} f8)
    ∗ ((Memref.whole cc0_scratch2).view.loc (c : Thread nD τ) ↦{fullShare} f9)
    ∗ ((Memref.whole cc0_scratch3).view.loc (c : Thread nD τ) ↦{fullShare} f10)
    ∗ ⌜Good I h wg wu wd t
        ((Memref.whole cc0_scratch0).view.read (Elt F) f7)
        ((Memref.whole cc0_scratch1).view.read (Elt F) f8)
        ((Memref.whole cc0_scratch2).view.read (Elt F) f9)
        ((Memref.whole cc0_scratch3).view.read (Elt F) f10)⌝)

/-- Before the first grid point they hold anything. -/
theorem held_zero (c : Dev nD) : (Pipeline.scopedRest spec0 c : sProp 𝕄) ⊢ Held I h wg wu wd c 0 := by
  rw [scopedRest0_eq]
  unfold Held
  iintro ⟨⟨%f7, H7⟩, ⟨%f8, H8⟩, ⟨%f9, H9⟩, ⟨%f10, H10⟩⟩
  iexists f7, f8, f9, f10
  isplitl [H7]; · iexact H7
  isplitl [H8]; · iexact H8
  isplitl [H9]; · iexact H9
  isplitl [H10]; · iexact H10
  ipureintro; exact Good.zero

/-- What they hold can be forgotten. -/
theorem held_drop (c : Dev nD) (t : ℕ) : Held I h wg wu wd c t ⊢ (Pipeline.scopedRest spec0 c : sProp 𝕄) := by
  rw [scopedRest0_eq]
  unfold Held
  iintro ⟨%f7, %f8, %f9, %f10, H7, H8, H9, H10, %hg⟩
  isplitl [H7]; · iexists f7; iexact H7
  isplitl [H8]; · iexists f8; iexact H8
  isplitl [H9]; · iexists f9; iexact H9
  iexists f10; iexact H10

/-- The body on memrefs held whole: the operands stay, the result is `yBlock` whatever it held, and the scratch buffers
    hold what the next grid point needs. -/
theorem body_owns (c : Dev nD) (i : grid0.Coords) (t : ℕ) (hi : (i 0).val = t) (arg1 : Memref sig .tc .smem S1x2x256 .i32) (harg1 : arg1.IsWhole) (arg2 : Memref sig .tc .vmem S2x2048x512 .i32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x512x1024 .f32) (harg6 : arg6.IsWhole)
    (hW : ∀ r, (chosenAt (idxBlock I t) r).toNat < 2048) (o : Vec F S1x512x1024 .f32) :
    (iprop(owns (c : Thread nD τ) arg1 fullShare (idxBlock I t) ∗ owns (c : Thread nD τ) arg2 fullShare (hBlock h t)
      ∗ owns (c : Thread nD τ) arg3 fullShare (wBlock wg ((t - 1) / 8))
      ∗ owns (c : Thread nD τ) arg4 fullShare (wBlock wu ((t - 1) / 8))
      ∗ owns (c : Thread nD τ) arg5 fullShare (wBlock wd ((t - 1) / 8))
      ∗ owns (c : Thread nD τ) arg6 fullShare o ∗ Held I h wg wu wd c t) : sProp 𝕄)
    ⊢ wp frame (wpE defs₀ 𝒱₀ (c : Thread nD τ) none) Set.univ
        (cc0_ffn (F := F) i arg1 harg1 arg2 harg2 arg3 harg3 arg4 harg4 arg5 harg5 arg6 harg6
          (Memref.whole cc0_scratch0) (Memref.isWhole_whole _) (Memref.whole cc0_scratch1) (Memref.isWhole_whole _) (Memref.whole cc0_scratch2) (Memref.isWhole_whole _) (Memref.whole cc0_scratch3) (Memref.isWhole_whole _))
        (fun _ => iprop(owns (c : Thread nD τ) arg1 fullShare (idxBlock I t) ∗ owns (c : Thread nD τ) arg2 fullShare (hBlock h t)
          ∗ owns (c : Thread nD τ) arg3 fullShare (wBlock wg ((t - 1) / 8))
          ∗ owns (c : Thread nD τ) arg4 fullShare (wBlock wu ((t - 1) / 8))
          ∗ owns (c : Thread nD τ) arg5 fullShare (wBlock wd ((t - 1) / 8))
          ∗ owns (c : Thread nD τ) arg6 fullShare (yBlock I h wg wu wd t) ∗ Held I h wg wu wd c (t + 1))) := by
  rw [Gen.cc0_ffn_eq_skeleton]
  subst hi
  unfold owns Held
  rw [harg1.set_eq_univ, harg2.set_eq_univ, harg3.set_eq_univ, harg4.set_eq_univ, harg5.set_eq_univ, harg6.set_eq_univ]
  iintro ⟨⟨%f1, %h1, H1⟩, ⟨%f2, %h2, H2⟩, ⟨%f3, %h3, H3⟩, ⟨%f4, %h4, H4⟩, ⟨%f5, %h5, H5⟩, ⟨%f6, %h6, H6⟩, %f7, %f8, %f9, %f10, H7, H8, H9, H10, %hg⟩
  iapply (wp_wand_r frame _ Set.univ)
  isplitl [H1 H2 H3 H4 H5 H6 H7 H8 H9 H10]
  · iapply (body_run c i arg1 harg1 arg2 harg2 arg3 harg3 arg4 harg4 arg5 harg5 arg6 harg6
      (Memref.whole cc0_scratch0) (Memref.isWhole_whole _) (Memref.whole cc0_scratch1) (Memref.isWhole_whole _) (Memref.whole cc0_scratch2) (Memref.isWhole_whole _) (Memref.whole cc0_scratch3) (Memref.isWhole_whole _)
      f1 f2 f3 f4 f5 f6 f7 f8 f9 f10 (fun r => by rw [h1]; exact hW r))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %a ⟨%g6, %g7, %g8, %g9, %g10, H1, H2, H3, H4, H5, H6, H7, H8, H9, H10, %hs⟩
    obtain ⟨e6, e7, e8, e9, e10⟩ := hs
    rw [h3, h4, h5, hg.w7, hg.w8, hg.w9, hg.x] at e6
    rw [h3, hg.w7] at e7
    rw [h4, hg.w8] at e8
    rw [h5, hg.w9] at e9
    rw [h1, h2] at e10
    isplitl [H1]; · iexists f1; isplitr; · ipureintro; exact h1
                    iexact H1
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists g6; isplitr; · ipureintro; exact e6
                    iexact H6
    iexists g7, g8, g9, g10
    isplitl [H7]; · iexact H7
    isplitl [H8]; · iexact H8
    isplitl [H9]; · iexact H9
    isplitl [H10]; · iexact H10
    ipureintro
    rw [e7, e8, e9, e10]
    exact Good.next _

end

variable (m : (ℓ : Loc nD τ sig) → Buf (Elt F) ℓ) (ρ : Dev nD → PrngReg)

/-- The scratch buffers of core `c` before grid point `t`, with the arrays as the region finds them. -/
abbrev HeldV (c : Dev nD) (t : ℕ) : sProp 𝕄 :=
  Held (F := F) (Gen.V m c main_v1) (Gen.V m c main_arg1) (Gen.V m c main_arg2) (Gen.V m c main_arg3) (Gen.V m c main_arg4) c t

/-- The result block of grid point `t`, with the arrays as the region finds them. -/
abbrev yBlockV (c : Dev nD) (t : ℕ) : FVec F S1x512x1024 .f32 :=
  yBlock (F := F) (Gen.V m c main_v1) (Gen.V m c main_arg1) (Gen.V m c main_arg2) (Gen.V m c main_arg3) (Gen.V m c main_arg4) t

/-- Every chosen token is one of the sequence's. -/
def Chosen : Prop := ∀ (c : Dev nD) (t : ℕ) (r : Fin 512),
  (chosenAt (idxBlock (F := F) (Gen.V m c main_v1) t) r).toNat < 2048

/-- The proof data: the arrays as the region finds them, the operand blocks left in place, the result block computed from
    the arrays, and the scratch buffers followed from point to point. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yBlockV m c t.val
  Φ t := iprop(HeldV m c t.val ∗ ∃ r, prngReg c r)
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yBlockV m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body does at every grid point what the proof data say. -/
theorem body_obligation (hC : Chosen m) (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = iprop(HeldV m c (t.val + 1) ∗ ∃ r, prngReg c r) from rfl,
    show (dats m 0 c).owesAt () t.succ = (dats m 0 c).owesAt () t.castSucc from rfl, after0_0, after0_1, after0_2, after0_3,
    after0_4, after0_5,
    show (dats m 0 c).Φ t.castSucc = iprop(HeldV m c t.val ∗ ∃ r, prngReg c r) from rfl, iblk0, iblk1, iblk2, iblk3, iblk4]
  iintro ⟨⟨Hs, Hr⟩, Ho, ⟨%d0, H0⟩, ⟨%d1, H1⟩, ⟨%d2, H2⟩, ⟨%d3, H3⟩, ⟨%d4, H4⟩, ⟨%d5, H5⟩⟩
  iapply (wp_wand_r frame _ Set.univ)
  isplitl [H0 H1 H2 H3 H4 H5 Hs]
  · iapply (body_owns (F := F) (Gen.V m c main_v1) (Gen.V m c main_arg1) (Gen.V m c main_arg2) (Gen.V m c main_arg3)
      (Gen.V m c main_arg4) c _ t.val (coord_eq t) _ _ _ _ _ _ _ _ _ _ _ _ (hC c t.val) ((dats m 0 c).before 5 t d5))
    isplitl [H0]; · iexact H0
    isplitl [H1]; · iexact H1
    isplitl [H2]; · iexact H2
    isplitl [H3]; · iexact H3
    isplitl [H4]; · iexact H4
    isplitl [H5]; · iexact H5
    iexact Hs
  · iintro %a ⟨H0, H1, H2, H3, H4, H5, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    iexact H5

theorem phi_in (c : Dev nD) : (ΦA spec0 c : sProp 𝕄) ⊢ (dats (F := F) m 0 c).Φ 0 := by
  rw [show (dats m 0 c).Φ 0 = iprop(HeldV m c 0 ∗ ∃ r, prngReg c r) from rfl]
  unfold ΦA
  iintro ⟨Hs, Hr⟩
  isplitl [Hs]
  · iapply (held_zero (F := F) _ _ _ _ _ c); iexact Hs
  · iexact Hr

theorem phi_out (c : Dev nD) : (dats (F := F) m 0 c).Φ (Fin.last cfg0.N) ⊢ (ΦA spec0 c : sProp 𝕄) := by
  rw [show (dats m 0 c).Φ (Fin.last cfg0.N) = iprop(HeldV m c cfg0.N ∗ ∃ r, prngReg c r) from rfl]
  unfold ΦA
  iintro ⟨Hs, Hr⟩
  isplitl [Hs]
  · iapply (held_drop (F := F) _ _ _ _ _ c); iexact Hs
  · iexact Hr

set_option backward.isDefEq.respectTransparency.types false in
/-- Every run of the kernel from counters at zero ends, with the arrays as the pipeline computes them from the proof data
    and the counters at zero. -/
theorem run_main (hC : Chosen m) : θ_run defs (onTc (τ := τ) (main (F := F))) (s₀ m ρ)
    (fun r => Pipeline.FramePost cfgs (dats m) 0 (Gen.V m) r ∧ r.2.sem = fun _ => 0) :=
  Pipeline.θ_run_frame_track (Q' := _) cfgs (dats m) (0 : Fin 1) launch0 defs₀ 𝒱₀ m ρ main
    (hbody := fun c => (body_obligation m hC c).loose) (hshare := fun c => (dats m 0 c).share_full fun _ => rfl)
    (howed := fun _ _ => rfl) (V := Gen.V m) (hmain := hmain m 𝒱₀) (hA := fun _ _ => rfl) (hin := phi_in m)
    (hout := phi_out m)

/-- Every run ends with the arguments as they were and the counters at zero. -/
theorem frame (m : (ℓ : Loc nD τ sig) → Buf (Elt F) ℓ) (ρ : Dev nD → PrngReg) (hC : Chosen m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ hC)

end Cert.Proof.Kernel2Ideal

end
-- ==== Proof.Frame.Same2.lean ====
/-
  The feed-forward kernel and its ideal form are one program at two interpretations of the floats: no operation was
  rewritten. So what is proved of the ideal form for any interpretation of the floats holds of the kernel.
-/
module

public import proofs.«01_k».proof.Proof.Ffn.Launch
public import proofs.«01_k».proof.Proof.Gen.Kernel2

@[expose] public section

set_option maxRecDepth 16384

noncomputable section

namespace Cert.Proof.Kernel2

open Cert.Kernel2
open Idealize.ShloMosaic Idealize.ShloMosaic.TcCoe
open Idealize.SL.Sem

variable {F : FTy → Type} [FloatOps F]

/-- The kernels' body tables agree: one label, whose body is the same text. -/
theorem bodies_same : @Cert.Kernel2.defs₀ F _ _ = @Cert.Kernel2Ideal.defs₀ F _ _ := by
  funext p l a
  match p, l, a with
  | .tc, ⟨0, _⟩, (t, s) => with_unfolding_all rfl
  | .scScalar _, l, a => with_unfolding_all rfl
  | .scVector _ _, l, a => with_unfolding_all rfl

/-- So do the tables with the pipeline's own labels, -/
theorem defs_same : @Cert.Kernel2.defs F _ _ = @Cert.Kernel2Ideal.defs F _ _ :=
  congrArg (Pipeline.defs Cert.Kernel2Ideal.pcfgs) bodies_same

/-- and the main programs. -/
theorem main_same : @Cert.Kernel2.main F _ = @Cert.Kernel2Ideal.main F _ := by with_unfolding_all rfl

/-- Every run of the kernel ends with the arguments as they were and the counters at zero. -/
theorem frame (m : (ℓ : Loc nD τ sig) → Buf (Elt F) ℓ) (ρ : Dev nD → PrngReg)
    (hC : Cert.Proof.Kernel2Ideal.Chosen (F := F) m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same, main_same]
  exact Cert.Proof.Kernel2Ideal.frame (F := F) m ρ hC

end Cert.Proof.Kernel2

end
-- ==== Proof.Ffn.Array.lean ====
/-
  The feed-forward kernel's result array: the grid's point `8 * e + n + 1` writes rows `512 * n` to `512 * n + 511` of
  expert `e`'s, and all of them together the whole.
-/
module

public import proofs.«01_k».proof.Proof.Ffn.Launch

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Pipeline

variable {F : FTy → Type} [FloatOps F]

/-- The result array from the five operands. -/
def ffnOut (I : Vec F S128x2x256 .i32) (h : Vec F S16x2048x512 .i32) (wg wu wd : Vec F S16x1024x1024 .f32) :
    Vec F S16x4096x1024 .f32 := fun y =>
  yBlock I h wg wu wd (8 * (y 0).val + (y 1).val / 512 + 1)
    (ValueIdx.ix3 (0 : Fin 1) (⟨(y 1).val % 512, Nat.mod_lt _ (by decide)⟩ : Fin 512) (y 2 : Fin 1024))

variable (m : (ℓ : Loc nD τ sig) → Buf (Elt F) ℓ) (ρ : Dev nD → PrngReg)

/-- The first grid point's block is written by the second. -/
theorem flush_pos : ∀ t : Fin cfg0.N, (cfg0.win 5).flush t = true → 0 < t.val := by decide +kernel

/-- The result array with the arrays as the region finds them. -/
abbrev ffnOutV (c : Dev nD) : Vec F S16x4096x1024 .f32 :=
  ffnOut (F := F) (Gen.V m c main_v1) (Gen.V m c main_arg1) (Gen.V m c main_arg2) (Gen.V m c main_arg3) (Gen.V m c main_arg4)

/-- Where a grid point's result block lies in the array. -/
theorem emb_out (t : Fin cfg0.N) (y : S1x512x1024.Idx) :
    (((cfg0.win 5).blk t).view.emb y : S16x4096x1024.Idx)
      = ValueIdx.ix3 (⟨(t.val - 1) / 8, by have := t_lt t; omega⟩ : Fin 16)
          (⟨512 * ((t.val - 1) % 8) + (y 1).val, by have h : (y 1).val < 512 := (y 1).isLt; omega⟩ : Fin 4096) (y 2 : Fin 1024) := by
  funext a
  apply Fin.ext
  have h0 : (y 0).val < 1 := (y 0).isLt
  match a with
  | ⟨0, _⟩ => blk_simp [index5 t]
  | ⟨1, _⟩ => blk_simp [index5 t]; simp [ValueIdx.ix3]; try omega
  | ⟨2, _⟩ => blk_simp [index5 t]; simp [ValueIdx.ix3]

/-- The array after all points. -/
theorem arr_eq (c : Dev nD) : (dats m 0 c).arrAt 5 (cfgs 0).N = ffnOutV m c := by
  refine (dats m 0 c).arrAt_eq_of_covers 5 _ (by decide +kernel) fun t hf y => ?_
  have ht : 0 < t.val := flush_pos t hf
  blk_simp
  rw [after0_5]
  refine Eq.trans ?_ (congrArg (ffnOutV m c) (emb_out t y).symm)
  have h1 : (y 1).val < 512 := (y 1).isLt
  show yBlockV m c t.val y = yBlockV m c (8 * ((t.val - 1) / 8) + (512 * ((t.val - 1) % 8) + (y 1).val) / 512 + 1)
    (ValueIdx.ix3 (0 : Fin 1) (⟨(512 * ((t.val - 1) % 8) + (y 1).val) % 512, Nat.mod_lt _ (by decide)⟩ : Fin 512) (y 2 : Fin 1024))
  rw [show 8 * ((t.val - 1) / 8) + (512 * ((t.val - 1) % 8) + (y 1).val) / 512 + 1 = t.val by omega]
  refine congrArg (yBlockV m c t.val) ?_
  funext a
  match a with
  | ⟨0, _⟩ => exact Subsingleton.elim (α := Fin 1) _ _
  | ⟨1, _⟩ => exact Fin.ext (show (y 1).val = (512 * ((t.val - 1) % 8) + (y 1).val) % 512 by omega)
  | ⟨2, _⟩ => rfl

/-- Every run of the kernel ends with the result array computed from the operands, the arguments as they were. -/
theorem run_value (hC : Chosen m) : θ_run defs (onTc (τ := τ) (main (F := F))) (s₀ m ρ) (fun r => ∀ c : Dev nD,
    r.2.mem ((c.tc : Thread nD τ).loc main_v2) = ffnOutV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h1 := run_main (F := F) m ρ hC
  have h2 := frame (F := F) m ρ hC
  refine (θ_run defs _ _).mono (fun r h => fun c => ⟨((h.1.1 c).1 5).trans (arr_eq m c), h.2.1 c⟩) ((θ_run_and h1 h2))

end Cert.Proof.Kernel2Ideal

end
-- ==== Proof.Ffn.Chosen.lean ====
/-
  What the feed-forward's precondition says, every chosen token is one of the sequence's, and what the launch finds of it.
-/
module

public import proofs.«01_k».proof.Pre_chosen
public import proofs.«01_k».proof.Proof.Gen.Pre_chosen
public import proofs.«01_k».proof.Proof.Ffn.Launch
public import Idealize.ShloMosaic.Lib.ReduceAll
public import Idealize.ShloMosaic.Lib.Pipeline.Value

@[expose] public section

set_option maxRecDepth 16384

noncomputable section

namespace Cert.Proof.Kernel2Ideal

open Cert.Kernel2Ideal Cert.Kernel2Ideal.Gen
open Idealize.ShloMosaic Idealize.ShloMosaic.TcCoe

variable {F : FTy → Type} [FloatOps F]

/-- A scalar has one index. -/
instance : Subsingleton Cert.Pre_chosen.S_.Idx := ⟨fun _ _ => funext fun a => a.elim0⟩

/-- A word between 0 and 2047 as a signed number is so as a natural number. -/
theorem word_lt (w : BitVec 32) (h0 : IntOp.cmpi .sge w 0#32 = 1#1) (h1 : IntOp.cmpi .slt w 2048#32 = 1#1) :
    w.toNat < 2048 := by
  rw [IntOp.cmpi_sge] at h0
  rw [IntOp.cmpi_slt] at h1
  have e1 : (2048#32).toInt = 2048 := by decide
  have e0 : (0#32).toInt = 0 := by decide
  have e := BitVec.toInt_eq_toNat_cond w
  rw [e0] at h0
  rw [e1] at h1
  split at e <;> omega

/-- The precondition, read. -/
theorem chosen_lt (i : IVec S16x16x256 32) (h : IVec S16x2048x512 32) (wg wu wd : FVec F S16x1024x1024 .f32)
    (hp : Cert.Pre_chosen.fn (F := F) i h wg wu wd = fun _ => 1#1) (y : S16x16x256.Idx) : (i y).toNat < 2048 := by
  have h0 := congrFun hp (fun a => a.elim0)
  obtain ⟨h1, h2⟩ := IntOp.andi_eq_one.1 h0
  exact word_lt _ (Host.reduce_andi_all _ _ _ _ _ h1 y) (Host.reduce_andi_all _ _ _ _ _ h2 y)

/-- The chosen tokens as the kernel takes them: expert by expert, two batch elements together. -/
def items (i : IVec S16x16x256 32) : IVec S128x2x256 32 :=
  shapeCast S128x2x256 (transpose S16x16x256 [1, 0, 2] i transposes_S16x16x256_S16x16x256_1_0_2)
    shapeCasts_S16x16x256_S128x2x256

theorem items_apply (i : IVec S16x16x256 32) (n : Fin 128) (j : Fin 2) (k : Fin 256) :
    items i (ValueIdx.ix3 n j k)
      = i (ValueIdx.ix3 (⟨2 * (n.val % 8) + j.val, by omega⟩ : Fin 16) (⟨n.val / 8, by omega⟩ : Fin 16) k) := by
  unfold items
  refine (shapeCast_apply _ _ _ (ValueIdx.ix3 (⟨n.val / 8, by omega⟩ : Fin 16)
    (⟨2 * (n.val % 8) + j.val, by omega⟩ : Fin 16) k) ?_).trans ?_
  · rw [Shape.rowMajor_val_three, Shape.rowMajor_val_three]
    show (n.val / 8 * 16 + (2 * (n.val % 8) + j.val)) * 256 + k.val = (n.val * 2 + j.val) * 256 + k.val
    omega
  · exact transpose_apply [1, 0, 2] i _ _ _ fun b => match b with
      | ⟨0, _⟩ => rfl
      | ⟨1, _⟩ => rfl
      | ⟨2, _⟩ => rfl

variable (m : (ℓ : Loc nD τ sig) → Buf (Elt F) ℓ)

/-- The kernel's first operand when it is launched. -/
theorem V_items (c : Dev nD) : Gen.V m c main_v1 = items (m ((c : Thread nD τ).loc main_arg0)) := by
  unfold Gen.V
  after_results <;> rfl

/-- Under the precondition every chosen token is one of the sequence's. -/
theorem chosen_of (h : ∀ c : Dev nD, Cert.Pre_chosen.fn (F := F) (m ((c : Thread nD τ).loc main_arg0))
    (m ((c : Thread nD τ).loc main_arg1)) (m ((c : Thread nD τ).loc main_arg2)) (m ((c : Thread nD τ).loc main_arg3))
    (m ((c : Thread nD τ).loc main_arg4)) = fun _ => 1#1) : Chosen m := by
  intro c t r
  rw [V_items]
  unfold chosenAt idxBlock
  rw [items_apply]
  exact chosen_lt _ _ _ _ _ (h c) _

end Cert.Proof.Kernel2Ideal

end
-- ==== Proof.Ffn.Value.lean ====
/-
  The result block of the feed-forward over the extended reals: of each row the gate and the up product over all 1024
  channels, their gated product, and the product with the down weights.
-/
module

public import proofs.«01_k».proof.Proof.Ffn.Blocks
public import Idealize.ShloMosaic.Lib.Pointwise
public import Idealize.ShloMosaic.Lib.IdealHost
public import Idealize.ShloMosaic.PureOps.Ideal.Laws

@[expose] public section

set_option maxRecDepth 16384

noncomputable section

namespace Cert.Proof

open Idealize.ShloMosaic

/-- Channel `d` of a packed token: the low halves of its 512 words are the first 512 channels, the high halves the
    others. -/
def channel (x : Fin 512 → BitVec 32) (d : Fin 1024) : EReal :=
  if h : d.val < 512 then Ideal.ofBits .f32 (x ⟨d.val, h⟩ <<< 16)
  else Ideal.ofBits .f32 (x ⟨d.val - 512, by omega⟩ &&& 4294901760#32)

/-- A number times its logistic. -/
def silu (a : EReal) : EReal := Ideal.div a (1 + Ideal.exp (0 - a))

/-- One element of the feed-forward of a token: gate `wg`, up `wu`, and the down weights' column `wd`. -/
def ffnAt (x : Fin 512 → BitVec 32) (wg wu : Fin 1024 → Fin 1024 → EReal) (wd : Fin 1024 → EReal) : EReal :=
  ∑ f : Fin 1024, silu (∑ d : Fin 1024, channel x d * wg d f) * (∑ d : Fin 1024, channel x d * wu d f) * wd f

/-- A sum over 1024 channels is the sum over the first 512 and over the others. -/
theorem sum_halves (g : Fin 1024 → EReal) :
    (∑ d : Fin 512, g ⟨d.val, by omega⟩) + (∑ d : Fin 512, g ⟨512 + d.val, by omega⟩) = ∑ d : Fin 1024, g d :=
  (Fin.sum_univ_add (a := 512) (b := 512) g).symm

/-- The product over the low and the high halves is the product over all channels. -/
theorem channels_sum (x : Fin 512 → BitVec 32) (w : Fin 1024 → EReal) :
    (∑ d : Fin 512, Ideal.ofBits .f32 (x d <<< 16) * w ⟨d.val, by omega⟩)
      + (∑ d : Fin 512, Ideal.ofBits .f32 (x d &&& 4294901760#32) * w ⟨512 + d.val, by omega⟩)
      = ∑ d : Fin 1024, channel x d * w d := by
  rw [← sum_halves fun d => channel x d * w d]
  refine congrArg₂ (· + ·) (Finset.sum_congr rfl fun d _ => ?_) (Finset.sum_congr rfl fun d _ => ?_)
  · rw [channel, dif_pos d.isLt]
  · rw [channel, dif_neg (by simp)]
    simp

end Cert.Proof

namespace Cert.Proof.Kernel2Ideal

open Cert.Kernel2Ideal Cert.Kernel2Ideal.Gen
open Idealize.ShloMosaic

/-- The gate or the up product of one element. -/
theorem half_product (x : Vec Ideal S1x512x512 .i32) (w : Vec Ideal S1024x1024 .bf16) (r : Fin 512) (f : Fin 1024) :
    (∑ d : Fin 512, Ideal.ofBits .f32 (x (ValueIdx.ix3 (0 : Fin 1) r d) <<< 16) * lo w (ValueIdx.ix2 d f))
      + (∑ d : Fin 512, Ideal.ofBits .f32 (x (ValueIdx.ix3 (0 : Fin 1) r d) &&& 4294901760#32) * hi w (ValueIdx.ix2 d f))
      = ∑ d : Fin 1024, channel (fun d => x (ValueIdx.ix3 (0 : Fin 1) r d)) d * w (ValueIdx.ix2 d f) :=
  channels_sum (fun d => x (ValueIdx.ix3 (0 : Fin 1) r d)) fun d => w (ValueIdx.ix2 d f)

/-- The result block, element by element. -/
theorem block_apply (x : Vec Ideal S1x512x512 .i32) (w7 w8 w9 : Vec Ideal S1024x1024 .bf16) (r : Fin 512) (j : Fin 1024) :
    block (F := Ideal) x w7 w8 w9 (ValueIdx.ix3 (0 : Fin 1) r j)
      = ffnAt (fun d => x (ValueIdx.ix3 (0 : Fin 1) r d)) (fun d f => w7 (ValueIdx.ix2 d f)) (fun d f => w8 (ValueIdx.ix2 d f))
          fun f => w9 (ValueIdx.ix2 f j) := by
  unfold ffnAt silu block
  simp only [← half_product]
  rw [← ix3_eq_valueIdx]
  pointwise [k0_pay9, k0_pay8, k0_pay7]
  simp only [ix3_eq_valueIdx, ix2_eq_valueIdx]
  rfl

/-- The weights as they are cast. -/
theorem pay4_apply (w : Vec Ideal S1x1024x1024 .f32) (d f : Fin 1024) :
    k0_pay4 (F := Ideal) w (ValueIdx.ix2 d f) = w (ValueIdx.ix3 (0 : Fin 1) d f) := by
  rw [← ix2_eq_valueIdx, ← ix3_eq_valueIdx]
  pointwise [k0_pay4]
theorem pay5_apply (w : Vec Ideal S1x1024x1024 .f32) (d f : Fin 1024) :
    k0_pay5 (F := Ideal) w (ValueIdx.ix2 d f) = w (ValueIdx.ix3 (0 : Fin 1) d f) := by
  rw [← ix2_eq_valueIdx, ← ix3_eq_valueIdx]
  pointwise [k0_pay5]
theorem pay6_apply (w : Vec Ideal S1x1024x1024 .f32) (d f : Fin 1024) :
    k0_pay6 (F := Ideal) w (ValueIdx.ix2 d f) = w (ValueIdx.ix3 (0 : Fin 1) d f) := by
  rw [← ix2_eq_valueIdx, ← ix3_eq_valueIdx]
  pointwise [k0_pay6]

end Cert.Proof.Kernel2Ideal

end
-- ==== Proof.Ffn.Reference.lean ====
/-
  What the reference's feed-forward computes, element by element over the extended reals: the channels of the chosen
  token, its gate and up products, their gated product, and the product with the down weights.
-/
module

public import proofs.«01_k».proof.Proof.Gen.Reference2Ideal.Read
public import proofs.«01_k».proof.Proof.Ffn.Value

@[expose] public section

noncomputable section

namespace Cert.Proof.Reference2Ideal

open Cert.Reference2Ideal Cert.Reference2Ideal.Gen Cert.Reference2Ideal.Read
open Idealize.ShloMosaic

variable (i : IVec S16x16x256 32) (h : IVec S16x2048x512 32) (wg wu wd : FVec Ideal S16x1024x1024 .f32)

/-- The unpacked channels. -/
theorem channels_apply (b : Fin 16) (s : Fin 2048) (d : Fin 1024) :
    val_main_v6 (F := Ideal) h (ix3 b s d) = channel (fun d => h (ix3 b s d)) d := by
  unfold channel
  pointwise [val_main_v6, val_main_v5, val_main_v4, val_main_v3, val_main_v2, val_main_v1, val_main_v0, val_main_c, val_main_c_0]
  rfl

/-- The first index of a gathered element: its batch element. -/
theorem batch_index (b e : Fin 16) (c : Fin 256) :
    val_main_v22 (F := Ideal) i (ix4 b e c 0) = BitVec.ofNat 32 b.val := by
  pointwise [val_main_v22, val_main_v20, val_main_v19, val_main_v13, val_main_v12, val_main_v11, val_main_v10, val_main_v9,
    val_main_v8, val_main_v7, val_main_c_1, val_main_c_2]
  revert b
  decide

/-- A word below 2048 is not negative. -/
theorem cmpi_slt_zero (w : BitVec 32) (hw : w.toNat < 2048) : IntOp.cmpi .slt w 0#32 = 0#1 := by
  have h : w.slt 0#32 = false := by
    rw [BitVec.slt, decide_eq_false_iff_not, BitVec.toInt_eq_toNat_of_lt (by omega)]
    simp
  show BitVec.ofBool (w.slt 0#32) = 0#1
  rw [h]
  rfl

/-- The second: its token. -/
theorem token_index (b e : Fin 16) (c : Fin 256) (hi : (i (ix3 b e c)).toNat < 2048) :
    val_main_v22 (F := Ideal) i (ix4 b e c 1) = i (ix3 b e c) := by
  pointwise [val_main_v22, val_main_v21, val_main_v18, val_main_v17, val_main_v16, val_main_v15, val_main_v14, val_main_c_3,
    val_main_c_4]
  rw [cmpi_slt_zero _ hi]
  rfl

/-- Where the index word of an operand axis lies: the two words of a gathered token are its last axis. -/
theorem word_place (b e : Fin 16) (c : Fin 256) (d : Fin 1024) (k : Fin 2) :
    GatherDims.siIdx gather_S16x2048x1024_S16x16x256x2_S16x16x256x1024_3_01_n_n_01_3_111024 (ix4 b e c d) k
      = ix4 b e c k := by
  funext a
  match a with
  | ⟨0, _⟩ => rfl
  | ⟨1, _⟩ => rfl
  | ⟨2, _⟩ => rfl
  | ⟨3, _⟩ => rfl

/-- The first coordinate of a gathered element. -/
theorem coord_batch (b e : Fin 16) (c : Fin 256) (d : Fin 1024) :
    GatherDims.start gather_S16x2048x1024_S16x16x256x2_S16x16x256x1024_3_01_n_n_01_3_111024 (ix4 b e c d)
        (val_main_v22 (F := Ideal) i) (0 : Fin 3)
      + GatherDims.offCoord gather_S16x2048x1024_S16x16x256x2_S16x16x256x1024_3_01_n_n_01_3_111024 (ix4 b e c d)
        (0 : Fin 3) = b.val := by
  rw [GatherDims.offCoord_eq_zero _ _ _ (fun hk => ((GatherDims.mem_sKept _ _).mp hk).1 (by decide))]
  unfold GatherDims.start
  rw [dif_pos (by decide)]
  refine Eq.trans (congrArg (fun k => min (BitVec.toInt (val_main_v22 (F := Ideal) i k)).toNat 15 + 0)
    (word_place b e c d 0)) ?_
  simp only [batch_index, Nat.add_zero]
  revert b
  decide

/-- The second. -/
theorem coord_token (b e : Fin 16) (c : Fin 256) (d : Fin 1024) (hi : (i (ix3 b e c)).toNat < 2048) :
    GatherDims.start gather_S16x2048x1024_S16x16x256x2_S16x16x256x1024_3_01_n_n_01_3_111024 (ix4 b e c d)
        (val_main_v22 (F := Ideal) i) (1 : Fin 3)
      + GatherDims.offCoord gather_S16x2048x1024_S16x16x256x2_S16x16x256x1024_3_01_n_n_01_3_111024 (ix4 b e c d)
        (1 : Fin 3) = (i (ix3 b e c)).toNat := by
  rw [GatherDims.offCoord_eq_zero _ _ _ (fun hk => ((GatherDims.mem_sKept _ _).mp hk).1 (by decide))]
  unfold GatherDims.start
  rw [dif_pos (by decide)]
  refine Eq.trans (congrArg (fun k => min (BitVec.toInt (val_main_v22 (F := Ideal) i k)).toNat 2047 + 0)
    (word_place b e c d 1)) ?_
  simp only [token_index i b e c hi, Nat.add_zero]
  rw [BitVec.toInt_eq_toNat_of_lt (by omega), Int.toNat_natCast]
  omega

/-- The third. -/
theorem coord_channel (b e : Fin 16) (c : Fin 256) (d : Fin 1024) :
    GatherDims.start gather_S16x2048x1024_S16x16x256x2_S16x16x256x1024_3_01_n_n_01_3_111024 (ix4 b e c d)
        (val_main_v22 (F := Ideal) i) (2 : Fin 3)
      + GatherDims.offCoord gather_S16x2048x1024_S16x16x256x2_S16x16x256x1024_3_01_n_n_01_3_111024 (ix4 b e c d)
        (2 : Fin 3) = d.val := by
  unfold GatherDims.start
  rw [dif_neg (by decide), Nat.zero_add]
  rfl

/-- The element that a gathered element is taken from. -/
theorem source_place (b e : Fin 16) (c : Fin 256) (d : Fin 1024) (hi : (i (ix3 b e c)).toNat < 2048) :
    GatherDims.operandIdx gather_S16x2048x1024_S16x16x256x2_S16x16x256x1024_3_01_n_n_01_3_111024 (ix4 b e c d)
        (val_main_v22 (F := Ideal) i) = ix3 b (⟨(i (ix3 b e c)).toNat, hi⟩ : Fin 2048) d := by
  have hb : ∀ a : Fin 3, GatherDims.batchCoord
      gather_S16x2048x1024_S16x16x256x2_S16x16x256x1024_3_01_n_n_01_3_111024 (ix4 b e c d) a = 0 := fun a =>
    GatherDims.batchCoord_eq_zero _ _ _ List.not_mem_nil
  funext a
  refine Fin.ext ?_
  refine Eq.trans (congrArg (fun k => GatherDims.start
    gather_S16x2048x1024_S16x16x256x2_S16x16x256x1024_3_01_n_n_01_3_111024 (ix4 b e c d)
    (val_main_v22 (F := Ideal) i) a + k + GatherDims.offCoord
    gather_S16x2048x1024_S16x16x256x2_S16x16x256x1024_3_01_n_n_01_3_111024 (ix4 b e c d) a) (hb a)) ?_
  rw [Nat.add_zero]
  match a with
  | ⟨0, _⟩ => exact coord_batch i b e c d
  | ⟨1, _⟩ => exact coord_token i b e c d hi
  | ⟨2, _⟩ => exact coord_channel i b e c d

/-- One gathered element is the channel of the chosen token. -/
theorem gathered_apply (b e : Fin 16) (c : Fin 256) (d : Fin 1024) (hi : (i (ix3 b e c)).toNat < 2048) :
    val_main_v23 (F := Ideal) i h (ix4 b e c d)
      = channel (fun d => h (ix3 b (⟨(i (ix3 b e c)).toNat, hi⟩ : Fin 2048) d)) d := by
  rw [← channels_apply h b ⟨(i (ix3 b e c)).toNat, hi⟩ d]
  exact congrArg (val_main_v6 (F := Ideal) h) (source_place i b e c d hi)

variable (hi : ∀ b e c, (i (ix3 b e c)).toNat < 2048)

/-- The gate (or up) product of an element. -/
theorem gate_apply (w : FVec Ideal S16x1024x1024 .f32) (b e : Fin 16) (c : Fin 256) (f : Fin 1024) :
    val_main_v25 (F := Ideal) i h w (ix4 b e c f)
      = ∑ d : Fin 1024, channel (fun d => h (ix3 b (⟨(i (ix3 b e c)).toNat, hi b e c⟩ : Fin 2048) d)) d * w (ix3 e d f) := by
  rw [val_main_v25_apply, val_main_v24_apply]
  refine Finset.sum_congr rfl fun d _ => ?_
  rw [mul_comm]
  refine congrArg₂ (· * ·) ?_ (congrArg w ?_)
  · refine Eq.trans (congrArg _ ?_) (gathered_apply i h b e c d (hi b e c))
    funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl

/-- The up product is the gate product with the other weights. -/
theorem up_eq : val_main_v27 (F := Ideal) i h wu = val_main_v25 (F := Ideal) i h wu := rfl

/-- An exponential is not negative. -/
theorem exp_nonneg (a : EReal) : 0 ≤ Ideal.exp a := by
  induction a using EReal.rec with
  | bot => exact le_refl _
  | top => exact le_top
  | coe r => exact EReal.coe_nonneg.mpr (Real.exp_pos r).le

/-- A number times the reciprocal of one plus the exponential of its negation. -/
theorem silu_eq (a : EReal) : a * Ideal.div 1 (1 + Ideal.exp (-a)) = silu a := by
  have hpos : (0 : EReal) ≤ Ideal.exp (-a) := exp_nonneg _
  have hne : (1 : EReal) + Ideal.exp (-a) ≠ 0 :=
    ne_of_gt (lt_of_lt_of_le zero_lt_one (le_add_of_nonneg_right hpos))
  rw [Ideal.mul_one_div hne, silu, zero_sub]

/-- The gated product of an element. -/
theorem gated_apply (y : S16x16x256x1024.Idx) :
    val_main_v29 (F := Ideal) i h wg wu y
      = silu (val_main_v25 (F := Ideal) i h wg y) * val_main_v25 (F := Ideal) i h wu y := by
  rw [← silu_eq]
  pointwise [val_main_v29, val_main_v28, val_main_call0_v5, val_main_call0_v4, val_main_call0_v3, val_main_call0_v2,
    val_main_call0_v1, val_main_call0_v0, val_main_call0_cst, val_main_call0_cst_0]
  rfl

/-- One element of the result before its rows are regrouped. -/
theorem down_apply (b e : Fin 16) (c : Fin 256) (j : Fin 1024) :
    val_main_v32 (F := Ideal) i h wg wu wd (ix4 e b c j)
      = ffnAt (fun d => h (ix3 b (⟨(i (ix3 b e c)).toNat, hi b e c⟩ : Fin 2048) d)) (fun d f => wg (ix3 e d f))
          (fun d f => wu (ix3 e d f)) fun f => wd (ix3 e f j) := by
  rw [val_main_v32_apply, val_main_v31_apply, val_main_v30_apply, ffnAt]
  refine Finset.sum_congr rfl fun f _ => ?_
  rw [mul_comm, gated_apply, ← gate_apply i h hi wg, ← gate_apply i h hi wu]
  have e1 : ridx_main_v30 (idx_main_v31 (idx_main_v32 (ix4 e b c j))) f = ix4 b e c f := by
    funext a
    match a with
    | ⟨0, _⟩ => rfl
    | ⟨1, _⟩ => rfl
    | ⟨2, _⟩ => rfl
    | ⟨3, _⟩ => rfl
  have e2 : lidx_main_v30 (idx_main_v31 (idx_main_v32 (ix4 e b c j))) f = ix3 e f j := by
    funext a
    match a with
    | ⟨0, _⟩ => rfl
    | ⟨1, _⟩ => rfl
    | ⟨2, _⟩ => rfl
  rw [e1, e2]

end Cert.Proof.Reference2Ideal

end
-- ==== Proof.Ffn.Equation.lean ====
/-
  The kernel's feed-forward array is the reference's: row `s` of expert `e` is the feed-forward of the token that batch
  element `s / 256` chose at place `s % 256`.
-/
module

public import proofs.«01_k».proof.Proof.Ffn.Array
public import proofs.«01_k».proof.Proof.Ffn.Chosen
public import proofs.«01_k».proof.Proof.Ffn.Value
public import proofs.«01_k».proof.Proof.Ffn.Reference

@[expose] public section

set_option maxRecDepth 16384

noncomputable section

namespace Cert.Proof.Kernel2Ideal

open Cert.Kernel2Ideal Cert.Kernel2Ideal.Gen
open Idealize.ShloMosaic

variable (i : IVec S16x16x256 32) (h : IVec S16x2048x512 32) (wg wu wd : FVec Ideal S16x1024x1024 .f32)

/-- The item that row `s` of expert `e` belongs to, at its place. -/
theorem item_apply (e : Fin 16) (s : Fin 4096) :
    chosenAt (F := Ideal) (idxBlock (F := Ideal) (items i) (8 * e.val + s.val / 512)) (⟨s.val % 512, by omega⟩ : Fin 512)
      = i (ValueIdx.ix3 (⟨s.val / 256, by omega⟩ : Fin 16) e (⟨s.val % 256, by omega⟩ : Fin 256)) := by
  refine (items_apply i _ _ _).trans (congrArg i ?_)
  funext a
  refine Fin.ext ?_
  match a with
  | ⟨0, _⟩ =>
    show 2 * (min (8 * e.val + s.val / 512) 127 % 8) + s.val % 512 / 256 = s.val / 256
    omega
  | ⟨1, _⟩ =>
    show min (8 * e.val + s.val / 512) 127 / 8 = e.val
    omega
  | ⟨2, _⟩ =>
    show s.val % 512 % 256 = s.val % 256
    omega

/-- The packed channels that row `s` of expert `e` is computed from. -/
theorem token_apply (e : Fin 16) (s : Fin 4096) (d : Fin 512) (w : BitVec 32) (hw : w.toNat < 2048)
    (hi : i (ValueIdx.ix3 (⟨s.val / 256, by omega⟩ : Fin 16) e (⟨s.val % 256, by omega⟩ : Fin 256)) = w) :
    input (F := Ideal) (items i) h (8 * e.val + s.val / 512 + 1)
        (ValueIdx.ix3 (0 : Fin 1) (⟨s.val % 512, by omega⟩ : Fin 512) d)
      = h (ValueIdx.ix3 (⟨s.val / 256, by omega⟩ : Fin 16) (⟨w.toNat, hw⟩ : Fin 2048) d) := by
  unfold input
  rw [if_neg (by omega), Nat.add_sub_cancel]
  refine congrArg h ?_
  funext a
  refine Fin.ext ?_
  match a with
  | ⟨0, _⟩ =>
    show 2 * ((8 * e.val + s.val / 512) % 8) + s.val % 512 / 256 = s.val / 256
    omega
  | ⟨1, _⟩ =>
    refine (congrArg (fun v : BitVec 32 => v.toNat % 2048) ((item_apply i e s).trans hi)).trans ?_
    exact Nat.mod_eq_of_lt hw
  | ⟨2, _⟩ => rfl

/-- The weights of expert `e`. -/
theorem weights_apply (w : FVec Ideal S16x1024x1024 .f32) (e : Fin 16) (s : Fin 4096) (d f : Fin 1024) :
    wBlock (F := Ideal) w ((8 * e.val + s.val / 512 + 1 - 1) / 8) (ValueIdx.ix3 (0 : Fin 1) d f)
      = w (ValueIdx.ix3 e d f) := by
  refine congrArg w ?_
  funext a
  refine Fin.ext ?_
  match a with
  | ⟨0, _⟩ =>
    show (8 * e.val + s.val / 512 + 1 - 1) / 8 % 16 = e.val
    omega
  | ⟨1, _⟩ => rfl
  | ⟨2, _⟩ => rfl

/-- One element of the kernel's array. -/
theorem ffnOut_apply (e : Fin 16) (s : Fin 4096) (j : Fin 1024) (w : BitVec 32) (hw : w.toNat < 2048)
    (hi : i (ValueIdx.ix3 (⟨s.val / 256, by omega⟩ : Fin 16) e (⟨s.val % 256, by omega⟩ : Fin 256)) = w) :
    ffnOut (F := Ideal) (items i) h wg wu wd (ValueIdx.ix3 e s j)
      = ffnAt (fun d => h (ValueIdx.ix3 (⟨s.val / 256, by omega⟩ : Fin 16) (⟨w.toNat, hw⟩ : Fin 2048) d))
          (fun d f => wg (ValueIdx.ix3 e d f)) (fun d f => wu (ValueIdx.ix3 e d f)) fun f => wd (ValueIdx.ix3 e f j) := by
  refine (block_apply _ _ _ _ (⟨s.val % 512, by omega⟩ : Fin 512) j).trans ?_
  simp only [pay4_apply, pay5_apply, pay6_apply]
  congr 1
  · funext d
    exact token_apply i h e s d w hw hi
  · funext d f
    exact weights_apply wg e s d f
  · funext d f
    exact weights_apply wu e s d f
  · funext f
    exact weights_apply wd e s f j

/-- The kernel's array is the reference's result, where every chosen token is one of the 2048. -/
theorem ffnOut_eq (hi : ∀ y, (i y).toNat < 2048) :
    ffnOut (F := Ideal) (items i) h wg wu wd = Cert.Reference2Ideal.Read.val_main_v33 (F := Ideal) i h wg wu wd := by
  funext y
  have e0 : y = ValueIdx.ix3 (y 0 : Fin 16) (y 1 : Fin 4096) (y 2 : Fin 1024) := by
    funext a
    match a with
    | ⟨0, _⟩ => rfl
    | ⟨1, _⟩ => rfl
    | ⟨2, _⟩ => rfl
  have h0 : (y 0).val < 16 := (y 0).isLt
  have h1 : (y 1).val < 4096 := (y 1).isLt
  have h2 : (y 2).val < 1024 := (y 2).isLt
  rw [Cert.Reference2Ideal.Read.val_main_v33_apply]
  have e1 : Cert.Reference2Ideal.Read.idx_main_v33 y
      = ix4 (y 0 : Fin 16) (⟨(y 1).val / 256, by omega⟩ : Fin 16) (⟨(y 1).val % 256, by omega⟩ : Fin 256) (y 2 : Fin 1024) := by
    funext a
    refine Fin.ext ?_
    match a with
    | ⟨0, _⟩ =>
      show (((y 0).val * 4096 + (y 1).val) * 1024 + (y 2).val) / 4194304 = (y 0).val
      omega
    | ⟨1, _⟩ =>
      show (((y 0).val * 4096 + (y 1).val) * 1024 + (y 2).val) / 262144 % 16 = (y 1).val / 256
      omega
    | ⟨2, _⟩ =>
      show (((y 0).val * 4096 + (y 1).val) * 1024 + (y 2).val) / 1024 % 256 = (y 1).val % 256
      omega
    | ⟨3, _⟩ =>
      show (((y 0).val * 4096 + (y 1).val) * 1024 + (y 2).val) % 1024 = (y 2).val
      omega
  refine Eq.trans ?_ (congrArg (Cert.Reference2Ideal.Read.val_main_v32 (F := Ideal) i h wg wu wd) e1).symm
  refine Eq.trans ?_ (Cert.Proof.Reference2Ideal.down_apply i h wg wu wd (fun b e c => hi _) _ _ _ _).symm
  simp only [ix3_eq_valueIdx]
  refine (congrArg (ffnOut (F := Ideal) (items i) h wg wu wd) e0).trans ?_
  exact ffnOut_apply i h wg wu wd _ _ _ _ (hi _) rfl

end Cert.Proof.Kernel2Ideal

end
-- ==== Proof.lean ====
/-
  The claims about the attention and the experts' feed-forward of the layer, put together. Of each, both programs and
  the reference run and leave their arguments and semaphores as they were, and over the extended reals the kernel's
  result is the reference's: of the attention where the queries and the keys are real numbers, of the feed-forward
  where each chosen token is one of the 2048.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Loops
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_chosen
public import proofs.«01_k».proof.Proof.Equation
public import proofs.«01_k».proof.Proof.Finite
public import proofs.«01_k».proof.Proof.Frame.Same
public import proofs.«01_k».proof.Proof.Frame.Same2
public import proofs.«01_k».proof.Proof.Ffn.Equation
public import Idealize.ShloMosaic.Adequacy
public import Idealize.ShloMosaic.Init

@[expose] public section

noncomputable section

namespace Cert.Proof

open Idealize.ShloMosaic Idealize.ShloMosaic.TcCoe Idealize.SL.Sem

/-- The reference runs and leaves its arguments unchanged and its semaphores at zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1)
        ∧ r.2.mem ((c.tc : Thread ReferenceIdeal.nD ReferenceIdeal.τ).loc ReferenceIdeal.main_arg2)
            = m ((c.tc : Thread ReferenceIdeal.nD ReferenceIdeal.τ).loc ReferenceIdeal.main_arg2))
        ∧ r.2.sem = fun _ => 0) :=
  (θ_run _ _ _).mono (fun r h => ⟨fun c => (h c).2, sem_eq_zero_of_no_sems (by decide) r.2⟩)
    (ReferenceIdeal.Value.run (F := Ideal) m g)

/-- The feed-forward's reference runs and leaves its arguments unchanged and its semaphores at zero. -/
theorem reference2_frame (m : (ℓ : Loc Reference2Ideal.nD Reference2Ideal.τ Reference2Ideal.sig) → Buf (Elt Ideal) ℓ)
    (g : Dev Reference2Ideal.nD → PrngReg) :
    θ_run (Reference2Ideal.defs (F := Ideal)) (onTc (τ := Reference2Ideal.τ) (Reference2Ideal.main (F := Ideal)))
      ⟨m, fun _ => 0, g⟩ (fun r => (∀ c : Dev Reference2Ideal.nD,
        r.2.mem ((c.tc : Thread Reference2Ideal.nD Reference2Ideal.τ).loc Reference2Ideal.main_arg0)
            = m ((c.tc : Thread Reference2Ideal.nD Reference2Ideal.τ).loc Reference2Ideal.main_arg0)
        ∧ r.2.mem ((c.tc : Thread Reference2Ideal.nD Reference2Ideal.τ).loc Reference2Ideal.main_arg1)
            = m ((c.tc : Thread Reference2Ideal.nD Reference2Ideal.τ).loc Reference2Ideal.main_arg1)
        ∧ r.2.mem ((c.tc : Thread Reference2Ideal.nD Reference2Ideal.τ).loc Reference2Ideal.main_arg2)
            = m ((c.tc : Thread Reference2Ideal.nD Reference2Ideal.τ).loc Reference2Ideal.main_arg2)
        ∧ r.2.mem ((c.tc : Thread Reference2Ideal.nD Reference2Ideal.τ).loc Reference2Ideal.main_arg3)
            = m ((c.tc : Thread Reference2Ideal.nD Reference2Ideal.τ).loc Reference2Ideal.main_arg3)
        ∧ r.2.mem ((c.tc : Thread Reference2Ideal.nD Reference2Ideal.τ).loc Reference2Ideal.main_arg4)
            = m ((c.tc : Thread Reference2Ideal.nD Reference2Ideal.τ).loc Reference2Ideal.main_arg4))
        ∧ r.2.sem = fun _ => 0) :=
  (θ_run _ _ _).mono (fun r h => ⟨fun c => (h c).2, sem_eq_zero_of_no_sems (by decide) r.2⟩)
    (Reference2Ideal.Value.run (F := Ideal) m g)

/-- Kernel and reference of the attention end with the same result. -/
theorem algebraic : algebraic_KernelIdeal_ReferenceIdeal_pre_finite_qk := by
  intro m g m' g' hpre hargs
  refine ⟨_, KernelIdeal.run_value (F := Ideal) m g, ?_⟩
  refine (θ_run _ _ _).mono (fun r h c => ⟨(h c).1.trans ?_, (h c).2⟩) (ReferenceIdeal.Value.run (F := Ideal) m' g')
  obtain ⟨hq, hk⟩ := finite_qk _ _ _ (hpre c)
  choose qr hqr using hq
  choose kr hkr using hk
  rw [ReferenceIdeal.Read.val_main_v22_eq, (hargs c).1, (hargs c).2.1, (hargs c).2.2, KernelIdeal.V_q, KernelIdeal.V_k,
    KernelIdeal.V_v]
  exact (attnOut_eq _ qr kr hqr hkr).symm

/-- Kernel and reference of the feed-forward end with the same result. -/
theorem algebraic2 : algebraic_Kernel2Ideal_Reference2Ideal := by
  intro m g m' g' hpre hargs
  refine ⟨_, Kernel2Ideal.run_value (F := Ideal) m g (Kernel2Ideal.chosen_of m hpre), ?_⟩
  refine (θ_run _ _ _).mono (fun r h c => ⟨(h c).1.trans ?_, (h c).2⟩) (Reference2Ideal.Value.run (F := Ideal) m' g')
  obtain ⟨h0, h1, h2, h3, h4⟩ := hargs c
  rw [Reference2Ideal.Read.val_main_v33_eq, h0, h1, h2, h3, h4, Kernel2Ideal.ffnOutV, Kernel2Ideal.V_items,
    Kernel2Ideal.Gen.V_main_arg1, Kernel2Ideal.Gen.V_main_arg2, Kernel2Ideal.Gen.V_main_arg3, Kernel2Ideal.Gen.V_main_arg4]
  exact (Kernel2Ideal.ffnOut_eq _ _ _ _ _ (Kernel2Ideal.chosen_lt _ _ _ _ _ (hpre c))).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite_qk.Gen.facts, Cert.Pre_chosen.Gen.facts,
    fun m g _ => Cert.Proof.Kernel.frame (F := Bits) m g,
    fun m g _ => Cert.Proof.KernelIdeal.frame (F := Ideal) m g,
    fun m g _ => Cert.Proof.KernelIdeal.frame (F := Ideal) m g,
    fun m g _ => reference_frame m g,
    fun m g _ => reference_frame m g,
    fun m g h => Cert.Proof.Kernel2.frame (F := Bits) m g (Kernel2Ideal.chosen_of m h),
    fun m g h => Cert.Proof.Kernel2Ideal.frame (F := Ideal) m g (Kernel2Ideal.chosen_of m h),
    fun m g _ => reference2_frame m g,
    fun m g _ => reference2_frame m g,
    trivial,
    algebraic,
    trivial,
    algebraic2⟩

end Cert.Proof

end
